-- ==== Defs.lean ====
def Pre_KernelIdeal [hPre_names_column : Cert.Pre_names_column.Facts] (m : (ℓ : Loc Cert.KernelIdeal.nD Cert.KernelIdeal.τ Cert.KernelIdeal.sig) → Buf (Elt Ideal) ℓ) : Prop :=
  ∀ c : Dev Cert.KernelIdeal.nD,
    (Cert.Pre_names_column.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_zero_latents [hPre_zero_latents : Cert.Pre_zero_latents.Facts] (m : (ℓ : Loc Cert.KernelIdeal.nD Cert.KernelIdeal.τ Cert.KernelIdeal.sig) → Buf (Elt Ideal) ℓ) : Prop :=
  ∀ c : Dev Cert.KernelIdeal.nD,
    (Cert.Pre_zero_latents.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_zero_latents.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_zero_latents.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_zero_latents.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_latents [hPre_zero_latents : Cert.Pre_zero_latents.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_latents.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_zero_latents.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_zero_latents.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_zero_latents.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def quiescent_KernelIdeal [hKernelIdeal : Cert.KernelIdeal.Facts] [hPre_names_column : Cert.Pre_names_column.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_zero_latents [hKernelIdeal : Cert.KernelIdeal.Facts] [hPre_zero_latents : Cert.Pre_zero_latents.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_latents m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_zero_latents [hReferenceIdeal : Cert.ReferenceIdeal.Facts] [hPre_zero_latents : Cert.Pre_zero_latents.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_latents m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0))
      ∧ r.2.sem = fun _ => 0)

def algebraic_KernelIdeal_ReferenceIdeal_pre_zero_latents [hKernelIdeal : Cert.KernelIdeal.Facts] [hReferenceIdeal : Cert.ReferenceIdeal.Facts] [hPre_zero_latents : Cert.Pre_zero_latents.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_latents m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Sample_SampleIdeal : Prop :=
  True

def Claim : Prop :=
  ∃ (hKernelIdeal : Cert.KernelIdeal.Facts) (hReferenceIdeal : Cert.ReferenceIdeal.Facts) (hSample : Cert.Sample.Facts) (hSampleIdeal : Cert.SampleIdeal.Facts) (hPre_names_column : Cert.Pre_names_column.Facts) (hPre_zero_latents : Cert.Pre_zero_latents.Facts),
    quiescent_KernelIdeal (hKernelIdeal := hKernelIdeal) (hPre_names_column := hPre_names_column)
    ∧ quiescent_KernelIdeal_pre_zero_latents (hKernelIdeal := hKernelIdeal) (hPre_zero_latents := hPre_zero_latents)
    ∧ quiescent_ReferenceIdeal (hReferenceIdeal := hReferenceIdeal)
    ∧ quiescent_ReferenceIdeal_pre_zero_latents (hReferenceIdeal := hReferenceIdeal) (hPre_zero_latents := hPre_zero_latents)
    ∧ quiescent_Sample (hSample := hSample)
    ∧ quiescent_SampleIdeal (hSampleIdeal := hSampleIdeal)
    ∧ algebraic_KernelIdeal_ReferenceIdeal_pre_zero_latents (hKernelIdeal := hKernelIdeal) (hReferenceIdeal := hReferenceIdeal) (hPre_zero_latents := hPre_zero_latents)
    ∧ preserves_Sample_SampleIdeal
-- ==== Pre_names_column.lean ====
abbrev S64x32768 : Shape := ⟨2, ![64, 32768]⟩
abbrev S1048576x32 : Shape := ⟨2, ![1048576, 32]⟩
abbrev S_ : Shape := ⟨0, ![]⟩

class Facts : Prop where

variable [Facts]

def fn {F : FTy → Type} [FloatOps F] (main_arg0 : FVec F S64x32768 .f32) (main_arg1 : FVec F S1048576x32 .f32) (main_arg2 : FVec F S1048576x32 .f32) (main_arg3 : IVec S_ 32) : IVec S_ 1 :=
  let main_c : IVec S_ 32 := constantI S_ 32 0#32
  let main_v0 : IVec S_ 1 := cmpi .sge main_arg3 main_c
  let main_c_0 : IVec S_ 32 := constantI S_ 32 32#32
  let main_v1 : IVec S_ 1 := cmpi .slt main_arg3 main_c_0
  let main_v2 : IVec S_ 1 := andi main_v0 main_v1
  main_v2
-- ==== Pre_zero_latents.lean ====
abbrev S64x32768 : Shape := ⟨2, ![64, 32768]⟩
abbrev S1048576x32 : Shape := ⟨2, ![1048576, 32]⟩
abbrev S_ : Shape := ⟨0, ![]⟩

class Facts : Prop where
  bcast_S_S64x32768 : S_.BroadcastsInDim S64x32768 (![] : Fin 0 → Fin S64x32768.rank)
  bcast_S_S1048576x32 : S_.BroadcastsInDim S1048576x32 (![] : Fin 0 → Fin S1048576x32.rank)

variable [Facts]

def fn {F : FTy → Type} [FloatOps F] (main_arg0 : FVec F S64x32768 .f32) (main_arg1 : FVec F S1048576x32 .f32) (main_arg2 : FVec F S1048576x32 .f32) (main_arg3 : IVec S_ 32) : IVec S64x32768 1 × IVec S1048576x32 1 × IVec S1048576x32 1 × IVec S_ 1 :=
  let main_v0 : FVec F S64x32768 .f32 := Host.absf main_arg0
  let main_cst : FVec F S_ .f32 := constant S_ .f32 0x7F7FFFFF#32
  let main_v1 : FVec F S64x32768 .f32 := broadcastInDim S64x32768 ![] bcast_S_S64x32768 main_cst
  let main_v2 : IVec S64x32768 1 := cmpf .ole main_v0 main_v1
  let main_cst_0 : FVec F S_ .f32 := constant S_ .f32 0x7F800000#32
  let main_v3 : FVec F S64x32768 .f32 := broadcastInDim S64x32768 ![] bcast_S_S64x32768 main_cst_0
  let main_v4 : IVec S64x32768 1 := cmpf .oeq main_v0 main_v3
  let main_v5 : IVec S64x32768 1 := ori main_v2 main_v4
  let main_cst_1 : FVec F S_ .f32 := constant S_ .f32 0x00000000#32
  let main_v6 : FVec F S1048576x32 .f32 := broadcastInDim S1048576x32 ![] bcast_S_S1048576x32 main_cst_1
  let main_v7 : IVec S1048576x32 1 := cmpf .oeq main_arg1 main_v6
  let main_cst_2 : FVec F S_ .f32 := constant S_ .f32 0x00000000#32
  let main_v8 : FVec F S1048576x32 .f32 := broadcastInDim S1048576x32 ![] bcast_S_S1048576x32 main_cst_2
  let main_v9 : IVec S1048576x32 1 := cmpf .oeq main_arg2 main_v8
  let main_c : IVec S_ 32 := constantI S_ 32 0#32
  let main_v10 : IVec S_ 1 := cmpi .sge main_arg3 main_c
  let main_c_3 : IVec S_ 32 := constantI S_ 32 32#32
  let main_v11 : IVec S_ 1 := cmpi .slt main_arg3 main_c_3
  let main_v12 : IVec S_ 1 := andi main_v10 main_v11
  (main_v5, main_v7, main_v9, main_v12)
-- ==== KernelIdeal.lean ====
abbrev S64x32768 : Shape := ⟨2, ![64, 32768]⟩
abbrev S1048576x32 : Shape := ⟨2, ![1048576, 32]⟩
abbrev S_ : Shape := ⟨0, ![]⟩
abbrev S1x1 : Shape := ⟨2, ![1, 1]⟩
abbrev S64x1 : Shape := ⟨2, ![64, 1]⟩
abbrev S16x32768 : Shape := ⟨2, ![16, 32768]⟩
abbrev S16x1 : Shape := ⟨2, ![16, 1]⟩
abbrev S16 : Shape := ⟨1, ![16]⟩
abbrev S32x2097152 : Shape := ⟨2, ![32, 2097152]⟩
abbrev S8x262144 : Shape := ⟨2, ![8, 262144]⟩
abbrev S512x128 : Shape := ⟨2, ![512, 128]⟩
abbrev S8x128 : Shape := ⟨2, ![8, 128]⟩
abbrev S2097152x32 : Shape := ⟨2, ![2097152, 32]⟩

abbrev nBuf : Space → Nat
  | .hbm => 8
  | .vmem => 6
  | .smem => 2
  | _ => 0

abbrev bufTy : (tb : Table) → Fin (tcTables nBuf tb) → BufTy
  | .hbm, ⟨0, _⟩ => ⟨S64x32768, .f32⟩
  | .hbm, ⟨1, _⟩ => ⟨S1048576x32, .f32⟩
  | .hbm, ⟨2, _⟩ => ⟨S1048576x32, .f32⟩
  | .hbm, ⟨3, _⟩ => ⟨S_, .i32⟩
  | .hbm, ⟨4, _⟩ => ⟨S1x1, .i32⟩
  | .hbm, ⟨5, _⟩ => ⟨S64x1, .i32⟩
  | .hbm, ⟨6, _⟩ => ⟨S32x2097152, .f32⟩
  | .hbm, ⟨7, _⟩ => ⟨S2097152x32, .f32⟩
  | .local _ .vmem, ⟨0, _⟩ => ⟨S16x32768, .f32⟩
  | .local _ .vmem, ⟨1, _⟩ => ⟨S16x32768, .f32⟩
  | .local _ .vmem, ⟨2, _⟩ => ⟨S16x1, .i32⟩
  | .local _ .vmem, ⟨3, _⟩ => ⟨S16x1, .i32⟩
  | .local _ .vmem, ⟨4, _⟩ => ⟨S8x262144, .f32⟩
  | .local _ .vmem, ⟨5, _⟩ => ⟨S512x128, .f32⟩
  | .local _ .smem, ⟨0, _⟩ => ⟨S1x1, .i32⟩
  | .local _ .smem, ⟨1, _⟩ => ⟨S64x1, .i32⟩
  | _, _ => ⟨S64x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .tc := ⟨.vmem, 4, rfl⟩
abbrev cc1_scratch1 : Ref sig .tc := ⟨.vmem, 5, rfl⟩
abbrev cc1_stg0_0 : Ref sig .tc := ⟨.smem, 0, rfl⟩
abbrev cc1_stg1_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := .none

@[reducible] def k1_t1_loop : Scf.Loop 32 :=
  let c0_i32 : BitVec 32 := 0#32
  let c32_i32 : BitVec 32 := 32#32
  let v7 : BitVec 32 := Scalar.addi c0_i32 c32_i32
  let c1_i32 : BitVec 32 := 1#32
  ⟨c0_i32, v7, c1_i32⟩
def k1_off1 (k1_t1 : Fin k1_t1_loop.trips) : Fin 2 → Nat :=
  let c0_i32 : BitVec 32 := 0#32
  let c1_i32 : BitVec 32 := 1#32
  let arg7 : BitVec 32 := Scf.iv c0_i32 c1_i32 k1_t1
  let c3_i32_18 : BitVec 32 := 3#32
  let v14 : BitVec 32 := Scalar.shrui arg7 c3_i32_18
  let c8_i32_19 : BitVec 32 := 8#32
  let v15 : BitVec 32 := Scalar.muli v14 c8_i32_19
  let c7_i32 : BitVec 32 := 7#32
  let v16 : BitVec 32 := Scalar.andi arg7 c7_i32
  let c262144_i32 : BitVec 32 := 262144#32
  let v17 : BitVec 32 := Scalar.muli v16 c262144_i32
  ![v15.toNat, v17.toNat]
@[reducible] def k1_t2_loop : Scf.Loop 32 :=
  let c0_i32_4 : BitVec 32 := 0#32
  let c64_i32 : BitVec 32 := 64#32
  let v8 : BitVec 32 := Scalar.addi c0_i32_4 c64_i32
  let c1_i32_5 : BitVec 32 := 1#32
  ⟨c0_i32_4, v8, c1_i32_5⟩
def k1_off2 (k1_t2 : Fin k1_t2_loop.trips) : Fin 2 → Nat :=
  let c0_i32_4 : BitVec 32 := 0#32
  let c1_i32_5 : BitVec 32 := 1#32
  let arg7 : BitVec 32 := Scf.iv c0_i32_4 c1_i32_5 k1_t2
  let v14 : Index := Scalar.indexCast arg7
  let c0_18 : Index := 0#32
  ![v14.toNat, 0]
def k1_off3 (k1_t2 : Fin k1_t2_loop.trips) : Fin 2 → Nat :=
  let c0_i32_4 : BitVec 32 := 0#32
  let c1_i32_5 : BitVec 32 := 1#32
  let arg7 : BitVec 32 := Scf.iv c0_i32_4 c1_i32_5 k1_t2
  let c8_i32_19 : BitVec 32 := 8#32
  let v25 : BitVec 32 := Scalar.muli arg7 c8_i32_19
  let v26 : Index := Scalar.indexCast v25
  let c0_20 : Index := 0#32
  ![v26.toNat, 0]
@[reducible] def k1_t3_loop : Scf.Loop 32 :=
  let c0_i32_7 : BitVec 32 := 0#32
  let c32_i32_8 : BitVec 32 := 32#32
  let v9 : BitVec 32 := Scalar.addi c0_i32_7 c32_i32_8
  let c1_i32_9 : BitVec 32 := 1#32
  ⟨c0_i32_7, v9, c1_i32_9⟩
@[reducible] def k1_t4_loop : Scf.Loop 32 :=
  let c0_i32_10 : BitVec 32 := 0#32
  let c64_i32_11 : BitVec 32 := 64#32
  let v12 : BitVec 32 := Scalar.addi c0_i32_10 c64_i32_11
  let c1_i32_12 : BitVec 32 := 1#32
  ⟨c0_i32_10, v12, c1_i32_12⟩
def k1_off4 (k1_t4 : Fin k1_t4_loop.trips) : Fin 2 → Nat :=
  let c0_i32_10 : BitVec 32 := 0#32
  let c1_i32_12 : BitVec 32 := 1#32
  let arg7 : BitVec 32 := Scf.iv c0_i32_10 c1_i32_12 k1_t4
  let v14 : Index := Scalar.indexCast arg7
  let c0_18 : Index := 0#32
  ![v14.toNat, 0]
def k1_mult1 (v15 : BitVec 32) : BitVec 32 :=
  let c127_i32 : BitVec 32 := 127#32
  let v16 : BitVec 32 := Scalar.andi v15 c127_i32
  let v17 : BitVec 32 := Scalar.subi v15 v16
  v17

def k1_off5 (v4 : BitVec 32) (v15 : BitVec 32) : Fin 2 → Nat :=
  let c3_i32 : BitVec 32 := 3#32
  let v10 : BitVec 32 := Scalar.shrui v4 c3_i32
  let c8_i32 : BitVec 32 := 8#32
  let v11 : BitVec 32 := Scalar.muli v10 c8_i32
  let c127_i32 : BitVec 32 := 127#32
  let v16 : BitVec 32 := Scalar.andi v15 c127_i32
  let v17 : BitVec 32 := Scalar.subi v15 v16
  let v18 : BitVec 32 := v17
  ![v11.toNat, v18.toNat]

def k1_chk1 (v4 : BitVec 32) (v15 : BitVec 32) : Prop :=
  (128 ∣ (k1_mult1 v15).toNat) ∧
  (∀ a, (k1_off5 v4 v15) a + S8x128.size a ≤ S32x2097152.size a)
theorem k1_mult1_dvd : ∀ (v4 : BitVec 32) (v15 : BitVec 32) (k1_hw1 : k1_chk1 v4 v15), 128 ∣ (k1_mult1 v15).toNat := fun v4 v15 k1_hw1 => k1_hw1.1
theorem k1_off5_inb : ∀ (v4 : BitVec 32) (v15 : BitVec 32) (k1_hw1 : k1_chk1 v4 v15), ∀ a, (k1_off5 v4 v15) a + S8x128.size a ≤ S32x2097152.size a := fun v4 v15 k1_hw1 => k1_hw1.2

def k1_off6 (k1_t4 : Fin k1_t4_loop.trips) : Fin 2 → Nat :=
  let c0_i32_10 : BitVec 32 := 0#32
  let c1_i32_12 : BitVec 32 := 1#32
  let arg7 : BitVec 32 := Scf.iv c0_i32_10 c1_i32_12 k1_t4
  let c8_i32_19 : BitVec 32 := 8#32
  let v19 : BitVec 32 := Scalar.muli arg7 c8_i32_19
  let c0_i32_20 : BitVec 32 := 0#32
  ![v19.toNat, 0]
@[reducible] def k1_t5_loop : Scf.Loop 32 :=
  let c0_i32_14 : BitVec 32 := 0#32
  let c64_i32_15 : BitVec 32 := 64#32
  let v13 : BitVec 32 := Scalar.addi c0_i32_14 c64_i32_15
  let c1_i32_16 : BitVec 32 := 1#32
  ⟨c0_i32_14, v13, c1_i32_16⟩
def k1_off7 (k1_t5 : Fin k1_t5_loop.trips) : Fin 2 → Nat :=
  let c0_i32_14 : BitVec 32 := 0#32
  let c1_i32_16 : BitVec 32 := 1#32
  let arg7 : BitVec 32 := Scf.iv c0_i32_14 c1_i32_16 k1_t5
  let c8_i32_18 : BitVec 32 := 8#32
  let v14 : BitVec 32 := Scalar.muli arg7 c8_i32_18
  let c0_i32_21 : BitVec 32 := 0#32
  ![v14.toNat, 0]
abbrev stage1_0 : Fin 1 → Memref sig .tc .smem S1x1 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .smem S64x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== ReferenceIdeal.lean ====
abbrev S64x32768 : Shape := ⟨2, ![64, 32768]⟩
abbrev S1048576x32 : Shape := ⟨2, ![1048576, 32]⟩
abbrev S_ : Shape := ⟨0, ![]⟩
abbrev S1 : Shape := ⟨1, ![1]⟩
abbrev S2 : Shape := ⟨1, ![2]⟩
abbrev S1x1 : Shape := ⟨2, ![1, 1]⟩
abbrev S64 : Shape := ⟨1, ![64]⟩
abbrev S64x1 : Shape := ⟨2, ![64, 1]⟩
abbrev S64x2 : Shape := ⟨2, ![64, 2]⟩
abbrev S2097152x32 : Shape := ⟨2, ![2097152, 32]⟩

abbrev nBuf : Space → Nat
  | .hbm => 373
  | .vmem => 0
  | .smem => 0
  | _ => 0

abbrev hbmTy0_0 (i : Nat) : BufTy := match i % 128 with
  | 0 => ⟨S64x32768, .f32⟩
  | 1 => ⟨S1048576x32, .f32⟩
  | 2 => ⟨S1048576x32, .f32⟩
  | 3 => ⟨S_, .i32⟩
  | 4 => ⟨S64x32768, .i1⟩
  | 5 => ⟨S_, .f32⟩
  | 6 => ⟨S64x32768, .f32⟩
  | 7 => ⟨S64x32768, .f32⟩
  | 8 => ⟨S_, .f32⟩
  | 9 => ⟨S64x32768, .f32⟩
  | 10 => ⟨S64x32768, .i1⟩
  | 11 => ⟨S_, .f32⟩
  | 12 => ⟨S64x32768, .f32⟩
  | 13 => ⟨S64x32768, .f32⟩
  | 14 => ⟨S_, .f32⟩
  | 15 => ⟨S64x32768, .f32⟩
  | 16 => ⟨S64x32768, .i1⟩
  | 17 => ⟨S_, .f32⟩
  | 18 => ⟨S64x32768, .f32⟩
  | 19 => ⟨S64x32768, .f32⟩
  | 20 => ⟨S_, .i32⟩
  | 21 => ⟨S_, .i32⟩
  | 22 => ⟨S_, .i32⟩
  | 23 => ⟨S_, .i32⟩
  | 24 => ⟨S1, .i32⟩
  | 25 => ⟨S_, .i32⟩
  | 26 => ⟨S_, .i32⟩
  | 27 => ⟨S_, .i32⟩
  | 28 => ⟨S1, .i32⟩
  | 29 => ⟨S2, .i32⟩
  | 30 => ⟨S_, .f32⟩
  | 31 => ⟨S_, .f32⟩
  | 32 => ⟨S_, .f32⟩
  | 33 => ⟨S1x1, .f32⟩
  | 34 => ⟨S1x1, .f32⟩
  | 35 => ⟨S1, .i32⟩
  | 36 => ⟨S_, .i32⟩
  | 37 => ⟨S1, .i32⟩
  | 38 => ⟨S_, .i32⟩
  | 39 => ⟨S64x32768, .i64⟩
  | 40 => ⟨S64x32768, .i64⟩
  | 41 => ⟨S_, .i64⟩
  | 42 => ⟨S64x32768, .i64⟩
  | 43 => ⟨S64x32768, .i64⟩
  | 44 => ⟨S_, .i64⟩
  | 45 => ⟨S64x32768, .i64⟩
  | 46 => ⟨S64x32768, .i64⟩
  | 47 => ⟨S64x32768, .i64⟩
  | 48 => ⟨S_, .i64⟩
  | 49 => ⟨S64x32768, .i64⟩
  | 50 => ⟨S64x32768, .i64⟩
  | 51 => ⟨S64x32768, .i32⟩
  | 52 => ⟨S64x32768, .i32⟩
  | 53 => ⟨S_, .i32⟩
  | 54 => ⟨S_, .i32⟩
  | 55 => ⟨S_, .i32⟩
  | 56 => ⟨S64x32768, .i32⟩
  | 57 => ⟨S64x32768, .i32⟩
  | 58 => ⟨S64x32768, .i32⟩
  | 59 => ⟨S64x32768, .i32⟩
  | 60 => ⟨S64x32768, .i32⟩
  | 61 => ⟨S_, .i32⟩
  | 62 => ⟨S64x32768, .i32⟩
  | 63 => ⟨S64x32768, .i32⟩
  | 64 => ⟨S_, .i32⟩
  | 65 => ⟨S64x32768, .i32⟩
  | 66 => ⟨S64x32768, .i32⟩
  | 67 => ⟨S64x32768, .i32⟩
  | 68 => ⟨S64x32768, .i32⟩
  | 69 => ⟨S64x32768, .i32⟩
  | 70 => ⟨S_, .i32⟩
  | 71 => ⟨S64x32768, .i32⟩
  | 72 => ⟨S64x32768, .i32⟩
  | 73 => ⟨S_, .i32⟩
  | 74 => ⟨S64x32768, .i32⟩
  | 75 => ⟨S64x32768, .i32⟩
  | 76 => ⟨S64x32768, .i32⟩
  | 77 => ⟨S64x32768, .i32⟩
  | 78 => ⟨S64x32768, .i32⟩
  | 79 => ⟨S_, .i32⟩
  | 80 => ⟨S64x32768, .i32⟩
  | 81 => ⟨S64x32768, .i32⟩
  | 82 => ⟨S_, .i32⟩
  | 83 => ⟨S64x32768, .i32⟩
  | 84 => ⟨S64x32768, .i32⟩
  | 85 => ⟨S64x32768, .i32⟩
  | 86 => ⟨S64x32768, .i32⟩
  | 87 => ⟨S64x32768, .i32⟩
  | 88 => ⟨S_, .i32⟩
  | 89 => ⟨S64x32768, .i32⟩
  | 90 => ⟨S64x32768, .i32⟩
  | 91 => ⟨S_, .i32⟩
  | 92 => ⟨S64x32768, .i32⟩
  | 93 => ⟨S64x32768, .i32⟩
  | 94 => ⟨S64x32768, .i32⟩
  | 95 => ⟨S64x32768, .i32⟩
  | 96 => ⟨S64x32768, .i32⟩
  | 97 => ⟨S64x32768, .i32⟩
  | 98 => ⟨S64x32768, .i32⟩
  | 99 => ⟨S64x32768, .i32⟩
  | 100 => ⟨S_, .i32⟩
  | 101 => ⟨S64x32768, .i32⟩
  | 102 => ⟨S64x32768, .i32⟩
  | 103 => ⟨S64x32768, .i32⟩
  | 104 => ⟨S_, .i32⟩
  | 105 => ⟨S64x32768, .i32⟩
  | 106 => ⟨S64x32768, .i32⟩
  | 107 => ⟨S_, .i32⟩
  | 108 => ⟨S64x32768, .i32⟩
  | 109 => ⟨S64x32768, .i32⟩
  | 110 => ⟨S64x32768, .i32⟩
  | 111 => ⟨S64x32768, .i32⟩
  | 112 => ⟨S64x32768, .i32⟩
  | 113 => ⟨S_, .i32⟩
  | 114 => ⟨S64x32768, .i32⟩
  | 115 => ⟨S64x32768, .i32⟩
  | 116 => ⟨S_, .i32⟩
  | 117 => ⟨S64x32768, .i32⟩
  | 118 => ⟨S64x32768, .i32⟩
  | 119 => ⟨S64x32768, .i32⟩
  | 120 => ⟨S64x32768, .i32⟩
  | 121 => ⟨S64x32768, .i32⟩
  | 122 => ⟨S_, .i32⟩
  | 123 => ⟨S64x32768, .i32⟩
  | 124 => ⟨S64x32768, .i32⟩
  | 125 => ⟨S_, .i32⟩
  | 126 => ⟨S64x32768, .i32⟩
  | 127 => ⟨S64x32768, .i32⟩
  | _ => ⟨S64x32768, .f32⟩

abbrev hbmTy0_1 (i : Nat) : BufTy := match i % 128 with
  | 0 => ⟨S64x32768, .i32⟩
  | 1 => ⟨S64x32768, .i32⟩
  | 2 => ⟨S64x32768, .i32⟩
  | 3 => ⟨S_, .i32⟩
  | 4 => ⟨S64x32768, .i32⟩
  | 5 => ⟨S64x32768, .i32⟩
  | 6 => ⟨S_, .i32⟩
  | 7 => ⟨S64x32768, .i32⟩
  | 8 => ⟨S64x32768, .i32⟩
  | 9 => ⟨S64x32768, .i32⟩
  | 10 => ⟨S64x32768, .i32⟩
  | 11 => ⟨S64x32768, .i32⟩
  | 12 => ⟨S64x32768, .i32⟩
  | 13 => ⟨S64x32768, .i32⟩
  | 14 => ⟨S64x32768, .i32⟩
  | 15 => ⟨S_, .i32⟩
  | 16 => ⟨S64x32768, .i32⟩
  | 17 => ⟨S64x32768, .i32⟩
  | 18 => ⟨S64x32768, .i32⟩
  | 19 => ⟨S_, .i32⟩
  | 20 => ⟨S64x32768, .i32⟩
  | 21 => ⟨S64x32768, .i32⟩
  | 22 => ⟨S_, .i32⟩
  | 23 => ⟨S64x32768, .i32⟩
  | 24 => ⟨S64x32768, .i32⟩
  | 25 => ⟨S64x32768, .i32⟩
  | 26 => ⟨S64x32768, .i32⟩
  | 27 => ⟨S64x32768, .i32⟩
  | 28 => ⟨S_, .i32⟩
  | 29 => ⟨S64x32768, .i32⟩
  | 30 => ⟨S64x32768, .i32⟩
  | 31 => ⟨S_, .i32⟩
  | 32 => ⟨S64x32768, .i32⟩
  | 33 => ⟨S64x32768, .i32⟩
  | 34 => ⟨S64x32768, .i32⟩
  | 35 => ⟨S64x32768, .i32⟩
  | 36 => ⟨S64x32768, .i32⟩
  | 37 => ⟨S_, .i32⟩
  | 38 => ⟨S64x32768, .i32⟩
  | 39 => ⟨S64x32768, .i32⟩
  | 40 => ⟨S_, .i32⟩
  | 41 => ⟨S64x32768, .i32⟩
  | 42 => ⟨S64x32768, .i32⟩
  | 43 => ⟨S64x32768, .i32⟩
  | 44 => ⟨S64x32768, .i32⟩
  | 45 => ⟨S64x32768, .i32⟩
  | 46 => ⟨S_, .i32⟩
  | 47 => ⟨S64x32768, .i32⟩
  | 48 => ⟨S64x32768, .i32⟩
  | 49 => ⟨S_, .i32⟩
  | 50 => ⟨S64x32768, .i32⟩
  | 51 => ⟨S64x32768, .i32⟩
  | 52 => ⟨S64x32768, .i32⟩
  | 53 => ⟨S64x32768, .i32⟩
  | 54 => ⟨S64x32768, .i32⟩
  | 55 => ⟨S64x32768, .i32⟩
  | 56 => ⟨S64x32768, .i32⟩
  | 57 => ⟨S64x32768, .i32⟩
  | 58 => ⟨S_, .i32⟩
  | 59 => ⟨S64x32768, .i32⟩
  | 60 => ⟨S64x32768, .i32⟩
  | 61 => ⟨S64x32768, .i32⟩
  | 62 => ⟨S_, .i32⟩
  | 63 => ⟨S64x32768, .i32⟩
  | 64 => ⟨S64x32768, .i32⟩
  | 65 => ⟨S_, .i32⟩
  | 66 => ⟨S64x32768, .i32⟩
  | 67 => ⟨S64x32768, .i32⟩
  | 68 => ⟨S64x32768, .i32⟩
  | 69 => ⟨S64x32768, .i32⟩
  | 70 => ⟨S64x32768, .i32⟩
  | 71 => ⟨S_, .i32⟩
  | 72 => ⟨S64x32768, .i32⟩
  | 73 => ⟨S64x32768, .i32⟩
  | 74 => ⟨S_, .i32⟩
  | 75 => ⟨S64x32768, .i32⟩
  | 76 => ⟨S64x32768, .i32⟩
  | 77 => ⟨S64x32768, .i32⟩
  | 78 => ⟨S64x32768, .i32⟩
  | 79 => ⟨S64x32768, .i32⟩
  | 80 => ⟨S_, .i32⟩
  | 81 => ⟨S64x32768, .i32⟩
  | 82 => ⟨S64x32768, .i32⟩
  | 83 => ⟨S_, .i32⟩
  | 84 => ⟨S64x32768, .i32⟩
  | 85 => ⟨S64x32768, .i32⟩
  | 86 => ⟨S64x32768, .i32⟩
  | 87 => ⟨S64x32768, .i32⟩
  | 88 => ⟨S64x32768, .i32⟩
  | 89 => ⟨S_, .i32⟩
  | 90 => ⟨S64x32768, .i32⟩
  | 91 => ⟨S64x32768, .i32⟩
  | 92 => ⟨S_, .i32⟩
  | 93 => ⟨S64x32768, .i32⟩
  | 94 => ⟨S64x32768, .i32⟩
  | 95 => ⟨S64x32768, .i32⟩
  | 96 => ⟨S64x32768, .i32⟩
  | 97 => ⟨S64x32768, .i32⟩
  | 98 => ⟨S64x32768, .i32⟩
  | 99 => ⟨S64x32768, .i32⟩
  | 100 => ⟨S64x32768, .i32⟩
  | 101 => ⟨S_, .i32⟩
  | 102 => ⟨S64x32768, .i32⟩
  | 103 => ⟨S64x32768, .i32⟩
  | 104 => ⟨S64x32768, .i32⟩
  | 105 => ⟨S_, .i32⟩
  | 106 => ⟨S64x32768, .i32⟩
  | 107 => ⟨S64x32768, .i32⟩
  | 108 => ⟨S_, .i32⟩
  | 109 => ⟨S64x32768, .i32⟩
  | 110 => ⟨S64x32768, .i32⟩
  | 111 => ⟨S64x32768, .i32⟩
  | 112 => ⟨S64x32768, .i32⟩
  | 113 => ⟨S64x32768, .i32⟩
  | 114 => ⟨S_, .i32⟩
  | 115 => ⟨S64x32768, .i32⟩
  | 116 => ⟨S64x32768, .i32⟩
  | 117 => ⟨S_, .i32⟩
  | 118 => ⟨S64x32768, .i32⟩
  | 119 => ⟨S64x32768, .i32⟩
  | 120 => ⟨S64x32768, .i32⟩
  | 121 => ⟨S64x32768, .i32⟩
  | 122 => ⟨S64x32768, .i32⟩
  | 123 => ⟨S_, .i32⟩
  | 124 => ⟨S64x32768, .i32⟩
  | 125 => ⟨S64x32768, .i32⟩
  | 126 => ⟨S_, .i32⟩
  | 127 => ⟨S64x32768, .i32⟩
  | _ => ⟨S64x32768, .f32⟩

abbrev hbmTy0_2 (i : Nat) : BufTy := match i % 128 with
  | 0 => ⟨S64x32768, .i32⟩
  | 1 => ⟨S64x32768, .i32⟩
  | 2 => ⟨S64x32768, .i32⟩
  | 3 => ⟨S64x32768, .i32⟩
  | 4 => ⟨S_, .i32⟩
  | 5 => ⟨S64x32768, .i32⟩
  | 6 => ⟨S64x32768, .i32⟩
  | 7 => ⟨S_, .i32⟩
  | 8 => ⟨S64x32768, .i32⟩
  | 9 => ⟨S64x32768, .i32⟩
  | 10 => ⟨S64x32768, .i32⟩
  | 11 => ⟨S64x32768, .i32⟩
  | 12 => ⟨S64x32768, .i32⟩
  | 13 => ⟨S64x32768, .i32⟩
  | 14 => ⟨S64x32768, .i32⟩
  | 15 => ⟨S64x32768, .i32⟩
  | 16 => ⟨S_, .i32⟩
  | 17 => ⟨S64x32768, .i32⟩
  | 18 => ⟨S64x32768, .i32⟩
  | 19 => ⟨S64x32768, .i32⟩
  | 20 => ⟨S_, .i32⟩
  | 21 => ⟨S64x32768, .i32⟩
  | 22 => ⟨S64x32768, .i32⟩
  | 23 => ⟨S_, .i32⟩
  | 24 => ⟨S64x32768, .i32⟩
  | 25 => ⟨S64x32768, .i32⟩
  | 26 => ⟨S64x32768, .f32⟩
  | 27 => ⟨S_, .f32⟩
  | 28 => ⟨S64x32768, .f32⟩
  | 29 => ⟨S64x32768, .f32⟩
  | 30 => ⟨S1x1, .f32⟩
  | 31 => ⟨S64x32768, .f32⟩
  | 32 => ⟨S64x32768, .f32⟩
  | 33 => ⟨S64x32768, .f32⟩
  | 34 => ⟨S64x32768, .f32⟩
  | 35 => ⟨S64x32768, .f32⟩
  | 36 => ⟨S64x32768, .f32⟩
  | 37 => ⟨S64x32768, .f32⟩
  | 38 => ⟨S64x32768, .f32⟩
  | 39 => ⟨S64x32768, .f32⟩
  | 40 => ⟨S64x32768, .f32⟩
  | 41 => ⟨S64x32768, .f32⟩
  | 42 => ⟨S64x32768, .i32⟩
  | 43 => ⟨S_, .f32⟩
  | 44 => ⟨S_, .i32⟩
  | 45 => ⟨S64, .f32⟩
  | 46 => ⟨S64, .i32⟩
  | 47 => ⟨S_, .i32⟩
  | 48 => ⟨S64, .i32⟩
  | 49 => ⟨S64, .i1⟩
  | 50 => ⟨S64, .i32⟩
  | 51 => ⟨S_, .i32⟩
  | 52 => ⟨S64, .i32⟩
  | 53 => ⟨S64, .i32⟩
  | 54 => ⟨S_, .i32⟩
  | 55 => ⟨S_, .i32⟩
  | 56 => ⟨S_, .i32⟩
  | 57 => ⟨S64, .i32⟩
  | 58 => ⟨S64, .i32⟩
  | 59 => ⟨S_, .i32⟩
  | 60 => ⟨S64, .i32⟩
  | 61 => ⟨S64, .i32⟩
  | 62 => ⟨S64, .i32⟩
  | 63 => ⟨S64, .i32⟩
  | 64 => ⟨S_, .i32⟩
  | 65 => ⟨S64, .i32⟩
  | 66 => ⟨S64, .i32⟩
  | 67 => ⟨S_, .i32⟩
  | 68 => ⟨S64, .i32⟩
  | 69 => ⟨S64, .i32⟩
  | 70 => ⟨S_, .i32⟩
  | 71 => ⟨S_, .i32⟩
  | 72 => ⟨S_, .i32⟩
  | 73 => ⟨S64, .i32⟩
  | 74 => ⟨S64, .i32⟩
  | 75 => ⟨S_, .i32⟩
  | 76 => ⟨S64, .i32⟩
  | 77 => ⟨S64, .i32⟩
  | 78 => ⟨S64, .i32⟩
  | 79 => ⟨S64, .f32⟩
  | 80 => ⟨S_, .i32⟩
  | 81 => ⟨S64, .i32⟩
  | 82 => ⟨S64, .i1⟩
  | 83 => ⟨S_, .i32⟩
  | 84 => ⟨S64, .i32⟩
  | 85 => ⟨S64, .i32⟩
  | 86 => ⟨S64, .i32⟩
  | 87 => ⟨S_, .i32⟩
  | 88 => ⟨S_, .i1⟩
  | 89 => ⟨S_, .i32⟩
  | 90 => ⟨S_, .i32⟩
  | 91 => ⟨S_, .i32⟩
  | 92 => ⟨S64, .i32⟩
  | 93 => ⟨S64x1, .i32⟩
  | 94 => ⟨S64x1, .i32⟩
  | 95 => ⟨S64x2, .i32⟩
  | 96 => ⟨S1048576x32, .f32⟩
  | 97 => ⟨S64, .i1⟩
  | 98 => ⟨S64, .f32⟩
  | 99 => ⟨S_, .i32⟩
  | 100 => ⟨S64, .i32⟩
  | 101 => ⟨S64, .i1⟩
  | 102 => ⟨S_, .i32⟩
  | 103 => ⟨S64, .i32⟩
  | 104 => ⟨S64, .i32⟩
  | 105 => ⟨S64, .i32⟩
  | 106 => ⟨S_, .i32⟩
  | 107 => ⟨S_, .i1⟩
  | 108 => ⟨S_, .i32⟩
  | 109 => ⟨S_, .i32⟩
  | 110 => ⟨S_, .i32⟩
  | 111 => ⟨S64, .i32⟩
  | 112 => ⟨S64x1, .i32⟩
  | 113 => ⟨S64x1, .i32⟩
  | 114 => ⟨S64x2, .i32⟩
  | 115 => ⟨S1048576x32, .f32⟩
  | 116 => ⟨S2097152x32, .f32⟩
  | _ => ⟨S64x32768, .f32⟩

abbrev hbmTy (i : Nat) : BufTy := match i / 128 with
  | 0 => hbmTy0_0 i
  | 1 => hbmTy0_1 i
  | 2 => hbmTy0_2 i
  | _ => ⟨S64x32768, .f32⟩

abbrev bufTy : (tb : Table) → Fin (tcTables nBuf tb) → BufTy
  | .hbm, ⟨i, _⟩ => hbmTy i
  | _, _ => ⟨S64x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_call0_v0 : Ref sig .tc := ⟨.hbm, 6, rfl⟩
abbrev main_call0_v1 : Ref sig .tc := ⟨.hbm, 7, rfl⟩
abbrev main_call0_cst_0 : Ref sig .tc := ⟨.hbm, 8, rfl⟩
abbrev main_call0_v2 : Ref sig .tc := ⟨.hbm, 9, rfl⟩
abbrev main_call0_v3 : Ref sig .tc := ⟨.hbm, 10, rfl⟩
abbrev main_call0_cst_1 : Ref sig .tc := ⟨.hbm, 11, rfl⟩
abbrev main_call0_call1_v0 : Ref sig .tc := ⟨.hbm, 12, rfl⟩
abbrev main_call0_v4 : Ref sig .tc := ⟨.hbm, 13, rfl⟩
abbrev main_call0_cst_2 : Ref sig .tc := ⟨.hbm, 14, rfl⟩
abbrev main_call0_v5 : Ref sig .tc := ⟨.hbm, 15, rfl⟩
abbrev main_call0_v6 : Ref sig .tc := ⟨.hbm, 16, rfl⟩
abbrev main_call0_cst_3 : Ref sig .tc := ⟨.hbm, 17, rfl⟩
abbrev main_call0_call2_v0 : Ref sig .tc := ⟨.hbm, 18, rfl⟩
abbrev main_v0 : Ref sig .tc := ⟨.hbm, 19, rfl⟩
abbrev main_c : Ref sig .tc := ⟨.hbm, 20, rfl⟩
abbrev main_c_0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c_1 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_call1_cst : Ref sig .tc := ⟨.hbm, 30, rfl⟩
abbrev main_call1_cst_0 : Ref sig .tc := ⟨.hbm, 31, rfl⟩
abbrev main_call1_call0_v0 : Ref sig .tc := ⟨.hbm, 32, rfl⟩
abbrev main_call1_call0_v1 : Ref sig .tc := ⟨.hbm, 33, rfl⟩
abbrev main_call1_call0_v2 : Ref sig .tc := ⟨.hbm, 34, rfl⟩
abbrev main_call1_call0_v3 : Ref sig .tc := ⟨.hbm, 35, rfl⟩
abbrev main_call1_call0_v4 : Ref sig .tc := ⟨.hbm, 36, rfl⟩
abbrev main_call1_call0_v5 : Ref sig .tc := ⟨.hbm, 37, rfl⟩
abbrev main_call1_call0_v6 : Ref sig .tc := ⟨.hbm, 38, rfl⟩
abbrev main_call1_call0_v7 : Ref sig .tc := ⟨.hbm, 39, rfl⟩
abbrev main_call1_call0_v8 : Ref sig .tc := ⟨.hbm, 40, rfl⟩
abbrev main_call1_call0_c : Ref sig .tc := ⟨.hbm, 41, rfl⟩
abbrev main_call1_call0_v9 : Ref sig .tc := ⟨.hbm, 42, rfl⟩
abbrev main_call1_call0_v10 : Ref sig .tc := ⟨.hbm, 43, rfl⟩
abbrev main_call1_call0_c_0 : Ref sig .tc := ⟨.hbm, 44, rfl⟩
abbrev main_call1_call0_v11 : Ref sig .tc := ⟨.hbm, 45, rfl⟩
abbrev main_call1_call0_v12 : Ref sig .tc := ⟨.hbm, 46, rfl⟩
abbrev main_call1_call0_v13 : Ref sig .tc := ⟨.hbm, 47, rfl⟩
abbrev main_call1_call0_c_1 : Ref sig .tc := ⟨.hbm, 48, rfl⟩
abbrev main_call1_call0_v14 : Ref sig .tc := ⟨.hbm, 49, rfl⟩
abbrev main_call1_call0_v15 : Ref sig .tc := ⟨.hbm, 50, rfl⟩
abbrev main_call1_call0_v16 : Ref sig .tc := ⟨.hbm, 51, rfl⟩
abbrev main_call1_call0_v17 : Ref sig .tc := ⟨.hbm, 52, rfl⟩
abbrev main_call1_call0_call0_v0 : Ref sig .tc := ⟨.hbm, 53, rfl⟩
abbrev main_call1_call0_call0_c : Ref sig .tc := ⟨.hbm, 54, rfl⟩
abbrev main_call1_call0_call0_v1 : Ref sig .tc := ⟨.hbm, 55, rfl⟩
abbrev main_call1_call0_call0_v2 : Ref sig .tc := ⟨.hbm, 56, rfl⟩
abbrev main_call1_call0_call0_v3 : Ref sig .tc := ⟨.hbm, 57, rfl⟩
abbrev main_call1_call0_call0_v4 : Ref sig .tc := ⟨.hbm, 58, rfl⟩
abbrev main_call1_call0_call0_v5 : Ref sig .tc := ⟨.hbm, 59, rfl⟩
abbrev main_call1_call0_call0_v6 : Ref sig .tc := ⟨.hbm, 60, rfl⟩
abbrev main_call1_call0_call0_c_0 : Ref sig .tc := ⟨.hbm, 61, rfl⟩
abbrev main_call1_call0_call0_v7 : Ref sig .tc := ⟨.hbm, 62, rfl⟩
abbrev main_call1_call0_call0_v8 : Ref sig .tc := ⟨.hbm, 63, rfl⟩
abbrev main_call1_call0_call0_c_1 : Ref sig .tc := ⟨.hbm, 64, rfl⟩
abbrev main_call1_call0_call0_v9 : Ref sig .tc := ⟨.hbm, 65, rfl⟩
abbrev main_call1_call0_call0_v10 : Ref sig .tc := ⟨.hbm, 66, rfl⟩
abbrev main_call1_call0_call0_v11 : Ref sig .tc := ⟨.hbm, 67, rfl⟩
abbrev main_call1_call0_call0_v12 : Ref sig .tc := ⟨.hbm, 68, rfl⟩
abbrev main_call1_call0_call0_v13 : Ref sig .tc := ⟨.hbm, 69, rfl⟩
abbrev main_call1_call0_call0_c_2 : Ref sig .tc := ⟨.hbm, 70, rfl⟩
abbrev main_call1_call0_call0_v14 : Ref sig .tc := ⟨.hbm, 71, rfl⟩
abbrev main_call1_call0_call0_v15 : Ref sig .tc := ⟨.hbm, 72, rfl⟩
abbrev main_call1_call0_call0_c_3 : Ref sig .tc := ⟨.hbm, 73, rfl⟩
abbrev main_call1_call0_call0_v16 : Ref sig .tc := ⟨.hbm, 74, rfl⟩
abbrev main_call1_call0_call0_v17 : Ref sig .tc := ⟨.hbm, 75, rfl⟩
abbrev main_call1_call0_call0_v18 : Ref sig .tc := ⟨.hbm, 76, rfl⟩
abbrev main_call1_call0_call0_v19 : Ref sig .tc := ⟨.hbm, 77, rfl⟩
abbrev main_call1_call0_call0_v20 : Ref sig .tc := ⟨.hbm, 78, rfl⟩
abbrev main_call1_call0_call0_c_4 : Ref sig .tc := ⟨.hbm, 79, rfl⟩
abbrev main_call1_call0_call0_v21 : Ref sig .tc := ⟨.hbm, 80, rfl⟩
abbrev main_call1_call0_call0_v22 : Ref sig .tc := ⟨.hbm, 81, rfl⟩
abbrev main_call1_call0_call0_c_5 : Ref sig .tc := ⟨.hbm, 82, rfl⟩
abbrev main_call1_call0_call0_v23 : Ref sig .tc := ⟨.hbm, 83, rfl⟩
abbrev main_call1_call0_call0_v24 : Ref sig .tc := ⟨.hbm, 84, rfl⟩
abbrev main_call1_call0_call0_v25 : Ref sig .tc := ⟨.hbm, 85, rfl⟩
abbrev main_call1_call0_call0_v26 : Ref sig .tc := ⟨.hbm, 86, rfl⟩
abbrev main_call1_call0_call0_v27 : Ref sig .tc := ⟨.hbm, 87, rfl⟩
abbrev main_call1_call0_call0_c_6 : Ref sig .tc := ⟨.hbm, 88, rfl⟩
abbrev main_call1_call0_call0_v28 : Ref sig .tc := ⟨.hbm, 89, rfl⟩
abbrev main_call1_call0_call0_v29 : Ref sig .tc := ⟨.hbm, 90, rfl⟩
abbrev main_call1_call0_call0_c_7 : Ref sig .tc := ⟨.hbm, 91, rfl⟩
abbrev main_call1_call0_call0_v30 : Ref sig .tc := ⟨.hbm, 92, rfl⟩
abbrev main_call1_call0_call0_v31 : Ref sig .tc := ⟨.hbm, 93, rfl⟩
abbrev main_call1_call0_call0_v32 : Ref sig .tc := ⟨.hbm, 94, rfl⟩
abbrev main_call1_call0_call0_v33 : Ref sig .tc := ⟨.hbm, 95, rfl⟩
abbrev main_call1_call0_call0_v34 : Ref sig .tc := ⟨.hbm, 96, rfl⟩
abbrev main_call1_call0_call0_v35 : Ref sig .tc := ⟨.hbm, 97, rfl⟩
abbrev main_call1_call0_call0_v36 : Ref sig .tc := ⟨.hbm, 98, rfl⟩
abbrev main_call1_call0_call0_v37 : Ref sig .tc := ⟨.hbm, 99, rfl⟩
abbrev main_call1_call0_call0_c_8 : Ref sig .tc := ⟨.hbm, 100, rfl⟩
abbrev main_call1_call0_call0_v38 : Ref sig .tc := ⟨.hbm, 101, rfl⟩
abbrev main_call1_call0_call0_v39 : Ref sig .tc := ⟨.hbm, 102, rfl⟩
abbrev main_call1_call0_call0_v40 : Ref sig .tc := ⟨.hbm, 103, rfl⟩
abbrev main_call1_call0_call0_c_9 : Ref sig .tc := ⟨.hbm, 104, rfl⟩
abbrev main_call1_call0_call0_v41 : Ref sig .tc := ⟨.hbm, 105, rfl⟩
abbrev main_call1_call0_call0_v42 : Ref sig .tc := ⟨.hbm, 106, rfl⟩
abbrev main_call1_call0_call0_c_10 : Ref sig .tc := ⟨.hbm, 107, rfl⟩
abbrev main_call1_call0_call0_v43 : Ref sig .tc := ⟨.hbm, 108, rfl⟩
abbrev main_call1_call0_call0_v44 : Ref sig .tc := ⟨.hbm, 109, rfl⟩
abbrev main_call1_call0_call0_v45 : Ref sig .tc := ⟨.hbm, 110, rfl⟩
abbrev main_call1_call0_call0_v46 : Ref sig .tc := ⟨.hbm, 111, rfl⟩
abbrev main_call1_call0_call0_v47 : Ref sig .tc := ⟨.hbm, 112, rfl⟩
abbrev main_call1_call0_call0_c_11 : Ref sig .tc := ⟨.hbm, 113, rfl⟩
abbrev main_call1_call0_call0_v48 : Ref sig .tc := ⟨.hbm, 114, rfl⟩
abbrev main_call1_call0_call0_v49 : Ref sig .tc := ⟨.hbm, 115, rfl⟩
abbrev main_call1_call0_call0_c_12 : Ref sig .tc := ⟨.hbm, 116, rfl⟩
abbrev main_call1_call0_call0_v50 : Ref sig .tc := ⟨.hbm, 117, rfl⟩
abbrev main_call1_call0_call0_v51 : Ref sig .tc := ⟨.hbm, 118, rfl⟩
abbrev main_call1_call0_call0_v52 : Ref sig .tc := ⟨.hbm, 119, rfl⟩
abbrev main_call1_call0_call0_v53 : Ref sig .tc := ⟨.hbm, 120, rfl⟩
abbrev main_call1_call0_call0_v54 : Ref sig .tc := ⟨.hbm, 121, rfl⟩
abbrev main_call1_call0_call0_c_13 : Ref sig .tc := ⟨.hbm, 122, rfl⟩
abbrev main_call1_call0_call0_v55 : Ref sig .tc := ⟨.hbm, 123, rfl⟩
abbrev main_call1_call0_call0_v56 : Ref sig .tc := ⟨.hbm, 124, rfl⟩
abbrev main_call1_call0_call0_c_14 : Ref sig .tc := ⟨.hbm, 125, rfl⟩
abbrev main_call1_call0_call0_v57 : Ref sig .tc := ⟨.hbm, 126, rfl⟩
abbrev main_call1_call0_call0_v58 : Ref sig .tc := ⟨.hbm, 127, rfl⟩
abbrev main_call1_call0_call0_v59 : Ref sig .tc := ⟨.hbm, 128, rfl⟩
abbrev main_call1_call0_call0_v60 : Ref sig .tc := ⟨.hbm, 129, rfl⟩
abbrev main_call1_call0_call0_v61 : Ref sig .tc := ⟨.hbm, 130, rfl⟩
abbrev main_call1_call0_call0_c_15 : Ref sig .tc := ⟨.hbm, 131, rfl⟩
abbrev main_call1_call0_call0_v62 : Ref sig .tc := ⟨.hbm, 132, rfl⟩
abbrev main_call1_call0_call0_v63 : Ref sig .tc := ⟨.hbm, 133, rfl⟩
abbrev main_call1_call0_call0_c_16 : Ref sig .tc := ⟨.hbm, 134, rfl⟩
abbrev main_call1_call0_call0_v64 : Ref sig .tc := ⟨.hbm, 135, rfl⟩
abbrev main_call1_call0_call0_v65 : Ref sig .tc := ⟨.hbm, 136, rfl⟩
abbrev main_call1_call0_call0_v66 : Ref sig .tc := ⟨.hbm, 137, rfl⟩
abbrev main_call1_call0_call0_v67 : Ref sig .tc := ⟨.hbm, 138, rfl⟩
abbrev main_call1_call0_call0_v68 : Ref sig .tc := ⟨.hbm, 139, rfl⟩
abbrev main_call1_call0_call0_v69 : Ref sig .tc := ⟨.hbm, 140, rfl⟩
abbrev main_call1_call0_call0_v70 : Ref sig .tc := ⟨.hbm, 141, rfl⟩
abbrev main_call1_call0_call0_v71 : Ref sig .tc := ⟨.hbm, 142, rfl⟩
abbrev main_call1_call0_call0_c_17 : Ref sig .tc := ⟨.hbm, 143, rfl⟩
abbrev main_call1_call0_call0_v72 : Ref sig .tc := ⟨.hbm, 144, rfl⟩
abbrev main_call1_call0_call0_v73 : Ref sig .tc := ⟨.hbm, 145, rfl⟩
abbrev main_call1_call0_call0_v74 : Ref sig .tc := ⟨.hbm, 146, rfl⟩
abbrev main_call1_call0_call0_c_18 : Ref sig .tc := ⟨.hbm, 147, rfl⟩
abbrev main_call1_call0_call0_v75 : Ref sig .tc := ⟨.hbm, 148, rfl⟩
abbrev main_call1_call0_call0_v76 : Ref sig .tc := ⟨.hbm, 149, rfl⟩
abbrev main_call1_call0_call0_c_19 : Ref sig .tc := ⟨.hbm, 150, rfl⟩
abbrev main_call1_call0_call0_v77 : Ref sig .tc := ⟨.hbm, 151, rfl⟩
abbrev main_call1_call0_call0_v78 : Ref sig .tc := ⟨.hbm, 152, rfl⟩
abbrev main_call1_call0_call0_v79 : Ref sig .tc := ⟨.hbm, 153, rfl⟩
abbrev main_call1_call0_call0_v80 : Ref sig .tc := ⟨.hbm, 154, rfl⟩
abbrev main_call1_call0_call0_v81 : Ref sig .tc := ⟨.hbm, 155, rfl⟩
abbrev main_call1_call0_call0_c_20 : Ref sig .tc := ⟨.hbm, 156, rfl⟩
abbrev main_call1_call0_call0_v82 : Ref sig .tc := ⟨.hbm, 157, rfl⟩
abbrev main_call1_call0_call0_v83 : Ref sig .tc := ⟨.hbm, 158, rfl⟩
abbrev main_call1_call0_call0_c_21 : Ref sig .tc := ⟨.hbm, 159, rfl⟩
abbrev main_call1_call0_call0_v84 : Ref sig .tc := ⟨.hbm, 160, rfl⟩
abbrev main_call1_call0_call0_v85 : Ref sig .tc := ⟨.hbm, 161, rfl⟩
abbrev main_call1_call0_call0_v86 : Ref sig .tc := ⟨.hbm, 162, rfl⟩
abbrev main_call1_call0_call0_v87 : Ref sig .tc := ⟨.hbm, 163, rfl⟩
abbrev main_call1_call0_call0_v88 : Ref sig .tc := ⟨.hbm, 164, rfl⟩
abbrev main_call1_call0_call0_c_22 : Ref sig .tc := ⟨.hbm, 165, rfl⟩
abbrev main_call1_call0_call0_v89 : Ref sig .tc := ⟨.hbm, 166, rfl⟩
abbrev main_call1_call0_call0_v90 : Ref sig .tc := ⟨.hbm, 167, rfl⟩
abbrev main_call1_call0_call0_c_23 : Ref sig .tc := ⟨.hbm, 168, rfl⟩
abbrev main_call1_call0_call0_v91 : Ref sig .tc := ⟨.hbm, 169, rfl⟩
abbrev main_call1_call0_call0_v92 : Ref sig .tc := ⟨.hbm, 170, rfl⟩
abbrev main_call1_call0_call0_v93 : Ref sig .tc := ⟨.hbm, 171, rfl⟩
abbrev main_call1_call0_call0_v94 : Ref sig .tc := ⟨.hbm, 172, rfl⟩
abbrev main_call1_call0_call0_v95 : Ref sig .tc := ⟨.hbm, 173, rfl⟩
abbrev main_call1_call0_call0_c_24 : Ref sig .tc := ⟨.hbm, 174, rfl⟩
abbrev main_call1_call0_call0_v96 : Ref sig .tc := ⟨.hbm, 175, rfl⟩
abbrev main_call1_call0_call0_v97 : Ref sig .tc := ⟨.hbm, 176, rfl⟩
abbrev main_call1_call0_call0_c_25 : Ref sig .tc := ⟨.hbm, 177, rfl⟩
abbrev main_call1_call0_call0_v98 : Ref sig .tc := ⟨.hbm, 178, rfl⟩
abbrev main_call1_call0_call0_v99 : Ref sig .tc := ⟨.hbm, 179, rfl⟩
abbrev main_call1_call0_call0_v100 : Ref sig .tc := ⟨.hbm, 180, rfl⟩
abbrev main_call1_call0_call0_v101 : Ref sig .tc := ⟨.hbm, 181, rfl⟩
abbrev main_call1_call0_call0_v102 : Ref sig .tc := ⟨.hbm, 182, rfl⟩
abbrev main_call1_call0_call0_v103 : Ref sig .tc := ⟨.hbm, 183, rfl⟩
abbrev main_call1_call0_call0_v104 : Ref sig .tc := ⟨.hbm, 184, rfl⟩
abbrev main_call1_call0_call0_v105 : Ref sig .tc := ⟨.hbm, 185, rfl⟩
abbrev main_call1_call0_call0_c_26 : Ref sig .tc := ⟨.hbm, 186, rfl⟩
abbrev main_call1_call0_call0_v106 : Ref sig .tc := ⟨.hbm, 187, rfl⟩
abbrev main_call1_call0_call0_v107 : Ref sig .tc := ⟨.hbm, 188, rfl⟩
abbrev main_call1_call0_call0_v108 : Ref sig .tc := ⟨.hbm, 189, rfl⟩
abbrev main_call1_call0_call0_c_27 : Ref sig .tc := ⟨.hbm, 190, rfl⟩
abbrev main_call1_call0_call0_v109 : Ref sig .tc := ⟨.hbm, 191, rfl⟩
abbrev main_call1_call0_call0_v110 : Ref sig .tc := ⟨.hbm, 192, rfl⟩
abbrev main_call1_call0_call0_c_28 : Ref sig .tc := ⟨.hbm, 193, rfl⟩
abbrev main_call1_call0_call0_v111 : Ref sig .tc := ⟨.hbm, 194, rfl⟩
abbrev main_call1_call0_call0_v112 : Ref sig .tc := ⟨.hbm, 195, rfl⟩
abbrev main_call1_call0_call0_v113 : Ref sig .tc := ⟨.hbm, 196, rfl⟩
abbrev main_call1_call0_call0_v114 : Ref sig .tc := ⟨.hbm, 197, rfl⟩
abbrev main_call1_call0_call0_v115 : Ref sig .tc := ⟨.hbm, 198, rfl⟩
abbrev main_call1_call0_call0_c_29 : Ref sig .tc := ⟨.hbm, 199, rfl⟩
abbrev main_call1_call0_call0_v116 : Ref sig .tc := ⟨.hbm, 200, rfl⟩
abbrev main_call1_call0_call0_v117 : Ref sig .tc := ⟨.hbm, 201, rfl⟩
abbrev main_call1_call0_call0_c_30 : Ref sig .tc := ⟨.hbm, 202, rfl⟩
abbrev main_call1_call0_call0_v118 : Ref sig .tc := ⟨.hbm, 203, rfl⟩
abbrev main_call1_call0_call0_v119 : Ref sig .tc := ⟨.hbm, 204, rfl⟩
abbrev main_call1_call0_call0_v120 : Ref sig .tc := ⟨.hbm, 205, rfl⟩
abbrev main_call1_call0_call0_v121 : Ref sig .tc := ⟨.hbm, 206, rfl⟩
abbrev main_call1_call0_call0_v122 : Ref sig .tc := ⟨.hbm, 207, rfl⟩
abbrev main_call1_call0_call0_c_31 : Ref sig .tc := ⟨.hbm, 208, rfl⟩
abbrev main_call1_call0_call0_v123 : Ref sig .tc := ⟨.hbm, 209, rfl⟩
abbrev main_call1_call0_call0_v124 : Ref sig .tc := ⟨.hbm, 210, rfl⟩
abbrev main_call1_call0_call0_c_32 : Ref sig .tc := ⟨.hbm, 211, rfl⟩
abbrev main_call1_call0_call0_v125 : Ref sig .tc := ⟨.hbm, 212, rfl⟩
abbrev main_call1_call0_call0_v126 : Ref sig .tc := ⟨.hbm, 213, rfl⟩
abbrev main_call1_call0_call0_v127 : Ref sig .tc := ⟨.hbm, 214, rfl⟩
abbrev main_call1_call0_call0_v128 : Ref sig .tc := ⟨.hbm, 215, rfl⟩
abbrev main_call1_call0_call0_v129 : Ref sig .tc := ⟨.hbm, 216, rfl⟩
abbrev main_call1_call0_call0_c_33 : Ref sig .tc := ⟨.hbm, 217, rfl⟩
abbrev main_call1_call0_call0_v130 : Ref sig .tc := ⟨.hbm, 218, rfl⟩
abbrev main_call1_call0_call0_v131 : Ref sig .tc := ⟨.hbm, 219, rfl⟩
abbrev main_call1_call0_call0_c_34 : Ref sig .tc := ⟨.hbm, 220, rfl⟩
abbrev main_call1_call0_call0_v132 : Ref sig .tc := ⟨.hbm, 221, rfl⟩
abbrev main_call1_call0_call0_v133 : Ref sig .tc := ⟨.hbm, 222, rfl⟩
abbrev main_call1_call0_call0_v134 : Ref sig .tc := ⟨.hbm, 223, rfl⟩
abbrev main_call1_call0_call0_v135 : Ref sig .tc := ⟨.hbm, 224, rfl⟩
abbrev main_call1_call0_call0_v136 : Ref sig .tc := ⟨.hbm, 225, rfl⟩
abbrev main_call1_call0_call0_v137 : Ref sig .tc := ⟨.hbm, 226, rfl⟩
abbrev main_call1_call0_call0_v138 : Ref sig .tc := ⟨.hbm, 227, rfl⟩
abbrev main_call1_call0_call0_v139 : Ref sig .tc := ⟨.hbm, 228, rfl⟩
abbrev main_call1_call0_call0_c_35 : Ref sig .tc := ⟨.hbm, 229, rfl⟩
abbrev main_call1_call0_call0_v140 : Ref sig .tc := ⟨.hbm, 230, rfl⟩
abbrev main_call1_call0_call0_v141 : Ref sig .tc := ⟨.hbm, 231, rfl⟩
abbrev main_call1_call0_call0_v142 : Ref sig .tc := ⟨.hbm, 232, rfl⟩
abbrev main_call1_call0_call0_c_36 : Ref sig .tc := ⟨.hbm, 233, rfl⟩
abbrev main_call1_call0_call0_v143 : Ref sig .tc := ⟨.hbm, 234, rfl⟩
abbrev main_call1_call0_call0_v144 : Ref sig .tc := ⟨.hbm, 235, rfl⟩
abbrev main_call1_call0_call0_c_37 : Ref sig .tc := ⟨.hbm, 236, rfl⟩
abbrev main_call1_call0_call0_v145 : Ref sig .tc := ⟨.hbm, 237, rfl⟩
abbrev main_call1_call0_call0_v146 : Ref sig .tc := ⟨.hbm, 238, rfl⟩
abbrev main_call1_call0_call0_v147 : Ref sig .tc := ⟨.hbm, 239, rfl⟩
abbrev main_call1_call0_call0_v148 : Ref sig .tc := ⟨.hbm, 240, rfl⟩
abbrev main_call1_call0_call0_v149 : Ref sig .tc := ⟨.hbm, 241, rfl⟩
abbrev main_call1_call0_call0_c_38 : Ref sig .tc := ⟨.hbm, 242, rfl⟩
abbrev main_call1_call0_call0_v150 : Ref sig .tc := ⟨.hbm, 243, rfl⟩
abbrev main_call1_call0_call0_v151 : Ref sig .tc := ⟨.hbm, 244, rfl⟩
abbrev main_call1_call0_call0_c_39 : Ref sig .tc := ⟨.hbm, 245, rfl⟩
abbrev main_call1_call0_call0_v152 : Ref sig .tc := ⟨.hbm, 246, rfl⟩
abbrev main_call1_call0_call0_v153 : Ref sig .tc := ⟨.hbm, 247, rfl⟩
abbrev main_call1_call0_call0_v154 : Ref sig .tc := ⟨.hbm, 248, rfl⟩
abbrev main_call1_call0_call0_v155 : Ref sig .tc := ⟨.hbm, 249, rfl⟩
abbrev main_call1_call0_call0_v156 : Ref sig .tc := ⟨.hbm, 250, rfl⟩
abbrev main_call1_call0_call0_c_40 : Ref sig .tc := ⟨.hbm, 251, rfl⟩
abbrev main_call1_call0_call0_v157 : Ref sig .tc := ⟨.hbm, 252, rfl⟩
abbrev main_call1_call0_call0_v158 : Ref sig .tc := ⟨.hbm, 253, rfl⟩
abbrev main_call1_call0_call0_c_41 : Ref sig .tc := ⟨.hbm, 254, rfl⟩
abbrev main_call1_call0_call0_v159 : Ref sig .tc := ⟨.hbm, 255, rfl⟩
abbrev main_call1_call0_call0_v160 : Ref sig .tc := ⟨.hbm, 256, rfl⟩
abbrev main_call1_call0_call0_v161 : Ref sig .tc := ⟨.hbm, 257, rfl⟩
abbrev main_call1_call0_call0_v162 : Ref sig .tc := ⟨.hbm, 258, rfl⟩
abbrev main_call1_call0_call0_v163 : Ref sig .tc := ⟨.hbm, 259, rfl⟩
abbrev main_call1_call0_call0_c_42 : Ref sig .tc := ⟨.hbm, 260, rfl⟩
abbrev main_call1_call0_call0_v164 : Ref sig .tc := ⟨.hbm, 261, rfl⟩
abbrev main_call1_call0_call0_v165 : Ref sig .tc := ⟨.hbm, 262, rfl⟩
abbrev main_call1_call0_call0_c_43 : Ref sig .tc := ⟨.hbm, 263, rfl⟩
abbrev main_call1_call0_call0_v166 : Ref sig .tc := ⟨.hbm, 264, rfl⟩
abbrev main_call1_call0_call0_v167 : Ref sig .tc := ⟨.hbm, 265, rfl⟩
abbrev main_call1_call0_call0_v168 : Ref sig .tc := ⟨.hbm, 266, rfl⟩
abbrev main_call1_call0_call0_v169 : Ref sig .tc := ⟨.hbm, 267, rfl⟩
abbrev main_call1_call0_call0_v170 : Ref sig .tc := ⟨.hbm, 268, rfl⟩
abbrev main_call1_call0_v18_0 : Ref sig .tc := ⟨.hbm, 269, rfl⟩
abbrev main_call1_call0_call0_v172 : Ref sig .tc := ⟨.hbm, 270, rfl⟩
abbrev main_call1_call0_call0_v173 : Ref sig .tc := ⟨.hbm, 271, rfl⟩
abbrev main_call1_call0_call0_c_44 : Ref sig .tc := ⟨.hbm, 272, rfl⟩
abbrev main_call1_call0_call0_v174 : Ref sig .tc := ⟨.hbm, 273, rfl⟩
abbrev main_call1_call0_v18_1 : Ref sig .tc := ⟨.hbm, 274, rfl⟩
abbrev main_call1_call0_v19 : Ref sig .tc := ⟨.hbm, 275, rfl⟩
abbrev main_call1_call0_c_2 : Ref sig .tc := ⟨.hbm, 276, rfl⟩
abbrev main_call1_call0_v20 : Ref sig .tc := ⟨.hbm, 277, rfl⟩
abbrev main_call1_call0_v21 : Ref sig .tc := ⟨.hbm, 278, rfl⟩
abbrev main_call1_call0_c_3 : Ref sig .tc := ⟨.hbm, 279, rfl⟩
abbrev main_call1_call0_v22 : Ref sig .tc := ⟨.hbm, 280, rfl⟩
abbrev main_call1_call0_v23 : Ref sig .tc := ⟨.hbm, 281, rfl⟩
abbrev main_call1_call0_v24 : Ref sig .tc := ⟨.hbm, 282, rfl⟩
abbrev main_call1_call0_cst : Ref sig .tc := ⟨.hbm, 283, rfl⟩
abbrev main_call1_call0_v25 : Ref sig .tc := ⟨.hbm, 284, rfl⟩
abbrev main_call1_call0_v26 : Ref sig .tc := ⟨.hbm, 285, rfl⟩
abbrev main_call1_call0_v27 : Ref sig .tc := ⟨.hbm, 286, rfl⟩
abbrev main_call1_call0_v28 : Ref sig .tc := ⟨.hbm, 287, rfl⟩
abbrev main_call1_call0_v29 : Ref sig .tc := ⟨.hbm, 288, rfl⟩
abbrev main_call1_call0_v30 : Ref sig .tc := ⟨.hbm, 289, rfl⟩
abbrev main_call1_call0_v31 : Ref sig .tc := ⟨.hbm, 290, rfl⟩
abbrev main_call1_call0_v32 : Ref sig .tc := ⟨.hbm, 291, rfl⟩
abbrev main_call1_v0 : Ref sig .tc := ⟨.hbm, 292, rfl⟩
abbrev main_call1_v1 : Ref sig .tc := ⟨.hbm, 293, rfl⟩
abbrev main_call1_v2 : Ref sig .tc := ⟨.hbm, 294, rfl⟩
abbrev main_call1_v3 : Ref sig .tc := ⟨.hbm, 295, rfl⟩
abbrev main_v8 : Ref sig .tc := ⟨.hbm, 296, rfl⟩
abbrev main_v9 : Ref sig .tc := ⟨.hbm, 297, rfl⟩
abbrev main_call2_v0 : Ref sig .tc := ⟨.hbm, 298, rfl⟩
abbrev main_call2_cst : Ref sig .tc := ⟨.hbm, 299, rfl⟩
abbrev main_call2_c : Ref sig .tc := ⟨.hbm, 300, rfl⟩
abbrev main_call2_v1_0 : Ref sig .tc := ⟨.hbm, 301, rfl⟩
abbrev main_v10 : Ref sig .tc := ⟨.hbm, 302, rfl⟩
abbrev main_c_2 : Ref sig .tc := ⟨.hbm, 303, rfl⟩
abbrev main_v11 : Ref sig .tc := ⟨.hbm, 304, rfl⟩
abbrev main_v12 : Ref sig .tc := ⟨.hbm, 305, rfl⟩
abbrev main_v13 : Ref sig .tc := ⟨.hbm, 306, rfl⟩
abbrev main_c_3 : Ref sig .tc := ⟨.hbm, 307, rfl⟩
abbrev main_v14 : Ref sig .tc := ⟨.hbm, 308, rfl⟩
abbrev main_v15 : Ref sig .tc := ⟨.hbm, 309, rfl⟩
abbrev main_c_4 : Ref sig .tc := ⟨.hbm, 310, rfl⟩
abbrev main_c_5 : Ref sig .tc := ⟨.hbm, 311, rfl⟩
abbrev main_call3_v0 : Ref sig .tc := ⟨.hbm, 312, rfl⟩
abbrev main_call3_v1 : Ref sig .tc := ⟨.hbm, 313, rfl⟩
abbrev main_call3_v2 : Ref sig .tc := ⟨.hbm, 314, rfl⟩
abbrev main_call3_v3 : Ref sig .tc := ⟨.hbm, 315, rfl⟩
abbrev main_call3_v4 : Ref sig .tc := ⟨.hbm, 316, rfl⟩
abbrev main_v16 : Ref sig .tc := ⟨.hbm, 317, rfl⟩
abbrev main_v17 : Ref sig .tc := ⟨.hbm, 318, rfl⟩
abbrev main_v18 : Ref sig .tc := ⟨.hbm, 319, rfl⟩
abbrev main_c_6 : Ref sig .tc := ⟨.hbm, 320, rfl⟩
abbrev main_v19 : Ref sig .tc := ⟨.hbm, 321, rfl⟩
abbrev main_v20 : Ref sig .tc := ⟨.hbm, 322, rfl⟩
abbrev main_c_7 : Ref sig .tc := ⟨.hbm, 323, rfl⟩
abbrev main_v21 : Ref sig .tc := ⟨.hbm, 324, rfl⟩
abbrev main_v22 : Ref sig .tc := ⟨.hbm, 325, rfl⟩
abbrev main_c_8 : Ref sig .tc := ⟨.hbm, 326, rfl⟩
abbrev main_c_9 : Ref sig .tc := ⟨.hbm, 327, rfl⟩
abbrev main_call4_v0 : Ref sig .tc := ⟨.hbm, 328, rfl⟩
abbrev main_call4_v1 : Ref sig .tc := ⟨.hbm, 329, rfl⟩
abbrev main_call4_v2 : Ref sig .tc := ⟨.hbm, 330, rfl⟩
abbrev main_call4_v3 : Ref sig .tc := ⟨.hbm, 331, rfl⟩
abbrev main_call4_v4 : Ref sig .tc := ⟨.hbm, 332, rfl⟩
abbrev main_v23 : Ref sig .tc := ⟨.hbm, 333, rfl⟩
abbrev main_v24 : Ref sig .tc := ⟨.hbm, 334, rfl⟩
abbrev main_v25 : Ref sig .tc := ⟨.hbm, 335, rfl⟩
abbrev main_c_10 : Ref sig .tc := ⟨.hbm, 336, rfl⟩
abbrev main_v26 : Ref sig .tc := ⟨.hbm, 337, rfl⟩
abbrev main_v27 : Ref sig .tc := ⟨.hbm, 338, rfl⟩
abbrev main_c_11 : Ref sig .tc := ⟨.hbm, 339, rfl⟩
abbrev main_v28 : Ref sig .tc := ⟨.hbm, 340, rfl⟩
abbrev main_v29 : Ref sig .tc := ⟨.hbm, 341, rfl⟩
abbrev main_v30 : Ref sig .tc := ⟨.hbm, 342, rfl⟩
abbrev main_c_12 : Ref sig .tc := ⟨.hbm, 343, rfl⟩
abbrev main_v31 : Ref sig .tc := ⟨.hbm, 344, rfl⟩
abbrev main_c_13 : Ref sig .tc := ⟨.hbm, 345, rfl⟩
abbrev main_v32 : Ref sig .tc := ⟨.hbm, 346, rfl⟩
abbrev main_v33 : Ref sig .tc := ⟨.hbm, 347, rfl⟩
abbrev main_v34 : Ref sig .tc := ⟨.hbm, 348, rfl⟩
abbrev main_v35 : Ref sig .tc := ⟨.hbm, 349, rfl⟩
abbrev main_v36 : Ref sig .tc := ⟨.hbm, 350, rfl⟩
abbrev main_v37 : Ref sig .tc := ⟨.hbm, 351, rfl⟩
abbrev main_v38 : Ref sig .tc := ⟨.hbm, 352, rfl⟩
abbrev main_v39 : Ref sig .tc := ⟨.hbm, 353, rfl⟩
abbrev main_v40 : Ref sig .tc := ⟨.hbm, 354, rfl⟩
abbrev main_c_14 : Ref sig .tc := ⟨.hbm, 355, rfl⟩
abbrev main_v41 : Ref sig .tc := ⟨.hbm, 356, rfl⟩
abbrev main_v42 : Ref sig .tc := ⟨.hbm, 357, rfl⟩
abbrev main_c_15 : Ref sig .tc := ⟨.hbm, 358, rfl⟩
abbrev main_v43 : Ref sig .tc := ⟨.hbm, 359, rfl⟩
abbrev main_v44 : Ref sig .tc := ⟨.hbm, 360, rfl⟩
abbrev main_v45 : Ref sig .tc := ⟨.hbm, 361, rfl⟩
abbrev main_c_16 : Ref sig .tc := ⟨.hbm, 362, rfl⟩
abbrev main_v46 : Ref sig .tc := ⟨.hbm, 363, rfl⟩
abbrev main_c_17 : Ref sig .tc := ⟨.hbm, 364, rfl⟩
abbrev main_v47 : Ref sig .tc := ⟨.hbm, 365, rfl⟩
abbrev main_v48 : Ref sig .tc := ⟨.hbm, 366, rfl⟩
abbrev main_v49 : Ref sig .tc := ⟨.hbm, 367, rfl⟩
abbrev main_v50 : Ref sig .tc := ⟨.hbm, 368, rfl⟩
abbrev main_v51 : Ref sig .tc := ⟨.hbm, 369, rfl⟩
abbrev main_v52 : Ref sig .tc := ⟨.hbm, 370, rfl⟩
abbrev main_v53 : Ref sig .tc := ⟨.hbm, 371, rfl⟩
abbrev main_v54 : Ref sig .tc := ⟨.hbm, 372, rfl⟩

abbrev nD : Nat := 1
abbrev τ : Topo := Topo.v7x

variable {F : FTy → Type} [FloatOps F]
-- ==== Sample.lean ====
abbrev S64x32768 : Shape := ⟨2, ![64, 32768]⟩
abbrev S64x1 : Shape := ⟨2, ![64, 1]⟩
abbrev S16x32768 : Shape := ⟨2, ![16, 32768]⟩
abbrev S16x1 : Shape := ⟨2, ![16, 1]⟩
abbrev S16 : Shape := ⟨1, ![16]⟩

abbrev nBuf : Space → Nat
  | .hbm => 2
  | .vmem => 4
  | .smem => 0
  | _ => 0

abbrev bufTy : (tb : Table) → Fin (tcTables nBuf tb) → BufTy
  | .hbm, ⟨0, _⟩ => ⟨S64x32768, .f32⟩
  | .hbm, ⟨1, _⟩ => ⟨S64x1, .i32⟩
  | .local _ .vmem, ⟨0, _⟩ => ⟨S16x32768, .f32⟩
  | .local _ .vmem, ⟨1, _⟩ => ⟨S16x32768, .f32⟩
  | .local _ .vmem, ⟨2, _⟩ => ⟨S16x1, .i32⟩
  | .local _ .vmem, ⟨3, _⟩ => ⟨S16x1, .i32⟩
  | _, _ => ⟨S64x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Proof.ScatterSets.lean ====
/-
  The second kernel region's pieces of the result: the 32 tiles the fill writes, the 64 windows the
  scatter writes, the 64 slices of the one-hot buffer, and what each holds at the end.
-/
module

public import proofs.«01_k».proof.Proof.Gen.KernelIdeal.Launch
public import proofs.«01_k».proof.Proof.Gen.KernelIdeal.Loops
public import proofs.«01_k».proof.Proof.Gen.KernelIdeal.Points
public import Idealize.ShloMosaic.Lib.Tactic
public import Idealize.ShloMosaic.Lib.Batch
public import Idealize.ShloMosaic.Lib.Ring

@[expose] public section

noncomputable section

namespace Cert.KernelIdeal.Scatter

open Cert.KernelIdeal Cert.KernelIdeal.Gen
open Idealize.ShloMosaic Idealize.ShloMosaic.TcCoe

variable {F : FTy → Type} [FloatOps F]

/-! ## Loop lengths and offsets in closed form -/

theorem trips1 : k1_t1_loop.trips = 32 := by decide +kernel
theorem trips2 : k1_t2_loop.trips = 64 := by decide +kernel
theorem trips3 : k1_t3_loop.trips = 32 := by decide +kernel
theorem trips4 : k1_t4_loop.trips = 64 := by decide +kernel
theorem trips5 : k1_t5_loop.trips = 64 := by decide +kernel

theorem off1_eq : ∀ k : Fin k1_t1_loop.trips, k1_off1 k = ![8 * (k.val / 8), 262144 * (k.val % 8)] := by decide +kernel
theorem off4_eq : ∀ k : Fin k1_t4_loop.trips, k1_off4 k = ![k.val, 0] := by decide +kernel
theorem off6_eq : ∀ k : Fin k1_t4_loop.trips, k1_off6 k = ![8 * k.val, 0] := by decide +kernel

/-- Taking off the low seven bits of a word rounds it down to a multiple of 128. -/
theorem sub_low (r : BitVec 32) : (Scalar.subi r (Scalar.andi r 127#32)).toNat = 128 * (r.toNat / 128) := by
  have h : (Scalar.andi r 127#32 : BitVec 32).toNat = r.toNat % 128 := by
    show (r &&& 127#32).toNat = _
    rw [BitVec.toNat_and, show (127#32 : BitVec 32).toNat = 2 ^ 7 - 1 from rfl, Nat.and_two_pow_sub_one_eq_mod]
  show (r - Scalar.andi r 127#32 : BitVec 32).toNat = _
  rw [BitVec.toNat_sub, h]
  have := r.isLt
  omega

/-- Dividing a small word by eight and multiplying back rounds it down to a multiple of 8. -/
theorem round8 (d : BitVec 32) : (Scalar.muli (Scalar.shrui d 3#32) 8#32).toNat = 8 * (d.toNat / 8) := by
  have h : (Scalar.shrui d 3#32 : BitVec 32).toNat = d.toNat / 8 := by
    show (if _ then _ else _ : BitVec 32).toNat = _
    simp [Nat.shiftRight_eq_div_pow]
  show (Scalar.shrui d 3#32 * 8#32 : BitVec 32).toNat = _
  rw [BitVec.toNat_mul, h]
  have := d.isLt
  simp only [BitVec.toNat_ofNat]
  omega

theorem off5_eq (d r : BitVec 32) : k1_off5 d r = ![8 * (d.toNat / 8), 128 * (r.toNat / 128)] := by
  unfold k1_off5
  dsimp only
  rw [sub_low, round8]

/-- The side condition of a scatter: the column is one of 32 and the row one of 2097152. -/
theorem chk (d r : BitVec 32) (hd : d.toNat < 32) (hr : r.toNat < 2097152) : k1_chk1 d r := by
  refine ⟨?_, ?_⟩
  · unfold k1_mult1; dsimp only; rw [sub_low]; exact Nat.dvd_mul_right _ _
  · rw [off5_eq]
    intro a
    fin_cases a
    · show 8 * (d.toNat / 8) + 8 ≤ 32; omega
    · show 128 * (r.toNat / 128) + 128 ≤ 2097152; omega

/-! ## Indices -/

/-- The element of an 8 by 128 tile at a row and a column. -/
def at8 (a b : ℕ) (ha : a < 8) (hb : b < 128) : S8x128.Idx
  | ⟨0, _⟩ => ⟨a, ha⟩
  | ⟨1, _⟩ => ⟨b, hb⟩

/-- The element of the column of sampled rows at position `i`. -/
def at64 (i : ℕ) (hi : i < 64) : S64x1.Idx
  | ⟨0, _⟩ => ⟨i, hi⟩
  | ⟨1, _⟩ => ⟨0, Nat.one_pos⟩

/-! ## The sets -/

/-- The elements of the result in tile `k` of the fill. -/
def tileSet (k : Fin 32) : Finset S32x2097152.Idx :=
  Finset.univ.filter fun y => (y 0).val / 8 = k.val / 8 ∧ (y 1).val / 262144 = k.val % 8

theorem mem_tileSet (k : Fin 32) (y : S32x2097152.Idx) : y ∈ tileSet k ↔ (y 0).val / 8 = k.val / 8 ∧ (y 1).val / 262144 = k.val % 8 := by
  simp [tileSet]

/-- The elements of the result in the window holding column `d` of row `r`. -/
def winSet (d r : BitVec 32) : Finset S32x2097152.Idx :=
  Finset.univ.filter fun y => (y 0).val / 8 = d.toNat / 8 ∧ (y 1).val / 128 = r.toNat / 128

theorem mem_winSet (d r : BitVec 32) (y : S32x2097152.Idx) : y ∈ winSet d r ↔ (y 0).val / 8 = d.toNat / 8 ∧ (y 1).val / 128 = r.toNat / 128 := by
  simp [winSet]

/-- The elements of the one-hot buffer in slice `k`. -/
def hotSet (k : Fin 64) : Finset S512x128.Idx := Finset.univ.filter fun y => (y 0).val / 8 = k.val

theorem mem_hotSet (k : Fin 64) (y : S512x128.Idx) : y ∈ hotSet k ↔ (y 0).val / 8 = k.val := by
  simp [hotSet]

theorem tile_disjoint : ∀ k k' : Fin 32, k ≠ k' → Disjoint (tileSet k) (tileSet k') := fun k k' hne => by
  rw [Finset.disjoint_left]; intro y hy hy'; rw [mem_tileSet] at hy hy'; exact hne (Fin.ext (by omega))

theorem tile_cover : Finset.univ.biUnion tileSet = Finset.univ := by
  ext y
  simp only [Finset.mem_biUnion, Finset.mem_univ, true_and, iff_true]
  have h0 : (y 0).val < 32 := (y 0).isLt
  have h1 : (y 1).val < 2097152 := (y 1).isLt
  exact ⟨⟨8 * ((y 0).val / 8) + (y 1).val / 262144, by omega⟩, (mem_tileSet _ _).mpr ⟨by dsimp only; omega, by dsimp only; omega⟩⟩

theorem hot_disjoint : ∀ k k' : Fin 64, k ≠ k' → Disjoint (hotSet k) (hotSet k') := fun k k' hne => by
  rw [Finset.disjoint_left]; intro y hy hy'; rw [mem_hotSet] at hy hy'; exact hne (Fin.ext (by omega))

theorem hot_cover : Finset.univ.biUnion hotSet = Finset.univ := by
  ext y
  simp only [Finset.mem_biUnion, Finset.mem_univ, true_and, iff_true]
  have h0 : (y 0).val < 512 := (y 0).isLt
  exact ⟨⟨(y 0).val / 8, by omega⟩, (mem_hotSet _ _).mpr rfl⟩

/-- Each sampled row lies in its own batch member's block of one of the two halves of the result. -/
def RowsOk (rows : S64x1.Idx → BitVec 32) : Prop :=
  ∀ (i : ℕ) (hi : i < 64), (rows (at64 i hi)).toNat < 2097152 ∧ (rows (at64 i hi)).toNat / 16384 % 64 = i

theorem win_disjoint (d : BitVec 32) (rows : S64x1.Idx → BitVec 32) (h : RowsOk rows) :
    ∀ k k' : Fin 64, k ≠ k' → Disjoint (winSet d (rows (at64 k k.2))) (winSet d (rows (at64 k' k'.2))) := fun k k' hne => by
  rw [Finset.disjoint_left]; intro y hy hy'; rw [mem_winSet] at hy hy'
  have e1 := h k k.2; have e2 := h k' k'.2
  exact hne (Fin.ext (by omega))

/-! ## The contents -/

/-- What the one-hot buffer holds: slice `k` the tile with a one at column `d`'s and row `rows k`'s place. -/
def hot (d : BitVec 32) (rows : S64x1.Idx → BitVec 32) : S512x128.Idx → F .f32 := fun y =>
  k1_pay2 (F := F) d (rows (at64 ((y 0).val / 8) (by have h : (y 0).val < 512 := (y 0).isLt; omega)))
    (at8 ((y 0).val % 8) (y 1).val (Nat.mod_lt _ (by decide)) (y 1).isLt)

/-- What the result holds: in the window of a batch member's sampled row its one-hot tile, zero elsewhere. -/
def filled (d : BitVec 32) (rows : S64x1.Idx → BitVec 32) : S32x2097152.Idx → F .f32 := fun y =>
  if (y 0).val / 8 = d.toNat / 8 ∧ (y 1).val / 128 = (rows (at64 ((y 1).val / 16384 % 64) (Nat.mod_lt _ (by decide)))).toNat / 128 then
    k1_pay2 (F := F) d (rows (at64 ((y 1).val / 16384 % 64) (Nat.mod_lt _ (by decide))))
      (at8 ((y 0).val % 8) ((y 1).val % 128) (Nat.mod_lt _ (by decide)) (Nat.mod_lt _ (by decide)))
  else Scalar.ofBits .f32 0x00000000#32

/-- In batch member `k`'s window the result holds that member's tile. -/
theorem filled_win (d : BitVec 32) (rows : S64x1.Idx → BitVec 32) (h : RowsOk rows) (k : Fin 64) (y : S32x2097152.Idx)
    (hy : y ∈ winSet d (rows (at64 k k.2))) :
    filled (F := F) d rows y = k1_pay2 (F := F) d (rows (at64 k k.2)) (at8 ((y 0).val % 8) ((y 1).val % 128) (Nat.mod_lt _ (by decide)) (Nat.mod_lt _ (by decide))) := by
  rw [mem_winSet] at hy
  have e := h k k.2
  have hk : (y 1).val / 16384 % 64 = k.val := by omega
  have hat : at64 ((y 1).val / 16384 % 64) (Nat.mod_lt _ (by decide)) = at64 k k.2 := by congr
  unfold filled
  rw [hat, if_pos hy]

/-- Outside every window the result holds zero. -/
theorem filled_off (d : BitVec 32) (rows : S64x1.Idx → BitVec 32) (y : S32x2097152.Idx)
    (hy : ∀ k : Fin 64, y ∉ winSet d (rows (at64 k k.2))) : filled (F := F) d rows y = Scalar.ofBits .f32 0x00000000#32 := by
  unfold filled
  rw [if_neg]
  intro hc
  exact hy ⟨(y 1).val / 16384 % 64, Nat.mod_lt _ (by decide)⟩ ((mem_winSet _ _ _).mpr hc)

end Cert.KernelIdeal.Scatter

end
-- ==== Proof.Fill.lean ====
/-
  The fill of the second kernel region: 32 transfers of the zero block into the 32 tiles of the result,
  issued by the first loop and waited for by the third.
-/
module

public import proofs.«01_k».proof.Proof.ScatterSets

@[expose] public section

noncomputable section

namespace Cert.KernelIdeal.Scatter

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The user algebra: the pipelines' rounds beside the counters of the batches of transfers. -/
abbrev UU : Type := UR sig nD τ × Counters

local notation "𝕄" => MT nD τ sig Unit (Elt F) ℕ UU ℕ

/-- The counters inside the resource algebra. -/
abbrev EC : UEmb Counters 𝕄 := countersEmb (U := UU)

/-- The result's buffer, the zero block, the one-hot buffer, the column and the sampled rows as the body sees them. -/
abbrev OUT : Memref sig .tc .hbm S32x2097152 .f32 := Memref.whole main_v2
abbrev ZB : Memref sig .tc .vmem S8x262144 .f32 := Memref.whole cc1_scratch0
abbrev OH : Memref sig .tc .vmem S512x128 .f32 := Memref.whole cc1_scratch1
abbrev COL : Memref sig .tc .smem S1x1 .i32 := stage1_0 0
abbrev ROW : Memref sig .tc .smem S64x1 .i32 := stage1_1 0

/-- The semaphores of the fill and of the scatter. -/
abbrev semFill : DmaSem sig := cc1_scratch2.sem
abbrev semScat : DmaSem sig := cc1_scratch3.sem

/-- Tile `k` of the result. -/
def tile (k : Fin k1_t1_loop.trips) : Memref sig .tc .hbm S8x262144 .f32 :=
  OUT.slice (Rect.unit (s := S32x2097152) (k1_off1 k) S8x262144.size (k1_off1_inb k)) (fun _ => rfl)
/-- The zero block as the transfers name it. -/
def zsrc : Memref sig .tc .vmem S8x262144 .f32 :=
  ZB.slice (Rect.unit (s := S8x262144) ![0, 0] S8x262144.size inb_S8x262144_S8x262144_0_0) (fun _ => rfl)

theorem lt1 (k : Fin k1_t1_loop.trips) : k.val < 32 := Nat.lt_of_lt_of_eq k.isLt trips1
theorem lt3 (k : Fin k1_t3_loop.trips) : k.val < 32 := Nat.lt_of_lt_of_eq k.isLt trips3

/-- A return bound to a continuation is the continuation at the value. -/
theorem ret_then {E : Type → Type} {α β : Type} (a : α) (k : α → Prog E β) : (Prog.ret a).bind k = k a := rfl

theorem tile_set (k : Fin k1_t1_loop.trips) : (tile k).view.set = tileSet ⟨k.val, lt1 k⟩ := by
  show ((View.whole main_v2).slice (Rect.unit (s := S32x2097152) (k1_off1 k) S8x262144.size (k1_off1_inb k))).set = _
  rw [View.set_slice_whole]
  ext y
  rw [Rect.mem_set_unit, mem_tileSet, off1_eq]
  have hk : k.val < 32 := lt1 k
  constructor
  · intro h
    have h0 := h 0; have h1 := h 1
    have e0 : 8 * (k.val / 8) ≤ (y 0).val ∧ (y 0).val < 8 * (k.val / 8) + 8 := h0
    have e1 : 262144 * (k.val % 8) ≤ (y 1).val ∧ (y 1).val < 262144 * (k.val % 8) + 262144 := h1
    dsimp only; omega
  · intro h a
    dsimp only at h
    fin_cases a
    · show 8 * (k.val / 8) ≤ (y 0).val ∧ (y 0).val < 8 * (k.val / 8) + 8; omega
    · show 262144 * (k.val % 8) ≤ (y 1).val ∧ (y 1).val < 262144 * (k.val % 8) + 262144; omega

theorem zsrc_set : zsrc.view.set = Finset.univ := by
  show ((View.whole cc1_scratch0).slice (Rect.unit (s := S8x262144) ![0, 0] S8x262144.size inb_S8x262144_S8x262144_0_0)).set = _
  rw [View.set_slice_whole]
  ext y
  rw [Rect.mem_set_unit]
  have h0 : (y 0).val < 8 := (y 0).isLt
  have h1 : (y 1).val < 262144 := (y 1).isLt
  refine iff_of_true (fun a => ?_) (Finset.mem_univ _)
  fin_cases a
  · exact ⟨Nat.zero_le _, by show (y 0).val < 0 + 8; omega⟩
  · exact ⟨Nat.zero_le _, by show (y 1).val < 0 + 262144; omega⟩

section

variable (c : Dev nD)

/-- Every element zero. -/
abbrev zeroF : F .f32 := Scalar.ofBits .f32 0x00000000#32

/-- Tile `k` of the result held at some contents. -/
def tileAny (k : Fin 32) : sProp 𝕄 := iprop(∃ f, OUT.view.loc (c : Thread nD τ) ↦[tileSet k]{fullShare} f)
/-- Tile `k` of the result held at zero. -/
def tileZero (k : Fin 32) : sProp 𝕄 :=
  OUT.view.loc (c : Thread nD τ) ↦[tileSet k]{fullShare} (fun _ => zeroF (F := F))
/-- The zero block held at read token `t`. -/
def ztok (t : ℕ) : sProp 𝕄 :=
  ZB.view.loc (c : Thread nD τ) ↦{Transfers.shareTokN fullShare t} (fun _ => zeroF (F := F))

/-- What transfer `k` of the fill delivers: its tile at zero and its token of the zero block. -/
def fillD (k : Fin 32) : sProp 𝕄 := iprop(tileZero (F := F) c k ∗ ztok (F := F) c k.val)

instance fillD_storable (k : Fin 32) : BI.Storable (upEmb : UEmb _ 𝕄) (fillD (F := F) c k) := by
  unfold fillD
  have h1 : BI.Storable (upEmb : UEmb _ 𝕄) (tileZero (F := F) c k) := by unfold tileZero; infer_instance
  have h2 : BI.Storable (upEmb : UEmb _ 𝕄) (ztok (F := F) c k.val) := by unfold ztok; infer_instance
  infer_instance

/-- A tile's credit. -/
abbrev NF : ℕ := (tile ⟨0, by decide +kernel⟩).view.amount (.dma semFill)

theorem NF_pos : 0 < NF := View.amount_pos _ _ (by decide)

/-- The fill's batch: `j` transfers issued, `u` units consumed. -/
abbrev fillB (j u : ℕ) : sProp 𝕄 := Transfers.Batch (EC (F := F)) (c : Thread nD τ) (.dma semFill) () NF (fillD (F := F) c) j u

/-- A transfer of the zero block makes its tile zero. -/
theorem fill_deliver (k : Fin k1_t1_loop.trips) (hk : k.val < 32) (fd : Buf (Elt F) (OUT.view.loc (c : Thread nD τ))) :
    iprop(((tile k).view.loc (c : Thread nD τ) ↦[(tile k).view.set]{fullShare}
        ((tile k).view.write (Elt F) fd (ReadAs.same.apply (zsrc.view.read (Elt F) (fun _ => zeroF (F := F)))) Finset.univ))
      ∗ (zsrc.view.loc (c : Thread nD τ) ↦[zsrc.view.set]{Transfers.shareTokN fullShare k.val} (fun _ => zeroF (F := F))))
      ⊢ (fillD (F := F) c ⟨k.val, hk⟩ : sProp 𝕄) := by
  unfold fillD tileZero ztok
  refine sep_mono (Entails.of_eq ?_) (Entails.of_eq (by rw [zsrc_set]; rfl))
  show (OUT.view.loc (c : Thread nD τ) ↦[(tile k).view.set]{fullShare} _ : sProp 𝕄) = _
  rw [tile_set]
  refine pointsTo_congr fun y hy => ?_
  rw [← tile_set] at hy
  obtain ⟨x, -, rfl⟩ := Finset.mem_map.mp hy
  exact ((tile k).view.write_emb_of_mem _ _ (Finset.mem_univ x)).trans rfl

/-- Before trip `k` of the issue loop. -/
def fillInv (k : ℕ) (_ : Unit) : sProp 𝕄 :=
  iprop(fillB (F := F) c k 0 ∗ bigSep (Ring.rangeSet 32 k 32) (tileAny (F := F) c) ∗ bigSep (Ring.rangeSet 32 k 32) fun t => ztok (F := F) c t.val)

theorem fill_step (k : Fin k1_t1_loop.trips) (acc : Unit) :
    fillInv (F := F) c k acc ⊢ wp frame (wpE (defs₀ (F := F)) Variants.none (c : Thread nD τ) none) Set.univ
      (k1_t1_body (F := F) COL (hstage1_0 0) ROW (hstage1_1 0) OUT (Memref.isWhole_whole _) ZB (Memref.isWhole_whole _) OH (Memref.isWhole_whole _) cc1_scratch2 cc1_scratch3 k acc)
      (fillInv (F := F) c (k.val + 1)) := by
  have hk : k.val < 32 := lt1 k
  unfold fillInv
  rw [Ring.bigSep_rangeSet_head (Φ := tileAny (F := F) c) hk hk, Ring.bigSep_rangeSet_head (Φ := fun t => ztok (F := F) c t.val) hk hk]
  iintro ⟨HB, ⟨HT, HTs⟩, ⟨HZ, HZs⟩⟩
  unfold tileAny ztok
  icases HT with ⟨%f, HT⟩
  rw [← tile_set k]
  unfold k1_t1_body
  dsimp only
  iapply (Transfers.wp_dmaBatch (EC (F := F)) Variants.none (c : Thread nD τ) none (src := zsrc) (dst := tile k) () NF rfl subset_rfl
    (D := fillD (F := F) c) (j := k.val) (u := 0) hk (Nat.zero_le _) (fill_deliver c k hk f)) $$ [HZ HT HB]
  · isplitl [HZ]; · rw [zsrc_set]; iexact HZ
    isplitl [HT]; · iexact HT
    iexact HB
  iintro HB
  simp only [ret_then]
  sl_step
  isplitl [HB]; · iexact HB
  isplitl [HTs]; · iexact HTs
  iexact HZs

/-- Before trip `k` of the wait loop: some units consumed, or — after the last wait — every tile at zero. -/
def fillWait (k : ℕ) (_ : Unit) : sProp 𝕄 :=
  iprop((∃ W, owes (c : Thread nD τ) (0 : CellTallies nD τ sig Unit) W)
    ∗ (if k < 32 then fillB (F := F) c 32 (k * NF) else iprop(bigSep Finset.univ (fillD (F := F) c) ∗ semVal ((c : Thread nD τ), SemLoc.dma semFill) 0)))

theorem wait_step (k : Fin k1_t3_loop.trips) (acc : Unit) :
    fillWait (F := F) c k acc ⊢ wp frame (wpE (defs₀ (F := F)) Variants.none (c : Thread nD τ) none) Set.univ
      (k1_t3_body (F := F) COL (hstage1_0 0) ROW (hstage1_1 0) OUT (Memref.isWhole_whole _) ZB (Memref.isWhole_whole _) OH (Memref.isWhole_whole _) cc1_scratch2 cc1_scratch3 k acc)
      (fillWait (F := F) c (k.val + 1)) := by
  have hk : k.val < 32 := lt3 k
  have hN := NF_pos
  unfold fillWait
  simp only [if_pos hk]
  unfold k1_t3_body
  dsimp only
  iintro ⟨⟨%W, HO⟩, HB⟩
  rcases Nat.lt_or_ge (k.val + 1) 32 with h1 | h1
  · simp only [if_pos h1]
    iapply (Transfers.wp_waitBatch (EC (F := F)) Variants.none (c : Thread nD τ) none () (N := NF) rfl (D := fillD (F := F) c) (u := k.val * NF)
      (by rw [← Nat.succ_mul, Nat.mul_comm NF]; exact Nat.mul_lt_mul_of_pos_right h1 hN)) $$ [HB HO]
    · isplitl [HB] <;> iassumption
    iintro ⟨HB, HO⟩
    simp only [ret_then]
    sl_step
    isplitl [HO]; · iexists _; iexact HO
    rw [Nat.succ_mul]
    iexact HB
  · simp only [if_neg (Nat.not_lt.mpr h1)]
    iapply (Transfers.wp_waitBatchLast (EC (F := F)) Variants.none (c : Thread nD τ) none () (N := NF) rfl hN (D := fillD (F := F) c) (u := k.val * NF)
      (by rw [← Nat.succ_mul, Nat.mul_comm NF, show k.val.succ = 32 by omega])) $$ [HB HO]
    · isplitl [HB] <;> iassumption
    iintro ⟨HD, Hv, HO⟩
    simp only [ret_then]
    sl_step
    isplitl [HO]; · iexists _; iexact HO
    isplitl [HD] <;> iassumption

end

end Cert.KernelIdeal.Scatter

end
-- ==== Proof.SampleRegion.lean ====
/-
  The first kernel region: what one grid point's body leaves in the row block as a function of the block of logits, the
  body's triple, the region's proof data and its body obligation.
-/
module

public import proofs.«01_k».proof.Proof.Fill
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.RegionsLoop
public import Idealize.ShloMosaic.Lib.Tactic
public import Idealize.ShloMosaic.Lib.WordCmp
public import Idealize.ShloMosaic.Lib.VecWindow
public import Idealize.ShloMosaic.Lib.Pipeline.Value

@[expose] public section

set_option maxRecDepth 16384

noncomputable section

namespace Cert.KernelIdeal.Scatter

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The two words of the random function after 20 rounds at a grid point, before the last key words are added. -/
def words (i : grid0.Coords) : IVec S16x32768 32 × IVec S16x32768 32 :=
  let a := k0_pay9 i
  let b := k0_pay10 i
  let a1 := k0_pay19 a b
  let b1 := k0_pay20 a b
  let c1 := k0_pay21 a b
  let a2 := k0_pay32 a1 b1 c1
  let b2 := k0_pay33 a1 b1 c1
  let c2 := k0_pay34 a1 b1 c1
  (k0_pay45 a2 b2 c2, k0_pay46 a2 b2 c2)

/-- The column numbers of a block. -/
def colNos : IVec S16x32768 32 := iota .tc S16x32768 32 [1] iota_S16x32768_d1_w32

/-- The chosen column of each row of a block of logits at a grid point. -/
def choice (i : grid0.Coords) (x : Vec F S16x32768 .f32) : IVec S16x1 32 :=
  k0_pay47 (k0_pay2 x) colNos (words i).1 (words i).2 5#32

/-- The row numbers one grid point writes, from its block of logits. -/
def rowBlock (i : grid0.Coords) (x : Vec F S16x32768 .f32) : IVec S16x1 32 :=
  k0_pay1 (choice i x) (k0_pay49 (k0_pay2 x) colNos (words i).1 (words i).2 5#32)
    (k0_pay50 (BitVec.ofNat 32 (i 0).val) (k0_pay2 x) colNos (words i).1 (words i).2 5#32)
    (k0_pay51 (BitVec.ofNat 32 (i 0).val)) 16384#32

/-- The block of logits loaded whole is the block. -/
theorem ld_whole (x : Vec F S16x32768 .f32) : View.ld x (Rect.unit (s := S16x32768) ![0, 0] S16x32768.size inb_S16x32768_S16x32768_0_0) = x :=
  View.ld_unit_zero (funext fun a => by fin_cases a <;> rfl) _ x

set_option maxHeartbeats 1000000 in
/-- One grid point's body leaves the logits as they were and the row block at the row numbers. -/
theorem sample_body (c : Dev nD) (E : Set ℕ) (i : grid0.Coords) (A : Memref sig .tc .vmem S16x32768 .f32) (hA : A.IsWhole) (R : Memref sig .tc .vmem S16x1 .i32) (hR : R.IsWhole)
    (x : Vec F S16x32768 .f32) (Q : PUnit → sProp 𝕄) :
    iprop(owns (c : Thread nD τ) A fullShare x ∗ (∃ d, owns (c : Thread nD τ) R fullShare d)
        ∗ (iprop(owns (c : Thread nD τ) A fullShare x ∗ owns (c : Thread nD τ) R fullShare (rowBlock i x)) -∗ Q ⟨⟩))
      ⊢ wp frame (wpE (defs₀ (F := F)) Variants.none c none) E (cc0__sample_body i A hA R hR) Q := by
  simp only [cc0__sample_body_eq_skeleton]; unfold cc0__sample_body_skel
  simp only [k0_part1_eq_skeleton, k0_part2_eq_skeleton, k0_part3_eq_skeleton, k0_part4_eq_skeleton, k0_part5_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  refine (View.read_writes_full _ _ _ _ _).trans ?_
  have e : ∀ x : Vec F S16x32768 .f32, View.ld x (Rect.unit (s := S16x32768) ![0, 0] S16x32768.size inb_S16x32768_S16x32768_0_0) = x := ld_whole
  unfold rowBlock choice
  rw [← e ((A.view).read (Elt F) f0)]
  rfl

/-! ## The region's proof data, at the contents the region is entered from -/

variable (V : (c : Dev nD) → Valuation τ sig (Elt F))

/-- The block of logits of point `t`, read off the array as the region is entered. -/
abbrev logitBlock (c : Dev nD) (t : Fin cfg0.N) : Vec F S16x32768 .f32 :=
  ((cfg0.win 0).blk t).view.read (Elt F) (V c (Pipeline.arrRef spec0 0))

/-- What rides along the first region: the buffers it does not stage. -/
abbrev rest0 (c : Dev nD) : sProp 𝕄 := Pipeline.scopedRest (Ix := Unit) (Name := ℕ) (U := UU) (Lvl := ℕ) (Val := Elt F) spec0 c

/-- The first region's proof data: the two arrays as entered, the logits' buffer at its block and the rows' buffer at
    the row numbers of the block after each point. -/
def dat0 (c : Dev nD) : Dat τ (Elt F) Unit ℕ UU ℕ cfg0 c where
  A w := V c (Pipeline.arrRef spec0 w)
  after w t := match w with
    | ⟨0, _⟩ => logitBlock V c t
    | ⟨1, _⟩ => rowBlock (grid0.coords t) (logitBlock V c t)
  Φ _ := rest0 c
  q _ := fullShare
  owed _ := 0

theorem after_logits (c : Dev nD) (t : Fin cfg0.N) : (dat0 V c).after 0 t = logitBlock V c t := by dsimp only [dat0]
theorem after_rows (c : Dev nD) (t : Fin cfg0.N) : (dat0 V c).after 1 t = rowBlock (grid0.coords t) (logitBlock V c t) := by dsimp only [dat0]

/-- The logits' buffer holds its block when the body runs. -/
theorem before_logits (c : Dev nD) (t : Fin cfg0.N) (d) : (dat0 V c).before 0 t d = logitBlock V c t :=
  ((dat0 V c).before_in_eq_fetched 0 rfl (fun _ => rfl) (fun _ _ _ => rfl) (fun t => by rw [after_logits]; rfl) t d).trans rfl

/-- The body at point `t` as the pipeline calls it. -/
theorem defs_row0 (t : Fin cfg0.N) : defs₀ (F := F) .tc cfg0.body (cfg0.bodyArgs t (cfg0.slots t)) = bodyAt0 t := by
  unfold defs₀; rw [Defs.onTc_tc]

set_option maxHeartbeats 800000 in
/-- The first region's body obligation, at every point. -/
theorem obligation0 (c : Dev nD) : BodyObligation (dat0 (F := F) V c) (defs₀ (F := F)) Variants.none () Set.univ := fun t => by
  rw [bigSep_W0, bigSep_W0, defs_row0]
  have h : iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d)))
      ⊢ wp frame (wpE (defs₀ (F := F)) Variants.none c none) Set.univ (bodyAt0 t) (fun _ => iprop((dat0 V c).Φ t.succ ∗ (dat0 V c).owesAt () t.succ
        ∗ owns (c : Thread nD τ) (st0_0 t) fullShare ((dat0 V c).after 0 t)
        ∗ owns (c : Thread nD τ) (st0_1 t) fullShare ((dat0 V c).after 1 t))) := by
    unfold bodyAt0
    simp only [before_logits]
    rw [show (dat0 V c).Φ t.succ = (dat0 V c).Φ t.castSucc from rfl,
      show (dat0 V c).owesAt () t.succ = (dat0 V c).owesAt () t.castSucc from rfl, after_logits, after_rows]
    iintro ⟨HΦ, Ho, ⟨%d0, H0⟩, ⟨%d1, H1⟩⟩
    iapply (sample_body c Set.univ (grid0.coords t) _ _ _ _ (logitBlock V c t) _)
    isplitl [H0]; · iexact H0
    isplitl [H1]; · iexists _; iexact H1
    iintro ⟨H0, H1⟩
    isplitl [HΦ]; · iexact HΦ
    isplitl [Ho]; · iexact Ho
    isplitl [H0]; · iexact H0
    iexact H1
  exact triple_restated h rfl .rfl fun _ => .rfl

end Cert.KernelIdeal.Scatter

end
-- ==== Proof.Scatter.lean ====
/-
  The scatter of the second kernel region: the one-hot tiles written by the second loop, and the 64 transfers of them
  into the windows of the result, issued by the fourth loop and waited for by the fifth.
-/
module

public import proofs.«01_k».proof.Proof.Fill
public import Idealize.ShloMosaic.Lib.WritesUnit

@[expose] public section

noncomputable section

namespace Cert.KernelIdeal.Scatter

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

theorem lt2 (k : Fin k1_t2_loop.trips) : k.val < 64 := Nat.lt_of_lt_of_eq k.isLt trips2
theorem lt4 (k : Fin k1_t4_loop.trips) : k.val < 64 := Nat.lt_of_lt_of_eq k.isLt trips4
theorem lt5 (k : Fin k1_t5_loop.trips) : k.val < 64 := Nat.lt_of_lt_of_eq k.isLt trips5
theorem off2_eq : ∀ k : Fin k1_t2_loop.trips, k1_off2 k = ![k.val, 0] := by decide +kernel
theorem off3_eq : ∀ k : Fin k1_t2_loop.trips, k1_off3 k = ![8 * k.val, 0] := by decide +kernel

/-- The first `k + 1` one-hot tiles after tile `k` is written over the first `k`. -/
theorem hot_write (d : BitVec 32) (fr : S64x1.Idx → BitVec 32) (k : Fin k1_t2_loop.trips) (f : S512x128.Idx → F .f32)
    (hf : ∀ y : S512x128.Idx, (y 0).val < 8 * k.val → f y = hot (F := F) d fr y) (y : S512x128.Idx) (hy : (y 0).val < 8 * (k.val + 1)) :
    (View.whole cc1_scratch1).writes (Elt F) f [⟨Rect.unit (k1_off3 k) S8x128.size (k1_off3_inb k), k1_pay2 (F := F) d (fr (at64 k.val (lt2 k)))⟩] y
      = hot (F := F) d fr y := by
  rcases Nat.lt_or_ge (y 0).val (8 * k.val) with h | h
  · exact (View.read_writes_cons_rows_of_not_mem (Val := Elt F) (View.whole cc1_scratch1) f (k1_off3_inb k) _ [] y (off3_eq k) (W := 8) rfl (.inl h)).trans (hf y h)
  · refine (View.read_writes_cons_rows_of_mem (Val := Elt F) (View.whole cc1_scratch1) f (k1_off3_inb k) _ [] y
      (at8 ((y 0).val % 8) (y 1).val (Nat.mod_lt _ (by decide)) (y 1).isLt) (off3_eq k) ?_ rfl).trans ?_
    · show (y 0).val = 8 * k.val + (y 0).val % 8; omega
    · have hk : k.val = (y 0).val / 8 := by omega
      have hat : at64 k.val (lt2 k) = at64 ((y 0).val / 8) (by have h : (y 0).val < 512 := (y 0).isLt; omega) := by congr
      unfold hot; rw [hat]

variable (c : Dev nD)

/-- Before trip `k` of the one-hot loop: the sampled rows as they are, and the first `k` tiles written. -/
def hotInv (d : BitVec 32) (fr : S64x1.Idx → BitVec 32) (k : ℕ) (_ : Unit) : sProp 𝕄 :=
  iprop((ROW.view.loc (c : Thread nD τ) ↦{fullShare} (fr : Buf (Elt F) (ROW.view.loc (c : Thread nD τ))))
    ∗ ∃ f : S512x128.Idx → F .f32, ⌜∀ y : S512x128.Idx, (y 0).val < 8 * k → f y = hot (F := F) d fr y⌝
      ∗ OH.view.loc (c : Thread nD τ) ↦{fullShare} (f : Buf (Elt F) (OH.view.loc (c : Thread nD τ))))

theorem hot_step (d : BitVec 32) (fr : S64x1.Idx → BitVec 32) (k : Fin k1_t2_loop.trips) (acc : Unit) :
    hotInv (F := F) c d fr k acc ⊢ wp frame (wpE (defs₀ (F := F)) Variants.none (c : Thread nD τ) none) Set.univ
      (k1_t2_body (F := F) COL (hstage1_0 0) ROW (hstage1_1 0) OUT (Memref.isWhole_whole _) ZB (Memref.isWhole_whole _) OH (Memref.isWhole_whole _) cc1_scratch2 cc1_scratch3 d k acc)
      (hotInv (F := F) c d fr (k.val + 1)) := by
  unfold hotInv
  iintro ⟨HR, ⟨%f, %hf, HH⟩⟩
  unfold k1_t2_body
  sl_exec
  sl_step
  have hr : hot_step.sl.r (F := F) fr k = fr (at64 k.val (lt2 k)) := congrArg fr (funext fun a => by
    fin_cases a
    · exact Fin.ext (by show k1_off2 k 0 + 1 * 0 = k.val; rw [off2_eq]; rfl)
    · exact Fin.ext (by show k1_off2 k 1 + 1 * 0 = 0; rw [off2_eq]; rfl))
  rw [hr]
  isplitl [HR]; · iexact HR
  iexists _
  isplitr [HH]
  · ipureintro; exact fun y hy => hot_write d fr k f hf y hy
  · iexact HH

/-- The window of column `d` and row `r`, as the transfers name it. -/
def win (d r : BitVec 32) (h : k1_chk1 d r) : Memref sig .tc .hbm S8x128 .f32 :=
  OUT.slice (Rect.unit (s := S32x2097152) (k1_off5 d r) S8x128.size (k1_off5_inb d r h)) (fun _ => rfl)
/-- The one-hot tile of trip `k`, as the transfers name it. -/
def hsl (k : Fin k1_t4_loop.trips) : Memref sig .tc .vmem S8x128 .f32 :=
  OH.slice (Rect.unit (s := S512x128) (k1_off6 k) S8x128.size (k1_off6_inb k)) (fun _ => rfl)

theorem win_set (d r : BitVec 32) (h : k1_chk1 d r) : (win d r h).view.set = winSet d r := by
  show ((View.whole main_v2).slice (Rect.unit (s := S32x2097152) (k1_off5 d r) S8x128.size (k1_off5_inb d r h))).set = _
  rw [View.set_slice_whole]
  ext y
  rw [Rect.mem_set_unit, mem_winSet, off5_eq]
  constructor
  · intro h
    have h0 : 8 * (d.toNat / 8) ≤ (y 0).val ∧ (y 0).val < 8 * (d.toNat / 8) + 8 := h 0
    have h1 : 128 * (r.toNat / 128) ≤ (y 1).val ∧ (y 1).val < 128 * (r.toNat / 128) + 128 := h 1
    omega
  · intro h a
    fin_cases a
    · show 8 * (d.toNat / 8) ≤ (y 0).val ∧ (y 0).val < 8 * (d.toNat / 8) + 8; omega
    · show 128 * (r.toNat / 128) ≤ (y 1).val ∧ (y 1).val < 128 * (r.toNat / 128) + 128; omega

theorem hsl_set (k : Fin k1_t4_loop.trips) : (hsl k).view.set = hotSet ⟨k.val, lt4 k⟩ := by
  show ((View.whole cc1_scratch1).slice (Rect.unit (s := S512x128) (k1_off6 k) S8x128.size (k1_off6_inb k))).set = _
  rw [View.set_slice_whole]
  ext y
  rw [Rect.mem_set_unit, mem_hotSet, off6_eq]
  have hy1 : (y 1).val < 128 := (y 1).isLt
  constructor
  · intro h
    have h0 : 8 * k.val ≤ (y 0).val ∧ (y 0).val < 8 * k.val + 8 := h 0
    dsimp only; omega
  · intro h a
    dsimp only at h
    fin_cases a
    · show 8 * k.val ≤ (y 0).val ∧ (y 0).val < 8 * k.val + 8; omega
    · show 0 ≤ (y 1).val ∧ (y 1).val < 0 + 128; omega

section

variable (d : BitVec 32) (fr : S64x1.Idx → BitVec 32)

/-- The window of batch member `k` before its transfer. -/
def winZero (k : Fin 64) : sProp 𝕄 :=
  OUT.view.loc (c : Thread nD τ) ↦[winSet d (fr (at64 k.val k.isLt))]{fullShare} (fun _ => zeroF (F := F))
/-- The window of batch member `k` at the result's contents. -/
def winFull (k : Fin 64) : sProp 𝕄 :=
  OUT.view.loc (c : Thread nD τ) ↦[winSet d (fr (at64 k.val k.isLt))]{fullShare} (filled (F := F) d fr : Buf (Elt F) (OUT.view.loc (c : Thread nD τ)))
/-- The one-hot tile of batch member `k`. -/
def hotTile (k : Fin 64) : sProp 𝕄 :=
  OH.view.loc (c : Thread nD τ) ↦[hotSet k]{fullShare} (hot (F := F) d fr : Buf (Elt F) (OH.view.loc (c : Thread nD τ)))

/-- What transfer `k` of the scatter delivers: its window written and its tile back. -/
def scatD (k : Fin 64) : sProp 𝕄 := iprop(winFull (F := F) c d fr k ∗ hotTile (F := F) c d fr k)

instance scatD_storable (k : Fin 64) : BI.Storable (upEmb : UEmb _ 𝕄) (scatD (F := F) c d fr k) := by
  unfold scatD
  have h1 : BI.Storable (upEmb : UEmb _ 𝕄) (winFull (F := F) c d fr k) := by unfold winFull; infer_instance
  have h2 : BI.Storable (upEmb : UEmb _ 𝕄) (hotTile (F := F) c d fr k) := by unfold hotTile; infer_instance
  infer_instance

/-- A window's credit. -/
abbrev NS : ℕ := (OUT.slice (Rect.unit (s := S32x2097152) ![0, 0] S8x128.size inb_S32x2097152_S8x128_0_0) (fun _ => rfl)).view.amount (.dma semScat)

theorem NS_pos : 0 < NS := View.amount_pos _ _ (by decide)

/-- The scatter's batch: `j` transfers issued, `u` units consumed. -/
abbrev scatB (j u : ℕ) : sProp 𝕄 := Transfers.Batch (EC (F := F)) (c : Thread nD τ) (.dma semScat) () NS (scatD (F := F) c d fr) j u

/-- Tile `k`'s element is the one-hot tile's element at its window's place. -/
theorem hot_at (k : Fin k1_t4_loop.trips) (hk : k.val < 64) (h : k1_chk1 d (fr (at64 k.val hk))) (x : S8x128.Idx) :
    let yW : S32x2097152.Idx := (win d (fr (at64 k.val hk)) h).view.emb x
    let yH : S512x128.Idx := (hsl k).view.emb x
    hot (F := F) d fr yH = k1_pay2 (F := F) d (fr (at64 k.val hk)) (at8 ((yW 0).val % 8) ((yW 1).val % 128) (Nat.mod_lt _ (by decide)) (Nat.mod_lt _ (by decide))) := by
  intro yW yH
  have hx0 : (x 0).val < 8 := (x 0).isLt
  have hx1 : (x 1).val < 128 := (x 1).isLt
  have e0 : (yW 0).val = 8 * (d.toNat / 8) + (x 0).val := by
    show k1_off5 d (fr (at64 k.val hk)) 0 + 1 * (x 0).val = _
    rw [off5_eq, Nat.one_mul]; rfl
  have e1 : (yW 1).val = 128 * ((fr (at64 k.val hk)).toNat / 128) + (x 1).val := by
    show k1_off5 d (fr (at64 k.val hk)) 1 + 1 * (x 1).val = _
    rw [off5_eq, Nat.one_mul]; rfl
  have g0 : (yH 0).val = 8 * k.val + (x 0).val := by
    show k1_off6 k 0 + 1 * (x 0).val = _
    rw [off6_eq, Nat.one_mul]; rfl
  have g1 : (yH 1).val = (x 1).val := by
    show k1_off6 k 1 + 1 * (x 1).val = _
    rw [off6_eq, Nat.one_mul]; exact Nat.zero_add _
  have hat : at64 ((yH 0).val / 8) (by have h : (yH 0).val < 512 := (yH 0).isLt; omega) = at64 k.val hk := by congr 1; omega
  unfold hot
  rw [hat]
  congr 1
  funext a
  fin_cases a
  · exact Fin.ext (by show (yH 0).val % 8 = (yW 0).val % 8; omega)
  · exact Fin.ext (by show (yH 1).val = (yW 1).val % 128; omega)

/-- A transfer of batch member `k`'s tile makes its window the result's. -/
theorem scat_deliver (hok : RowsOk fr) (k : Fin k1_t4_loop.trips) (hk : k.val < 64) (h : k1_chk1 d (fr (at64 k.val hk)))
    (fd : Buf (Elt F) (OUT.view.loc (c : Thread nD τ))) :
    iprop(((win d (fr (at64 k.val hk)) h).view.loc (c : Thread nD τ) ↦[(win d (fr (at64 k.val hk)) h).view.set]{fullShare}
        ((win d (fr (at64 k.val hk)) h).view.write (Elt F) fd (ReadAs.same.apply ((hsl k).view.read (Elt F) (hot (F := F) d fr))) Finset.univ))
      ∗ ((hsl k).view.loc (c : Thread nD τ) ↦[(hsl k).view.set]{fullShare} (hot (F := F) d fr : Buf (Elt F) (OH.view.loc (c : Thread nD τ)))))
      ⊢ (scatD (F := F) c d fr ⟨k.val, hk⟩ : sProp 𝕄) := by
  unfold scatD winFull hotTile
  refine sep_mono (Entails.of_eq ?_) (Entails.of_eq (by rw [hsl_set]; rfl))
  show (OUT.view.loc (c : Thread nD τ) ↦[(win d (fr (at64 k.val hk)) h).view.set]{fullShare} _ : sProp 𝕄) = _
  rw [win_set]
  refine pointsTo_congr fun y hy => ?_
  have hf := filled_win (F := F) d fr hok ⟨k.val, hk⟩ y hy
  rw [← win_set (h := h)] at hy
  obtain ⟨x, -, hx⟩ := Finset.mem_map.mp hy
  revert hf
  subst hx
  intro hf
  refine ((win d (fr (at64 k.val hk)) h).view.write_emb_of_mem _ _ (Finset.mem_univ x)).trans (Eq.trans ?_ hf.symm)
  exact hot_at d fr k hk h x

/-- Before trip `k` of the issue loop. -/
def scatInv (k : ℕ) (_ : Unit) : sProp 𝕄 :=
  iprop((ROW.view.loc (c : Thread nD τ) ↦{fullShare} (fr : Buf (Elt F) (ROW.view.loc (c : Thread nD τ)))) ∗ scatB (F := F) c d fr k 0
    ∗ bigSep (Ring.rangeSet 64 k 64) (winZero (F := F) c d fr) ∗ bigSep (Ring.rangeSet 64 k 64) (hotTile (F := F) c d fr))

theorem scat_step (hd : d.toNat < 32) (hok : RowsOk fr) (k : Fin k1_t4_loop.trips) (acc : Unit) :
    scatInv (F := F) c d fr k acc ⊢ wp frame (wpE (defs₀ (F := F)) Variants.none (c : Thread nD τ) none) Set.univ
      (k1_t4_body (F := F) COL (hstage1_0 0) ROW (hstage1_1 0) OUT (Memref.isWhole_whole _) ZB (Memref.isWhole_whole _) OH (Memref.isWhole_whole _) cc1_scratch2 cc1_scratch3 d k acc)
      (scatInv (F := F) c d fr (k.val + 1)) := by
  have hk : k.val < 64 := lt4 k
  unfold scatInv
  rw [Ring.bigSep_rangeSet_head (Φ := winZero (F := F) c d fr) hk hk, Ring.bigSep_rangeSet_head (Φ := hotTile (F := F) c d fr) hk hk]
  iintro ⟨HR, HB, ⟨HT, HTs⟩, ⟨HZ, HZs⟩⟩
  unfold k1_t4_body
  set_option sl_exec.maxSteps 3 in sl_exec
  have hr : scat_step.sl.r (F := F) fr k = fr (at64 k.val hk) := congrArg fr (funext fun a => by
    fin_cases a
    · exact Fin.ext (by show k1_off4 k 0 + 1 * 0 = k.val; rw [off4_eq]; rfl)
    · exact Fin.ext (by show k1_off4 k 1 + 1 * 0 = 0; rw [off4_eq]; rfl))
  rw [hr]
  have hchk : k1_chk1 d (fr (at64 k.val hk)) := chk d _ hd (hok k.val hk).1
  unfold winZero hotTile
  rw [← win_set (h := hchk), ← hsl_set k]
  set_option sl_exec.maxSteps 1 in sl_exec
  dsimp only
  iapply (Transfers.wp_dmaBatch (EC (F := F)) Variants.none (c : Thread nD τ) none (src := hsl k) (dst := win d (fr (at64 k.val hk)) hchk) () NS rfl subset_rfl
    (D := scatD (F := F) c d fr) (j := k.val) (u := 0) hk (Nat.zero_le _) (scat_deliver c d fr hok k hk hchk _)) $$ [HZ HT HB]
  · isplitl [HZ]; · iexact HZ
    isplitl [HT]; · iexact HT
    iexact HB
  iintro HB
  simp only [ret_then]
  sl_step
  isplitl [HR]; · iexact HR
  isplitl [HB]; · iexact HB
  isplitl [HTs]; · iexact HTs
  iexact HZs

/-- Before trip `k` of the wait loop: some units consumed, or — after the last wait — every window and tile back. -/
def scatWait (k : ℕ) (_ : Unit) : sProp 𝕄 :=
  iprop((∃ W, owes (c : Thread nD τ) (0 : CellTallies nD τ sig Unit) W)
    ∗ (if k < 64 then scatB (F := F) c d fr 64 (k * NS) else iprop(bigSep Finset.univ (scatD (F := F) c d fr) ∗ semVal ((c : Thread nD τ), SemLoc.dma semScat) 0)))

theorem drain_step (k : Fin k1_t5_loop.trips) (acc : Unit) :
    scatWait (F := F) c d fr k acc ⊢ wp frame (wpE (defs₀ (F := F)) Variants.none (c : Thread nD τ) none) Set.univ
      (k1_t5_body (F := F) COL (hstage1_0 0) ROW (hstage1_1 0) OUT (Memref.isWhole_whole _) ZB (Memref.isWhole_whole _) OH (Memref.isWhole_whole _) cc1_scratch2 cc1_scratch3 k acc)
      (scatWait (F := F) c d fr (k.val + 1)) := by
  have hk : k.val < 64 := lt5 k
  have hN := NS_pos
  unfold scatWait
  simp only [if_pos hk]
  unfold k1_t5_body
  dsimp only
  iintro ⟨⟨%W, HO⟩, HB⟩
  rcases Nat.lt_or_ge (k.val + 1) 64 with h1 | h1
  · simp only [if_pos h1]
    iapply (Transfers.wp_waitBatch (EC (F := F)) Variants.none (c : Thread nD τ) none () (N := NS) rfl (D := scatD (F := F) c d fr) (u := k.val * NS)
      (by rw [← Nat.succ_mul, Nat.mul_comm NS]; exact Nat.mul_lt_mul_of_pos_right h1 hN)) $$ [HB HO]
    · isplitl [HB] <;> iassumption
    iintro ⟨HB, HO⟩
    simp only [ret_then]
    sl_step
    isplitl [HO]; · iexists _; iexact HO
    rw [Nat.succ_mul]
    iexact HB
  · simp only [if_neg (Nat.not_lt.mpr h1)]
    iapply (Transfers.wp_waitBatchLast (EC (F := F)) Variants.none (c : Thread nD τ) none () (N := NS) rfl hN (D := scatD (F := F) c d fr) (u := k.val * NS)
      (by rw [← Nat.succ_mul, Nat.mul_comm NS, show k.val.succ = 64 by omega])) $$ [HB HO]
    · isplitl [HB] <;> iassumption
    iintro ⟨HD, Hv, HO⟩
    simp only [ret_then]
    sl_step
    isplitl [HO]; · iexists _; iexact HO
    isplitl [HD] <;> iassumption

end

end Cert.KernelIdeal.Scatter

end
-- ==== Proof.FillScatter.lean ====
/-
  The body of the second kernel region run whole: from the column and the sampled rows, and the result, the zero block
  and the one-hot buffer at any contents, to the result holding the one-hot tiles and zero elsewhere.
-/
module

public import proofs.«01_k».proof.Proof.Scatter
public import Idealize.ShloMosaic.Lib.VecWindow
public import Idealize.ShloMosaic.Lib.Pipeline.Value

@[expose] public section

noncomputable section

namespace Cert.KernelIdeal.Scatter

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (c : Dev nD)

/-- The one element of the column's buffer. -/
def at1 : S1x1.Idx
  | ⟨0, _⟩ => ⟨0, Nat.one_pos⟩
  | ⟨1, _⟩ => ⟨0, Nat.one_pos⟩

/-- The result at any contents is its 32 tiles at some contents. -/
theorem out_tiles (fo : Buf (Elt F) (OUT.view.loc (c : Thread nD τ))) :
    (OUT.view.loc (c : Thread nD τ) ↦{fullShare} fo : sProp 𝕄) ⊢ bigSep (Ring.rangeSet 32 0 32) (tileAny (F := F) c) := by
  rw [Ring.rangeSet_univ, Ring.pointsTo_blocks (ℓ := OUT.view.loc (c : Thread nD τ)) tileSet tile_disjoint tile_cover]
  have h : ∀ k ∈ (Finset.univ : Finset (Fin 32)), (OUT.view.loc (c : Thread nD τ) ↦[tileSet k]{fullShare} fo : sProp 𝕄) ⊢ tileAny (F := F) c k := fun k _ => by
    unfold tileAny
    iintro H
    iexists _
    iexact H
  exact bigSep_mono h

/-- The 32 tiles at zero are the result at zero. -/
theorem tiles_out : bigSep Finset.univ (tileZero (F := F) c) ⊢ (OUT.view.loc (c : Thread nD τ) ↦{fullShare} (fun _ => zeroF (F := F)) : sProp 𝕄) := by
  rw [Ring.pointsTo_blocks (ℓ := OUT.view.loc (c : Thread nD τ)) tileSet tile_disjoint tile_cover]
  exact Entails.rfl

/-- The zero block is 32 read tokens and the rest of its share. -/
theorem zero_toks : (ZB.view.loc (c : Thread nD τ) ↦{fullShare} (fun _ => zeroF (F := F)) : sProp 𝕄)
    ⊢ iprop((ZB.view.loc (c : Thread nD τ) ↦{Transfers.shareDrop fullShare 32} (fun _ => zeroF (F := F)))
      ∗ bigSep (Ring.rangeSet 32 0 32) fun t => ztok (F := F) c t.val) := by
  rw [Ring.bigSep_rangeSet_eq_range (NB := 32) (lo := 0) (hi := 32) (Φ := fun t => ztok (F := F) c t.val) le_rfl (fun t => ztok (F := F) c t)
    (fun k hk => by show ztok (F := F) c k = ztok (F := F) c (0 + k); rw [Nat.zero_add])]
  exact (Transfers.pointsTo_toks_range fullShare 32).1

theorem toks_zero : iprop((ZB.view.loc (c : Thread nD τ) ↦{Transfers.shareDrop fullShare 32} (fun _ => zeroF (F := F)))
      ∗ bigSep Finset.univ fun t : Fin 32 => ztok (F := F) c t.val)
    ⊢ (ZB.view.loc (c : Thread nD τ) ↦{fullShare} (fun _ => zeroF (F := F)) : sProp 𝕄) := by
  rw [← Ring.rangeSet_univ, Ring.bigSep_rangeSet_eq_range (NB := 32) (lo := 0) (hi := 32) (Φ := fun t => ztok (F := F) c t.val) le_rfl (fun t => ztok (F := F) c t)
    (fun k hk => by show ztok (F := F) c k = ztok (F := F) c (0 + k); rw [Nat.zero_add])]
  exact (Transfers.pointsTo_toks_range fullShare 32).2

section

variable (d : BitVec 32) (fr : S64x1.Idx → BitVec 32)

/-- The elements of the result in some window. -/
def wins : Finset S32x2097152.Idx := Finset.univ.biUnion fun k : Fin 64 => winSet d (fr (at64 k.val k.isLt))

theorem wins_eq : (Finset.univ : Finset (Fin 64)).biUnion (fun k : Fin 64 => winSet d (fr (at64 k.val k.isLt))) = wins d fr := rfl

/-- The result held at one contents is its windows and the elements in none. -/
theorem out_wins (hok : RowsOk fr) (f : Buf (Elt F) (OUT.view.loc (c : Thread nD τ))) :
    (OUT.view.loc (c : Thread nD τ) ↦{fullShare} f : sProp 𝕄)
      = iprop(bigSep Finset.univ (fun k : Fin 64 => OUT.view.loc (c : Thread nD τ) ↦[winSet d (fr (at64 k.val k.isLt))]{fullShare} f)
        ∗ (OUT.view.loc (c : Thread nD τ) ↦[(wins d fr)ᶜ]{fullShare} f)) := by
  have h1 : (OUT.view.loc (c : Thread nD τ) ↦[wins d fr]{fullShare} f : sProp 𝕄)
      = bigSep Finset.univ (fun k : Fin 64 => OUT.view.loc (c : Thread nD τ) ↦[winSet d (fr (at64 k.val k.isLt))]{fullShare} f) :=
    Ring.pointsTo_sub_blocks (B := Fin 64) (ℓ := OUT.view.loc (c : Thread nD τ)) (fun k : Fin 64 => winSet d (fr (at64 k.val k.isLt))) (win_disjoint d fr hok) (wins d fr) (wins_eq d fr) (q := fullShare) f
  rw [← h1]
  have hu : (Finset.univ : Finset S32x2097152.Idx) = wins d fr ∪ (wins d fr)ᶜ := (Finset.union_compl _).symm
  have this : (OUT.view.loc (c : Thread nD τ) ↦[wins d fr ∪ (wins d fr)ᶜ]{fullShare} f : sProp 𝕄)
      ⊣⊢ iprop((OUT.view.loc (c : Thread nD τ) ↦[wins d fr]{fullShare} f) ∗ (OUT.view.loc (c : Thread nD τ) ↦[(wins d fr)ᶜ]{fullShare} f)) :=
    pointsTo_union (Finset.disjoint_right.mpr fun _ h => Finset.mem_compl.mp h)
  rw [← hu] at this
  exact this.1.antisymm this.2

/-- The windows at the result's contents and the rest at zero are the result. -/
theorem wins_out (hok : RowsOk fr) : iprop(bigSep Finset.univ (winFull (F := F) c d fr)
      ∗ (OUT.view.loc (c : Thread nD τ) ↦[(wins d fr)ᶜ]{fullShare} (fun _ => zeroF (F := F))))
    ⊢ (OUT.view.loc (c : Thread nD τ) ↦{fullShare} (filled (F := F) d fr : Buf (Elt F) (OUT.view.loc (c : Thread nD τ))) : sProp 𝕄) := by
  rw [out_wins c d fr hok]
  refine sep_mono Entails.rfl (Entails.of_eq (pointsTo_congr fun y hy => ?_))
  refine (filled_off d fr y fun k hk => ?_).symm
  exact Finset.mem_compl.mp hy (Finset.mem_biUnion.mpr ⟨k, Finset.mem_univ _, hk⟩)

/-- The one-hot buffer written whole is its 64 tiles. -/
theorem hot_tiles : (OH.view.loc (c : Thread nD τ) ↦{fullShare} (hot (F := F) d fr : Buf (Elt F) (OH.view.loc (c : Thread nD τ))) : sProp 𝕄)
    = bigSep Finset.univ (hotTile (F := F) c d fr) :=
  Ring.pointsTo_blocks (ℓ := OH.view.loc (c : Thread nD τ)) hotSet hot_disjoint hot_cover _

end

/-- A store of one value over the whole of a buffer leaves that value everywhere. -/
theorem store_whole (b : Ref sig .tc) (f : b.ty.Contents (Elt F)) (off : Fin b.ty.shape.rank → ℕ)
    (inb : ∀ a, off a + b.ty.shape.size a ≤ b.ty.shape.size a) (w : b.ty.shape.Idx → Elt F b.ty.elt) :
    (View.whole b).writes (Elt F) f [⟨Rect.unit off b.ty.shape.size inb, w⟩] = w :=
  (View.read_whole b _).symm.trans (View.read_writes_full (Val := Elt F) (View.whole b) f inb w [])

/-- The zero block after its store. -/
theorem zero_block (f : S8x262144.Idx → F .f32) :
    (View.whole cc1_scratch0).writes (Elt F) f [⟨Rect.unit (s := S8x262144) ![0, 0] S8x262144.size inb_S8x262144_S8x262144_0_0, k1_pay1 (F := F)⟩] = fun _ => zeroF (F := F) := by
  have hp : k1_pay1 (F := F) = fun _ => zeroF (F := F) := shapeCast_self _ _
  exact (store_whole cc1_scratch0 f ![0, 0] inb_S8x262144_S8x262144_0_0 (k1_pay1 (F := F))).trans hp

set_option maxHeartbeats 2000000 in
theorem fill_scatter (fc : S1x1.Idx → BitVec 32) (fr : S64x1.Idx → BitVec 32) (hd : (fc at1).toNat < 32) (hok : RowsOk fr)
    (fo : S32x2097152.Idx → F .f32) (fz : S8x262144.Idx → F .f32) (fh : S512x128.Idx → F .f32) (W : Waits sig Unit) :
    iprop((COL.view.loc (c : Thread nD τ) ↦{fullShare} (fc : Buf (Elt F) (COL.view.loc (c : Thread nD τ))))
        ∗ (ROW.view.loc (c : Thread nD τ) ↦{fullShare} (fr : Buf (Elt F) (ROW.view.loc (c : Thread nD τ))))
        ∗ (OUT.view.loc (c : Thread nD τ) ↦{fullShare} (fo : Buf (Elt F) (OUT.view.loc (c : Thread nD τ))))
        ∗ (ZB.view.loc (c : Thread nD τ) ↦{fullShare} (fz : Buf (Elt F) (ZB.view.loc (c : Thread nD τ))))
        ∗ (OH.view.loc (c : Thread nD τ) ↦{fullShare} (fh : Buf (Elt F) (OH.view.loc (c : Thread nD τ))))
        ∗ semVal ((c : Thread nD τ), SemLoc.dma semFill) 0 ∗ semVal ((c : Thread nD τ), SemLoc.dma semScat) 0
        ∗ owes (c : Thread nD τ) (0 : CellTallies nD τ sig Unit) W)
      ⊢ (wp frame (wpE (defs₀ (F := F)) Variants.none (c : Thread nD τ) none) Set.univ
        (cc1__fill_scatter_body (F := F) COL (hstage1_0 0) ROW (hstage1_1 0) OUT (Memref.isWhole_whole _) ZB (Memref.isWhole_whole _) OH (Memref.isWhole_whole _) cc1_scratch2 cc1_scratch3)
        (fun _ => iprop((COL.view.loc (c : Thread nD τ) ↦{fullShare} (fc : Buf (Elt F) (COL.view.loc (c : Thread nD τ))))
        ∗ (ROW.view.loc (c : Thread nD τ) ↦{fullShare} (fr : Buf (Elt F) (ROW.view.loc (c : Thread nD τ))))
        ∗ (OUT.view.loc (c : Thread nD τ) ↦{fullShare} (filled (F := F) (fc at1) fr : Buf (Elt F) (OUT.view.loc (c : Thread nD τ))))
        ∗ (∃ f, ZB.view.loc (c : Thread nD τ) ↦{fullShare} f)
        ∗ (∃ f, OH.view.loc (c : Thread nD τ) ↦{fullShare} f)
        ∗ semVal ((c : Thread nD τ), SemLoc.dma semFill) 0 ∗ semVal ((c : Thread nD τ), SemLoc.dma semScat) 0
        ∗ ∃ W, owes (c : Thread nD τ) (0 : CellTallies nD τ sig Unit) W)) : sProp 𝕄) := by
  iintro ⟨HC, HR, HO, HZ, HH, Hs1, Hs2, Hw⟩
  rw [cc1__fill_scatter_body_eq_skeleton]
  sl_unfold [cc1__fill_scatter_body_skel]
  sl_exec
  have hr : fill_scatter.sl.r (F := F) fc = fc at1 := congrArg fc (funext fun a => by fin_cases a <;> rfl)
  have hz : ZB.view.writes (Elt F) ZB.view.junk fill_scatter.sl.HZ_1 = fun _ => zeroF (F := F) := zero_block _
  rw [hr, hz]
  generalize fc at1 = d at hd ⊢
  ihave HT := (out_tiles c _) $$ HO
  ihave HZ' := (zero_toks c) $$ HZ
  icases HZ' with ⟨HZr, HZt⟩
  imod (Transfers.batch_alloc' (Lvl := ℕ) (EC (F := F)) (c : Thread nD τ) () NF (fillD (F := F) c) (sm := .dma semFill) (E := Set.univ)) $$ Hs1 with HB
  sl_for (fillInv (F := F) c) $$ [HB HT HZt]
  · intro k acc; exact fill_step c k acc
  · unfold fillInv
    isplitl [HB]; · iexact HB
    isplitl [HT] <;> iassumption
  iintro %_ HI
  unfold fillInv
  icases HI with ⟨HB, -, -⟩
  sl_for (hotInv (F := F) c d fr) $$ [HR HH]
  · intro k acc; exact hot_step c d fr k acc
  · unfold hotInv
    isplitl [HR]; · iexact HR
    iexists fh
    isplitr [HH]
    · ipureintro; intro y hy; exact absurd hy (Nat.not_lt_zero _)
    · iexact HH
  iintro %_ HI
  unfold hotInv
  icases HI with ⟨HR, ⟨%f, %hf, HH⟩⟩
  have hf' : f = hot (F := F) d fr := funext fun y => hf y (by
    have h : (y 0).val < 512 := (y 0).isLt
    exact Nat.lt_of_lt_of_eq h (congrArg (8 * ·) trips2.symm))
  subst hf'
  sl_for (fillWait (F := F) c) $$ [HB Hw]
  · intro k acc; exact wait_step c k acc
  · unfold fillWait
    rw [if_pos (by decide)]
    isplitl [Hw]; · iexists _; iexact Hw
    rw [show 0 * NF = 0 from Nat.zero_mul _]
    iexact HB
  iintro %_ HI
  unfold fillWait
  rw [if_neg (Nat.not_lt.mpr (Nat.le_of_eq trips3.symm))]
  icases HI with ⟨Hw, HD, Hs1⟩
  unfold fillD
  ihave HD' := (Entails.of_eq (bigSep_sep' Finset.univ (tileZero (F := F) c) (fun t : Fin 32 => ztok (F := F) c t.val))) $$ HD
  icases HD' with ⟨HT, HZt⟩
  ihave HO := (tiles_out c) $$ HT
  ihave HO' := (Entails.of_eq (out_wins c d fr hok _)) $$ HO
  icases HO' with ⟨HWs, HOr⟩
  ihave HHs := (Entails.of_eq (hot_tiles c d fr)) $$ HH
  imod (Transfers.batch_alloc' (Lvl := ℕ) (EC (F := F)) (c : Thread nD τ) () NS (scatD (F := F) c d fr) (sm := .dma semScat) (E := Set.univ)) $$ Hs2 with HB
  sl_for (scatInv (F := F) c d fr) $$ [HR HB HWs HHs]
  · intro k acc; exact scat_step c d fr hd hok k acc
  · unfold scatInv
    rw [Ring.rangeSet_univ]
    isplitl [HR]; · iexact HR
    isplitl [HB]; · iexact HB
    isplitl [HWs]; · iexact HWs
    iexact HHs
  iintro %_ HI
  unfold scatInv
  icases HI with ⟨HR, HB, -, -⟩
  sl_for (scatWait (F := F) c d fr) $$ [HB Hw]
  · intro k acc; exact drain_step c d fr k acc
  · unfold scatWait
    rw [if_pos (by decide)]
    isplitl [Hw]; · iexact Hw
    rw [show 0 * NS = 0 from Nat.zero_mul _]
    iexact HB
  iintro %_ HI
  unfold scatWait
  rw [if_neg (Nat.not_lt.mpr (Nat.le_of_eq trips5.symm))]
  icases HI with ⟨Hw, HD, Hs2⟩
  unfold scatD
  ihave HD' := (Entails.of_eq (bigSep_sep' Finset.univ (winFull (F := F) c d fr) (hotTile (F := F) c d fr))) $$ HD
  icases HD' with ⟨HWs, HHs⟩
  sl_step
  isplitl [HC]; · iexact HC
  isplitl [HR]; · iexact HR
  isplitl [HWs HOr]
  · iapply (wins_out c d fr hok)
    isplitl [HWs] <;> iassumption
  isplitl [HZr HZt]
  · iexists _
    iapply (toks_zero c)
    isplitl [HZr] <;> iassumption
  isplitl [HHs]
  · iexists _
    iapply (Entails.of_eq (hot_tiles c d fr).symm)
    iexact HHs
  isplitl [Hs1]; · iexact Hs1
  isplitl [Hs2]; · iexact Hs2
  iexact Hw

end Cert.KernelIdeal.Scatter

end
-- ==== Proof.ScatterRegion.lean ====
/-
  The second kernel region: its proof data (the result and the kernel's own buffers and semaphores carried by the
  invariant) and its body obligation, from the body's triple.
-/
module

public import proofs.«01_k».proof.Proof.FillScatter
public import proofs.«01_k».proof.Proof.Gen.KernelIdeal.Points
public import Idealize.ShloMosaic.Lib.Pipeline.FrameBody
public import Idealize.ShloMosaic.Lib.Pipeline.RegionsLoop

@[expose] public section

noncomputable section

namespace Cert.KernelIdeal.Scatter

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : (c : Dev nD) → Valuation τ sig (Elt F))

/-- The column as the region stages it. -/
abbrev colIn (c : Dev nD) : S1x1.Idx → BitVec 32 := ((cfg1.win 0).blk t1_0).view.read (Elt F) (V c (Pipeline.arrRef spec1 0))
/-- The rows as the region stages them. -/
abbrev rowsIn (c : Dev nD) : S64x1.Idx → BitVec 32 := ((cfg1.win 1).blk t1_0).view.read (Elt F) (V c (Pipeline.arrRef spec1 1))

/-- What the result holds before the body (`k = 0`) and after it. -/
def resultAt (c : Dev nD) (k : ℕ) : S32x2097152.Idx → F .f32 :=
  if k = 0 then V c main_v2 else filled (F := F) (colIn V c at1) (rowsIn V c)

/-- The kernel's own semaphores. -/
def osem1 : Fin 2 → SemLoc sig
  | ⟨0, _⟩ => .dma semFill
  | ⟨1, _⟩ => .dma semScat

theorem ownSems1 (c : Dev nD) : (Pipeline.ownSems0 (Ix := Unit) (Name := ℕ) (U := UU) (Lvl := ℕ) (Val := Elt F) (τ := τ) osem1 c : sProp 𝕄)
    = iprop(semVal ((c : Thread nD τ), SemLoc.dma semFill) 0 ∗ semVal ((c : Thread nD τ), SemLoc.dma semScat) 0) :=
  Pipeline.ownSems0_eq_of_list c osem1 [(0 : Fin 2), (1 : Fin 2)] (by decide) (by decide)

/-- What rides along the second region: the result, the kernel's semaphores at zero, and the buffers it does not stage. -/
def inv1 (c : Dev nD) (k : ℕ) : sProp 𝕄 :=
  iprop((OUT.view.loc (c : Thread nD τ) ↦{fullShare} (resultAt V c k : Buf (Elt F) (OUT.view.loc (c : Thread nD τ))))
    ∗ (semVal ((c : Thread nD τ), SemLoc.dma semFill) 0 ∗ semVal ((c : Thread nD τ), SemLoc.dma semScat) 0)
    ∗ Pipeline.scopedRest (Ix := Unit) (Name := ℕ) (U := UU) (Lvl := ℕ) (Val := Elt F) spec1 c)

/-- The second region's proof data: the column and the rows as entered and left alone. -/
def dat1 (c : Dev nD) : Dat τ (Elt F) Unit ℕ UU ℕ cfg1 c where
  A w := V c (Pipeline.arrRef spec1 w)
  after w _ := match w with
    | ⟨0, _⟩ => colIn V c
    | ⟨1, _⟩ => rowsIn V c
  Φ k := inv1 V c k.val
  q _ := fullShare
  owed _ := 0

theorem before_col (c : Dev nD) (d) : (dat1 V c).before 0 t1_0 d = colIn V c := by
  unfold Dat.before; rw [if_pos (by decide)]; rfl
theorem before_row (c : Dev nD) (d) : (dat1 V c).before 1 t1_0 d = rowsIn V c := by
  unfold Dat.before; rw [if_pos (by decide)]; rfl

/-- The body at the one point as the pipeline calls it. -/
theorem defs_row1 (t : Fin cfg1.N) : defs₀ (F := F) .tc cfg1.body (cfg1.bodyArgs t (cfg1.slots t)) = bodyAt1 t := by
  unfold defs₀; rw [Defs.onTc_tc]

set_option maxHeartbeats 800000 in
/-- The second region's body obligation, for a column below 32 and rows each in its own window. -/
theorem obligation1 (c : Dev nD) (hd : (colIn V c at1).toNat < 32) (hok : RowsOk (rowsIn V c)) :
    BodyObligation (dat1 (F := F) V c) (defs₀ (F := F)) Variants.none () Set.univ := fun t => by
  obtain rfl := fin_N1 t
  rw [bigSep_W1, bigSep_W1, defs_row1]
  simp only [owns_whole_eq]
  rw [show (dat1 V c).Φ t1_0.castSucc = inv1 V c 0 from rfl, show (dat1 V c).Φ t1_0.succ = inv1 V c 1 from rfl,
    show (dat1 V c).owesAt () t1_0.succ = (dat1 V c).owesAt () t1_0.castSucc from rfl]
  unfold inv1
  rw [scopedRest1_eq]
  iintro ⟨⟨HO, ⟨Hs1, Hs2⟩, ⟨Ha, Hb, Hc, Hd, ⟨%fz, HZ⟩, ⟨%fh, HH⟩⟩⟩, Howes, ⟨%d0, %f0, %hf0, H0⟩, ⟨%d1, %f1, %hf1, H1⟩⟩
  rw [before_col] at hf0
  rw [before_row] at hf1
  subst hf0
  subst hf1
  unfold Pipeline.Dat.owesAt Pipeline.owesWithin
  icases Howes with ⟨%W, -, Hw⟩
  have hbody := fill_scatter (F := F) c (colIn V c) (rowsIn V c) hd hok (resultAt V c 0) fz fh W
  iapply (wp_wand_r Idealize.ShloMosaic.frame (wpE (defs₀ (F := F)) Variants.none (c : Thread nD τ) none) Set.univ)
  isplitl [HO Hs1 Hs2 HZ HH H0 H1 Hw]
  · iapply hbody
    isplitl [H0]; · iexact H0
    isplitl [H1]; · iexact H1
    isplitl [HO]; · iexact HO
    isplitl [HZ]; · iexact HZ
    isplitl [HH]; · iexact HH
    isplitl [Hs1]; · iexact Hs1
    isplitl [Hs2]; · iexact Hs2
    iexact Hw
  iintro %_ ⟨H0, H1, HO, HZ, HH, Hs1, Hs2, ⟨%W', Hw⟩⟩
  isplitl [HO Hs1 Hs2 Ha Hb Hc Hd HZ HH]
  · isplitl [HO]; · iexact HO
    isplitl [Hs1 Hs2]; · isplitl [Hs1] <;> iassumption
    isplitl [Ha]; · iexact Ha
    isplitl [Hb]; · iexact Hb
    isplitl [Hc]; · iexact Hc
    isplitl [Hd]; · iexact Hd
    isplitl [HZ] <;> iassumption
  isplitl [Hw]
  · iexists W'
    isplitr
    · ipureintro; exact fun _ _ => Or.inl trivial
    iexact Hw
  isplitl [H0]
  · iexists _; isplitr; swap; (· iexact H0); ipureintro; dsimp only [dat1]
  iexists _; isplitr; swap; (· iexact H1); ipureintro; dsimp only [dat1]

end Cert.KernelIdeal.Scatter

end
-- ==== Proof.KernelRun.lean ====
/-
  The whole kernel program run: the two regions' records over the contents of the unscoped buffers, and the run from any
  launch memory to the arguments unchanged, every counter at zero, and the result at the transpose of the filled array.
-/
module

public import proofs.«01_k».proof.Proof.SampleRegion
public import proofs.«01_k».proof.Proof.ScatterRegion
public import proofs.«01_k».proof.Proof.Gen.KernelIdeal.Regions

@[expose] public section

noncomputable section

namespace Cert.KernelIdeal.Scatter

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg HostSeg Seg)

variable {F : FTy → Type} [FloatOps F]

local notation "𝕄" => MT nD τ sig Unit (Elt F) ℕ UU ℕ

/-- No core owes another anything: no level is assigned. -/
abbrev L : GSem nD τ sig → Finset Unit := fun _ => ∅
abbrev lv : GSem nD τ sig → Unit → ℕ := fun _ _ => 0

variable (m : (ℓ : Loc nD τ sig) → Buf (Elt F) ℓ) (ρ : Dev nD → PrngReg)

/-- The rows' array as the first region leaves it. -/
def rowsOut (c : Dev nD) : S64x1.Idx → BitVec 32 := (dat0 (V1 m) c).arrAt 1 cfg0.N

/-- The unscoped buffers after the first region. -/
def W2 (c : Dev nD) : Valuation τ sig (Elt F) := Function.update (V1 m c) (main_v1 : Ref sig .tc) (rowsOut m c : Buf (Elt F) ((c : Thread nD τ).loc main_v1))

/-- The result of the second region. -/
def resultOut (c : Dev nD) : S32x2097152.Idx → F .f32 := filled (F := F) (colIn (W2 m) c at1) (rowsIn (W2 m) c)

/-- What each region leaves in the buffer it writes. -/
def outs : Outs (F := F) := fun _ r c => Function.update (W2 m c) (main_v2 : Ref sig .tc) (resultOut m c : Buf (Elt F) ((c : Thread nD τ).loc main_v2)) r

theorem outs_rows (c : Dev nD) : outs m 2 main_v1 c = (rowsOut m c : Buf (Elt F) ((c : Thread nD τ).loc main_v1)) := by
  unfold outs W2
  rw [Function.update_of_ne (StableHlo.devRef_ne_of_ne (by decide) : (Proc.devRef .tc main_v1 : DevRef τ sig) ≠ Proc.devRef .tc main_v2), Function.update_self]

theorem outs_result (c : Dev nD) : outs m 3 main_v2 c = (resultOut m c : Buf (Elt F) ((c : Thread nD τ).loc main_v2)) := by
  unfold outs
  rw [Function.update_self]

theorem V2_eq (c : Dev nD) : V2 m (outs m) c = W2 m c := by
  unfold W2; rw [← outs_rows m c]

theorem V3_eq (c : Dev nD) : V3 m (outs m) c = Function.update (W2 m c) (main_v2 : Ref sig .tc) (resultOut m c : Buf (Elt F) ((c : Thread nD τ).loc main_v2)) := by
  show Function.update (V2 m (outs m) c) _ (outs m 3 main_v2 c) = _
  rw [V2_eq, outs_result]

/-- The two regions' proof data. -/
def pdats : (p : Fin 2) → (c : Dev nD) → Dat τ (Elt F) Unit ℕ UU ℕ (cfgs p) c
  | ⟨0, _⟩ => fun c => dat0 (V1 m) c
  | ⟨1, _⟩ => fun c => dat1 (W2 m) c

/-- The core's own dues, met. -/
abbrev nothingOwed (c : Dev nD) : sProp 𝕄 := iprop(∃ W, owes (c : Thread nD τ) (0 : CellTallies nD τ sig Unit) W)

set_option backward.isDefEq.respectTransparency.types false in
/-- The first region's record: entered with every unscoped buffer at its launch contents after the host's reshape, left
    with the rows' array at what the points wrote back. -/
def reg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (obligation0 (V1 m) c).loose
  hwaits := Pipeline.hwaits_of_owed_zero _ _ _ _ L lv 0 fun _ _ => rfl
  pre c := iprop(unscopedBufs c (fun b => V1 m c b) ∗ nothingOwed (F := F) c)
  post c := iprop(unscopedBufs c (fun b => W2 m c b) ∗ nothingOwed (F := F) c)
  X _ := BI.emp
  Y _ := BI.emp
  Z c := Pipeline.unscopedRest (Ix := Unit) (Name := ℕ) (U := UU) (Lvl := ℕ) spec0 c (fun b => V1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V1 m c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = rest0 (F := F) c from rfl]
    iintro ⟨-, -, Hr⟩; iexact Hr
  hout c := by
    rw [Pipeline.ownSems0_none, show (pdats m 0 c).Φ (Fin.last _) = rest0 (F := F) c from rfl]
    iintro Hr
    isplitr; · iempintro
    isplitr; · iempintro
    iexact Hr
  hexit c := by
    have hne : ∀ b : Ref sig .tc, b ≠ main_v1 → W2 m c b = V1 m c b := fun b h => by
      unfold W2
      rw [Function.update_of_ne (StableHlo.devRef_ne_of_ne h : (Proc.devRef .tc b : DevRef τ sig) ≠ Proc.devRef .tc main_v1)]
    have hself : W2 m c main_v1 = (rowsOut m c : Buf (Elt F) ((c : Thread nD τ).loc main_v1)) := by
      unfold W2; rw [Function.update_self]
    have hjoin := Pipeline.unscopedBufs_of_arrays (p := 0) (pcfgs (F := F)) adm (Ix := Unit) (Name := ℕ) (U := UU) (Lvl := ℕ) launch0.win launch0.arr_whole c
      (pdats m) ((pdats m 0 c).share_full fun _ => rfl) (fun b => V1 m c b) (fun b => W2 m c b) ((pdats m 0 c).arrAt · cfg0.N)
      (fun w => by
        fin_cases w
        · exact ((pdats m 0 c).arrAt_in 0 rfl _).trans (hne main_arg0 (by decide)).symm
        · exact hself.symm)
      (fun b hb => hne b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

theorem osem1_facts : Pipeline.OwnSemFacts spec1 osem1 := by decide

set_option backward.isDefEq.respectTransparency.types false in
/-- The second region's record: entered as the first leaves, left with the result filled. -/
def reg1 (hd : ∀ c, (colIn (W2 m) c at1).toNat < 32) (hok : ∀ c, RowsOk (rowsIn (W2 m) c)) :
    RegionSeg (pcfgs (F := F)) adm (pdats m) () defs₀ Variants.none L lv 1 where
  win := launch1.win.to₀
  block_pos := launch1.block_pos
  stage_whole := launch1.stage_whole
  K := Fin 2
  osem := osem1
  ho := osem1_facts
  hbody c := (obligation1 (W2 m) c (hd c) (hok c)).loose
  hwaits := Pipeline.hwaits_of_owed_zero _ _ _ _ L lv 1 fun _ _ => rfl
  pre c := iprop(unscopedBufs c (fun b => W2 m c b) ∗ nothingOwed (F := F) c)
  post c := iprop(unscopedBufs c (fun b => V3 m (outs m) c b) ∗ nothingOwed (F := F) c)
  X c := iprop((OUT.view.loc (c : Thread nD τ) ↦{fullShare} (resultAt (W2 m) c 0 : Buf (Elt F) (OUT.view.loc (c : Thread nD τ))))
    ∗ Pipeline.ownSems0 (Ix := Unit) (Name := ℕ) (U := UU) (Lvl := ℕ) (Val := Elt F) (τ := τ) osem1 c)
  Y c := (OUT.view.loc (c : Thread nD τ) ↦{fullShare} (resultAt (W2 m) c 1 : Buf (Elt F) (OUT.view.loc (c : Thread nD τ))))
  Z c := iprop((((c : Thread nD τ).loc main_arg0) ↦{fullShare} W2 m c main_arg0) ∗ (((c : Thread nD τ).loc main_arg1) ↦{fullShare} W2 m c main_arg1)
    ∗ (((c : Thread nD τ).loc main_arg2) ↦{fullShare} W2 m c main_arg2) ∗ (((c : Thread nD τ).loc main_arg3) ↦{fullShare} W2 m c main_arg3)
    ∗ (((c : Thread nD τ).loc main_v3) ↦{fullShare} W2 m c main_v3))
  hentry c := by
    have hsplit := Pipeline.arrays_of_unscopedBufs (p := 1) (pcfgs (F := F)) adm (pdats m) launch1.win launch1.arr_whole c
      ((pdats m 1 c).share_full fun _ => rfl) (fun b => W2 m c b) fun _ => rfl
    have hrest := unscopedRest1_eq (Ix := Unit) (Name := ℕ) (U := UU) (Lvl := ℕ) c (fun b => W2 m c b)
    iintro ⟨⟨Hub, HO⟩, Hs, -⟩
    ihave H := hsplit $$ Hub
    icases H with ⟨Ha, Hrest⟩
    ihave Hrest' := (Entails.of_eq hrest) $$ Hrest
    icases Hrest' with ⟨R0, R1, R2, R3, RO, RT⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [RO Hs]
    · isplitl [RO]; · iexact RO
      iexact Hs
    isplitl [R0]; · iexact R0
    isplitl [R1]; · iexact R1
    isplitl [R2]; · iexact R2
    isplitl [R3] <;> iassumption
  hin c := by
    rw [show (pdats m 1 c).Φ 0 = inv1 (W2 m) c 0 from rfl]
    unfold inv1
    rw [ownSems1]
    iintro ⟨⟨HO, Hs⟩, -, Hr⟩
    isplitl [HO]; · iexact HO
    isplitl [Hs] <;> iassumption
  hout c := by
    rw [show (pdats m 1 c).Φ (Fin.last _) = inv1 (W2 m) c 1 from rfl, ownSems1]
    unfold inv1
    exact .rfl
  hexit c := by
    have hne : ∀ b : Ref sig .tc, b ≠ main_v2 → V3 m (outs m) c b = W2 m c b := fun b h => by
      rw [V3_eq, Function.update_of_ne (StableHlo.devRef_ne_of_ne h : (Proc.devRef .tc b : DevRef τ sig) ≠ Proc.devRef .tc main_v2)]
    have hself : V3 m (outs m) c main_v2 = (resultAt (W2 m) c 1 : Buf (Elt F) ((c : Thread nD τ).loc main_v2)) := by
      rw [V3_eq, Function.update_self]; rfl
    have hjoin := Pipeline.unscopedBufs_of_arrays (p := 1) (pcfgs (F := F)) adm (Ix := Unit) (Name := ℕ) (U := UU) (Lvl := ℕ) launch1.win launch1.arr_whole c
      (pdats m) ((pdats m 1 c).share_full fun _ => rfl) (fun b => V3 m (outs m) c b) (fun b => V3 m (outs m) c b) ((pdats m 1 c).arrAt · cfg1.N)
      (fun w => by
        fin_cases w
        · exact ((pdats m 1 c).arrAt_in 0 rfl _).trans (hne main_v0 (by decide)).symm
        · exact ((pdats m 1 c).arrAt_in 1 rfl _).trans (hne main_v1 (by decide)).symm)
      (fun b hb => rfl)
    have hrest := unscopedRest1_eq (Ix := Unit) (Name := ℕ) (U := UU) (Lvl := ℕ) c (fun b => V3 m (outs m) c b)
    rw [hne main_arg0 (by decide), hne main_arg1 (by decide), hne main_arg2 (by decide), hne main_arg3 (by decide), hne main_v3 (by decide), hself] at hrest
    iintro ⟨Ha, HO, HY, ⟨R0, R1, R2, R3, RT⟩⟩
    imodintro
    isplitr [HO]
    · iapply hjoin
      isplitl [Ha]; · iexact Ha
      iapply (Entails.of_eq hrest.symm)
      isplitl [R0]; · iexact R0
      isplitl [R1]; · iexact R1
      isplitl [R2]; · iexact R2
      isplitl [R3]; · iexact R3
      isplitl [HY] <;> iassumption
    unfold Pipeline.Dat.owesAt Pipeline.owesWithin
    icases HO with ⟨%W, -, HO⟩; iexists W; iexact HO

/-! ## The run -/

/-- The pipeline's part of the proof's own resources. -/
def EP : Emb (UR sig nD τ) 𝕄 :=
  (Emb.inl : Emb (UR sig nD τ) UU).trans (uEmb (nD := nD) (sig := sig) (Ix := Unit) (Val := Elt F) (Name := ℕ) (U := UU) (Lvl := ℕ)).toEmb

instance EP_landsIn : (EP : Emb (UR sig nD τ) 𝕄).LandsIn (upEmb : UEmb _ 𝕄) := by unfold EP; infer_instance

/-- What the launch starts the proof's own resources at. -/
def u₀ : UU := (initOf (Pipeline.cells cfgs cellOf_inj) (Pipeline.launchToks cfgs cellOf_inj), 1)

/-- The launch's resources are the pipeline's. -/
theorem launch_own : (ownU u₀ : sProp 𝕄) ⊢ BI.own (EP (F := F) (initOf (Pipeline.cells cfgs cellOf_inj) (Pipeline.launchToks cfgs cellOf_inj))) :=
  Entails.of_eq rfl

set_option backward.isDefEq.respectTransparency.types false in
/-- The kernel program from any launch memory whose column is below 32 and whose sampled rows lie each in its own window:
    it terminates with the arguments as launched, the result at what the last host operation makes of the filled array,
    and every semaphore counter at zero. -/
theorem run (hd : ∀ c, (colIn (W2 m) c at1).toNat < 32) (hok : ∀ c, RowsOk (rowsIn (W2 m) c)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v3) = V4 m (outs m) c main_v3)
      ∧ r.2.sem = fun _ => 0) := by
  have hheld : ∀ (c : Dev nD) (V : Valuation τ sig (Elt F)), (unscopedBufs c (fun b => V b) : sProp 𝕄) = StableHlo.held (c : Thread nD τ) (Pipeline.ucRefs τ sig) V :=
    fun c V => Pipeline.unscopedBufs_held (Ix := Unit) (Name := ℕ) (U := UU) (Lvl := ℕ) c V
  have hpre0 : ∀ c : Dev nD, iprop(StableHlo.held (c : Thread nD τ) (Pipeline.ucRefs τ sig) (V1 m c) ∗ nothingOwed (F := F) c) ⊢ (reg0 m).pre c := fun c =>
    sep_mono (Entails.of_eq (hheld c (V1 m c)).symm) .rfl
  have hmid : ∀ c : Dev nD, (reg0 m).post c ⊢ (reg1 m hd hok).pre c := fun c => .rfl
  have hpost1 : ∀ c : Dev nD, (reg1 m hd hok).post c ⊢ iprop(StableHlo.held (c : Thread nD τ) (Pipeline.ucRefs τ sig) (V3 m (outs m) c) ∗ nothingOwed (F := F) c) := fun c =>
    sep_mono (Entails.of_eq (hheld c (V3 m (outs m) c))) .rfl
  refine Pipeline.θ_run_regions_kit_dev_sems (pcfgs (F := F)) adm (pdats m) () cellOf_inj EP defs₀ Variants.none L lv m ρ main
    (segs m (outs m) Variants.none L lv (fun _ c => nothingOwed (F := F) c) () (pdats m) (reg0 m) (reg1 m hd hok))
    (fun c Q => by
      rewrite [main_chain c, Seg.run_eq_chain,
        show (segs m (outs m) Variants.none L lv (fun _ c => nothingOwed (F := F) c) () (pdats m) (reg0 m) (reg1 m hd hok) c).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) (fun _ _ => rfl) (fun _ => BI.emp) u₀ ?_
    (T₀ := fun c => iprop(StableHlo.held (c : Thread nD τ) (Pipeline.ucRefs τ sig) (V0 m c) ∗ nothingOwed (F := F) c))
    (Tₙ := fun c => StableHlo.held (c : Thread nD τ) (Pipeline.ucRefs τ sig) (V4 m (outs m) c))
    (hch := fun c => ⟨.rfl, hpre0 c, hmid c, hpost1 c, .rfl⟩)
    (hinit := ?_) (QY := fun c s => s.mem ((c.tc : Thread nD τ).loc main_arg0) = m ((c.tc : Thread nD τ).loc main_arg0) ∧ s.mem ((c.tc : Thread nD τ).loc main_arg1) = m ((c.tc : Thread nD τ).loc main_arg1)
      ∧ s.mem ((c.tc : Thread nD τ).loc main_arg2) = m ((c.tc : Thread nD τ).loc main_arg2) ∧ s.mem ((c.tc : Thread nD τ).loc main_arg3) = m ((c.tc : Thread nD τ).loc main_arg3)
      ∧ s.mem ((c.tc : Thread nD τ).loc main_v3) = V4 m (outs m) c main_v3)
    (hfin := fun c s' => ?_) (hQ := fun _ h hz => ⟨h, funext fun g => hz g (.inr (regions_no_unscoped g.2))⟩)
  · iintro Hu
    imodintro
    isplitl [Hu]
    · iapply launch_own; iexact Hu
    · rw [bigSep_emp_const]; iempintro
  · have hc : ∀ c ∈ (Finset.univ : Finset (Dev nD)), iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ (BI.emp : sProp 𝕄))
        ⊢ iprop(StableHlo.held (c : Thread nD τ) (Pipeline.ucRefs τ sig) (V0 m c) ∗ nothingOwed (F := F) c) := fun c _ => by
      have h0 := Entails.of_eq (hheld c (V0 m c))
      iintro ⟨H, -, Ho, -⟩
      isplitl [H]; · iapply h0; iexact H
      iexists _; iexact Ho
    have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ (BI.emp : sProp 𝕄)))
        ⊢ (bigSep Finset.univ fun c : Dev nD => iprop(StableHlo.held (c : Thread nD τ) (Pipeline.ucRefs τ sig) (V0 m c) ∗ nothingOwed (F := F) c) : sProp 𝕄) := bigSep_mono hc
    iintro ⟨H, -⟩
    imodintro
    iapply hsplit
    iexact H
  · unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      have at' : ∀ r : Ref sig .tc, ¬ (Proc.devRef .tc r : DevRef τ sig).isScoped → s'.mem.mem ((c.tc : Thread nD τ).loc r) = V4 m (outs m) c r := fun r hr =>
        h (Proc.devRef .tc r) (Finset.mem_filter.mpr ⟨StableHlo.devRef_mem_tcRefs r, hr⟩)
      exact ⟨(at' main_arg0 (by decide)).trans (V4_main_arg0 m (outs m) c), (at' main_arg1 (by decide)).trans (V4_main_arg1 m (outs m) c),
        (at' main_arg2 (by decide)).trans (V4_main_arg2 m (outs m) c), (at' main_arg3 (by decide)).trans (V4_main_arg3 m (outs m) c), at' main_v3 (by decide)⟩
    · iexact HSI

end Cert.KernelIdeal.Scatter

end
-- ==== Proof.RefOps.lean ====
/-
  The reference's run, part 1 of 3: its operations as lists, and the arrays they compute, named.
-/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v7`, named. It packs its operands into a list of dependent pairs
    whose shapes a later argument's type mentions, so `simp` cannot rewrite an operand where it stands; applied by
    name, the operands are plain arguments, which the window lemmas below rewrite before the name unfolds. -/
def fn_main_v7 : (⟨S1, .i32⟩ : BufTy).Contents (Elt F) → (⟨S1, .i32⟩ : BufTy).Contents (Elt F) → (⟨S2, .i32⟩ : BufTy).Contents (Elt F) :=
  (fun a b => concatenate S2 0 [⟨S1, a⟩, ⟨S1, b⟩] concatenates_S1_S1_S2_d0)

/-- The function of the operation that writes `main_v37`, named. It packs its operands into a list of dependent pairs
    whose shapes a later argument's type mentions, so `simp` cannot rewrite an operand where it stands; applied by
    name, the operands are plain arguments, which the window lemmas below rewrite before the name unfolds. -/
def fn_main_v37 : (⟨S64x1, .i32⟩ : BufTy).Contents (Elt F) → (⟨S64x1, .i32⟩ : BufTy).Contents (Elt F) → (⟨S64x2, .i32⟩ : BufTy).Contents (Elt F) :=
  (fun a b => concatenate S64x2 1 [⟨S64x1, a⟩, ⟨S64x1, b⟩] concatenates_S64x1_S64x1_S64x2_d1)

/-- The function of the operation that writes `main_v52`, named. It packs its operands into a list of dependent pairs
    whose shapes a later argument's type mentions, so `simp` cannot rewrite an operand where it stands; applied by
    name, the operands are plain arguments, which the window lemmas below rewrite before the name unfolds. -/
def fn_main_v52 : (⟨S64x1, .i32⟩ : BufTy).Contents (Elt F) → (⟨S64x1, .i32⟩ : BufTy).Contents (Elt F) → (⟨S64x2, .i32⟩ : BufTy).Contents (Elt F) :=
  (fun a b => concatenate S64x2 1 [⟨S64x1, a⟩, ⟨S64x1, b⟩] concatenates_S64x1_S64x1_S64x2_d1)

/-- The function of the operation that writes `main_v54`, named. It packs its operands into a list of dependent pairs
    whose shapes a later argument's type mentions, so `simp` cannot rewrite an operand where it stands; applied by
    name, the operands are plain arguments, which the window lemmas below rewrite before the name unfolds. -/
def fn_main_v54 : (⟨S1048576x32, .f32⟩ : BufTy).Contents (Elt F) → (⟨S1048576x32, .f32⟩ : BufTy).Contents (Elt F) → (⟨S2097152x32, .f32⟩ : BufTy).Contents (Elt F) :=
  (fun a b => concatenate S2097152x32 0 [⟨S1048576x32, a⟩, ⟨S1048576x32, b⟩] concatenates_S1048576x32_S1048576x32_S2097152x32_d0)

/-- @main's operations 1 … 30 of 369 (window `main_part0`). -/
abbrev ops_part0_0 : List (HloOp τ sig (Elt F)) :=
  [ TRef.binary (TRef.of (T := ⟨S64x32768, .f32⟩) main_arg0) (TRef.of (T := ⟨S64x32768, .f32⟩) main_arg0) (TRef.of (T := ⟨S64x32768, .i1⟩) main_call0_v0) (cmpf .une),
    TRef.nullary (TRef.of (T := ⟨S_, .f32⟩) main_call0_cst) (constant S_ .f32 0x00000000#32),
    TRef.unary (TRef.of (T := ⟨S_, .f32⟩) main_call0_cst) (TRef.of (T := ⟨S64x32768, .f32⟩) main_call0_call0_v0) (broadcastInDim S64x32768 ![] bcast_S_S64x32768),
    TRef.ternary (TRef.of (T := ⟨S64x32768, .i1⟩) main_call0_v0) (TRef.of (T := ⟨S64x32768, .f32⟩) main_call0_call0_v0) (TRef.of (T := ⟨S64x32768, .f32⟩) main_arg0) (TRef.of (T := ⟨S64x32768, .f32⟩) main_call0_v1) select,
    TRef.nullary (TRef.of (T := ⟨S_, .f32⟩) main_call0_cst_0) (constant S_ .f32 0x7F800000#32),
    TRef.unary (TRef.of (T := ⟨S_, .f32⟩) main_call0_cst_0) (TRef.of (T := ⟨S64x32768, .f32⟩) main_call0_v2) (broadcastInDim S64x32768 ![] bcast_S_S64x32768),
    TRef.binary (TRef.of (T := ⟨S64x32768, .f32⟩) main_call0_v1) (TRef.of (T := ⟨S64x32768, .f32⟩) main_call0_v2) (TRef.of (T := ⟨S64x32768, .i1⟩) main_call0_v3) (cmpf .oeq),
    TRef.nullary (TRef.of (T := ⟨S_, .f32⟩) main_call0_cst_1) (constant S_ .f32 0x7F7FFFFF#32),
    TRef.unary (TRef.of (T := ⟨S_, .f32⟩) main_call0_cst_1) (TRef.of (T := ⟨S64x32768, .f32⟩) main_call0_call1_v0) (broadcastInDim S64x32768 ![] bcast_S_S64x32768),
    TRef.ternary (TRef.of (T := ⟨S64x32768, .i1⟩) main_call0_v3) (TRef.of (T := ⟨S64x32768, .f32⟩) main_call0_call1_v0) (TRef.of (T := ⟨S64x32768, .f32⟩) main_call0_v1) (TRef.of (T := ⟨S64x32768, .f32⟩) main_call0_v4) select,
    TRef.nullary (TRef.of (T := ⟨S_, .f32⟩) main_call0_cst_2) (constant S_ .f32 0xFF800000#32),
    TRef.unary (TRef.of (T := ⟨S_, .f32⟩) main_call0_cst_2) (TRef.of (T := ⟨S64x32768, .f32⟩) main_call0_v5) (broadcastInDim S64x32768 ![] bcast_S_S64x32768),
    TRef.binary (TRef.of (T := ⟨S64x32768, .f32⟩) main_call0_v4) (TRef.of (T := ⟨S64x32768, .f32⟩) main_call0_v5) (TRef.of (T := ⟨S64x32768, .i1⟩) main_call0_v6) (cmpf .oeq),
    TRef.nullary (TRef.of (T := ⟨S_, .f32⟩) main_call0_cst_3) (constant S_ .f32 0xFF7FFFFF#32),
    TRef.unary (TRef.of (T := ⟨S_, .f32⟩) main_call0_cst_3) (TRef.of (T := ⟨S64x32768, .f32⟩) main_call0_call2_v0) (broadcastInDim S64x32768 ![] bcast_S_S64x32768),
    TRef.ternary (TRef.of (T := ⟨S64x32768, .i1⟩) main_call0_v6) (TRef.of (T := ⟨S64x32768, .f32⟩) main_call0_call2_v0) (TRef.of (T := ⟨S64x32768, .f32⟩) main_call0_v4) (TRef.of (T := ⟨S64x32768, .f32⟩) main_v0) select,
    nullary main_c (constantI S_ 32 12345#32),
    nullary main_c_0 (constantI S_ 32 32#32),
    binary main_c main_c_0 main_v1 (Host.shrui : (⟨S_, .i32⟩ : BufTy).Contents (Elt F) → (⟨S_, .i32⟩ : BufTy).Contents (Elt F) → (⟨S_, .i32⟩ : BufTy).Contents (Elt F)),
    unary main_v1 main_v2 (id : (⟨S_, .i32⟩ : BufTy).Contents (Elt F) → (⟨S_, .i32⟩ : BufTy).Contents (Elt F)),
    unary main_v2 main_v3 (broadcastInDim S1 ![] bcast_S_S1 : (⟨S_, .i32⟩ : BufTy).Contents (Elt F) → (⟨S1, .i32⟩ : BufTy).Contents (Elt F)),
    nullary main_c_1 (constantI S_ 32 4294967295#32),
    binary main_c main_c_1 main_v4 (andi : (⟨S_, .i32⟩ : BufTy).Contents (Elt F) → (⟨S_, .i32⟩ : BufTy).Contents (Elt F) → (⟨S_, .i32⟩ : BufTy).Contents (Elt F)),
    unary main_v4 main_v5 (id : (⟨S_, .i32⟩ : BufTy).Contents (Elt F) → (⟨S_, .i32⟩ : BufTy).Contents (Elt F)),
    unary main_v5 main_v6 (broadcastInDim S1 ![] bcast_S_S1 : (⟨S_, .i32⟩ : BufTy).Contents (Elt F) → (⟨S1, .i32⟩ : BufTy).Contents (Elt F)),
    binary main_v3 main_v6 main_v7 (fn_main_v7 (F := F)),
    TRef.nullary (TRef.of (T := ⟨S_, .f32⟩) main_call1_cst) (constant S_ .f32 0x3F800000#32),
    TRef.nullary (TRef.of (T := ⟨S_, .f32⟩) main_call1_cst_0) (constant S_ .f32 0x00800000#32),
    TRef.unary (TRef.of (T := ⟨S_, .f32⟩) main_call1_cst) (TRef.of (T := ⟨S_, .f32⟩) main_call1_call0_v0) id,
    TRef.unary (TRef.of (T := ⟨S_, .f32⟩) main_call1_cst_0) (TRef.of (T := ⟨S1x1, .f32⟩) main_call1_call0_v1) (broadcastInDim S1x1 ![] bcast_S_S1x1) ]

/-- @main's operations 31 … 60 of 369 (window `main_part0`). -/
abbrev ops_part0_1 : List (HloOp τ sig (Elt F)) :=
  [ TRef.unary (TRef.of (T := ⟨S_, .f32⟩) main_call1_call0_v0) (TRef.of (T := ⟨S1x1, .f32⟩) main_call1_call0_v2) (broadcastInDim S1x1 ![] bcast_S_S1x1),
    TRef.unary (TRef.of (T := ⟨S2, .i32⟩) main_v7) (TRef.of (T := ⟨S1, .i32⟩) main_call1_call0_v3) (extractStridedSlice S1 ![0] · slices_S2_S1_0),
    TRef.reshape (TRef.of (T := ⟨S1, .i32⟩) main_call1_call0_v3) (TRef.of (T := ⟨S_, .i32⟩) main_call1_call0_v4) (rfl : (.i32 : EltTy) = .i32) shapeCasts_S1_S_,
    TRef.unary (TRef.of (T := ⟨S2, .i32⟩) main_v7) (TRef.of (T := ⟨S1, .i32⟩) main_call1_call0_v5) (extractStridedSlice S1 ![1] · slices_S2_S1_1),
    TRef.reshape (TRef.of (T := ⟨S1, .i32⟩) main_call1_call0_v5) (TRef.of (T := ⟨S_, .i32⟩) main_call1_call0_v6) (rfl : (.i32 : EltTy) = .i32) shapeCasts_S1_S_,
    TRef.nullary (TRef.of (T := ⟨S64x32768, .i64⟩) main_call1_call0_v7) (iotaInDim S64x32768 64 0),
    TRef.nullary (TRef.of (T := ⟨S64x32768, .i64⟩) main_call1_call0_v8) (iotaInDim S64x32768 64 1),
    TRef.nullary (TRef.of (T := ⟨S_, .i64⟩) main_call1_call0_c) (constantI S_ 64 32768#64),
    TRef.unary (TRef.of (T := ⟨S_, .i64⟩) main_call1_call0_c) (TRef.of (T := ⟨S64x32768, .i64⟩) main_call1_call0_v9) (broadcastInDim S64x32768 ![] bcast_S_S64x32768),
    TRef.binary (TRef.of (T := ⟨S64x32768, .i64⟩) main_call1_call0_v9) (TRef.of (T := ⟨S64x32768, .i64⟩) main_call1_call0_v7) (TRef.of (T := ⟨S64x32768, .i64⟩) main_call1_call0_v10) muli,
    TRef.nullary (TRef.of (T := ⟨S_, .i64⟩) main_call1_call0_c_0) (constantI S_ 64 1#64),
    TRef.unary (TRef.of (T := ⟨S_, .i64⟩) main_call1_call0_c_0) (TRef.of (T := ⟨S64x32768, .i64⟩) main_call1_call0_v11) (broadcastInDim S64x32768 ![] bcast_S_S64x32768),
    TRef.binary (TRef.of (T := ⟨S64x32768, .i64⟩) main_call1_call0_v11) (TRef.of (T := ⟨S64x32768, .i64⟩) main_call1_call0_v8) (TRef.of (T := ⟨S64x32768, .i64⟩) main_call1_call0_v12) muli,
    TRef.binary (TRef.of (T := ⟨S64x32768, .i64⟩) main_call1_call0_v10) (TRef.of (T := ⟨S64x32768, .i64⟩) main_call1_call0_v12) (TRef.of (T := ⟨S64x32768, .i64⟩) main_call1_call0_v13) addi,
    TRef.nullary (TRef.of (T := ⟨S_, .i64⟩) main_call1_call0_c_1) (constantI S_ 64 32#64),
    TRef.unary (TRef.of (T := ⟨S_, .i64⟩) main_call1_call0_c_1) (TRef.of (T := ⟨S64x32768, .i64⟩) main_call1_call0_v14) (broadcastInDim S64x32768 ![] bcast_S_S64x32768),
    TRef.binary (TRef.of (T := ⟨S64x32768, .i64⟩) main_call1_call0_v13) (TRef.of (T := ⟨S64x32768, .i64⟩) main_call1_call0_v14) (TRef.of (T := ⟨S64x32768, .i64⟩) main_call1_call0_v15) Host.shrui,
    TRef.unary (TRef.of (T := ⟨S64x32768, .i64⟩) main_call1_call0_v13) (TRef.of (T := ⟨S64x32768, .i32⟩) main_call1_call0_v16) (trunci 32 · natLt_32_64),
    TRef.unary (TRef.of (T := ⟨S64x32768, .i64⟩) main_call1_call0_v15) (TRef.of (T := ⟨S64x32768, .i32⟩) main_call1_call0_v17) (trunci 32 · natLt_32_64),
    TRef.binary (TRef.of (T := ⟨S_, .i32⟩) main_call1_call0_v4) (TRef.of (T := ⟨S_, .i32⟩) main_call1_call0_v6) (TRef.of (T := ⟨S_, .i32⟩) main_call1_call0_call0_v0) xori,
    TRef.nullary (TRef.of (T := ⟨S_, .i32⟩) main_call1_call0_call0_c) (constantI S_ 32 466688986#32),
    TRef.binary (TRef.of (T := ⟨S_, .i32⟩) main_call1_call0_call0_v0) (TRef.of (T := ⟨S_, .i32⟩) main_call1_call0_call0_c) (TRef.of (T := ⟨S_, .i32⟩) main_call1_call0_call0_v1) xori,
    TRef.unary (TRef.of (T := ⟨S_, .i32⟩) main_call1_call0_v4) (TRef.of (T := ⟨S64x32768, .i32⟩) main_call1_call0_call0_v2) (broadcastInDim S64x32768 ![] bcast_S_S64x32768),
    TRef.binary (TRef.of (T := ⟨S64x32768, .i32⟩) main_call1_call0_v17) (TRef.of (T := ⟨S64x32768, .i32⟩) main_call1_call0_call0_v2) (TRef.of (T := ⟨S64x32768, .i32⟩) main_call1_call0_call0_v3) addi,
    TRef.unary (TRef.of (T := ⟨S_, .i32⟩) main_call1_call0_v6) (TRef.of (T := ⟨S64x32768, .i32⟩) main_call1_call0_call0_v4) (broadcastInDim S64x32768 ![] bcast_S_S64x32768),
    TRef.binary (TRef.of (T := ⟨S64x32768, .i32⟩) main_call1_call0_v16) (TRef.of (T := ⟨S64x32768, .i32⟩) main_call1_call0_call0_v4) (TRef.of (T := ⟨S64x32768, .i32⟩) main_call1_call0_call0_v5) addi,
    TRef.binary (TRef.of (T := ⟨S64x32768, .i32⟩) main_call1_call0_call0_v3) (TRef.of (T := ⟨S64x32768, .i32⟩) main_call1_call0_call0_v5) (TRef.of (T := ⟨S64x32768, .i32⟩) main_call1_call0_call0_v6) addi,
    TRef.nullary (TRef.of (T := ⟨S_, .i32⟩) main_call1_call0_call0_c_0) (constantI S_ 32 13#32),
    TRef.unary (TRef.of (T := ⟨S_, .i32⟩) main_call1_call0_call0_c_0) (TRef.of (T := ⟨S64x32768, .i32⟩) main_call1_call0_call0_v7) (broadcastInDim S64x32768 ![] bcast_S_S64x32768),
    TRef.binary (TRef.of (T := ⟨S64x32768, .i32⟩) main_call1_call0_call0_v5) (TRef.of (T := ⟨S64x32768, .i32⟩) main_call1_call0_call0_v7) (TRef.of (T := ⟨S64x32768, .i32⟩) main_call1_call0_call0_v8) Host.shli ]

/-- @main's operations 61 … 90 of 369 (window `main_part0`). -/
abbrev ops_part0_2 : List (HloOp τ sig (Elt F)) :=
  [ TRef.nullary (TRef.of (T := ⟨S_, .i32⟩) main_call1_call0_call0_c_1) (constantI S_ 32 19#32),
    TRef.unary (TRef.of (T := ⟨S_, .i32⟩) main_call1_call0_call0_c_1) (TRef.of (T := ⟨S64x32768, .i32⟩) main_call1_call0_call0_v9) (broadcastInDim S64x32768 ![] bcast_S_S64x32768),
    TRef.binary (TRef.of (T := ⟨S64x32768, .i32⟩) main_call1_call0_call0_v5) (TRef.of (T := ⟨S64x32768, .i32⟩) main_call1_call0_call0_v9) (TRef.of (T := ⟨S64x32768, .i32⟩) main_call1_call0_call0_v10) Host.shrui,
    TRef.binary (TRef.of (T := ⟨S64x32768, .i32⟩) main_call1_call0_call0_v8) (TRef.of (T := ⟨S64x32768, .i32⟩) main_call1_call0_call0_v10) (TRef.of (T := ⟨S64x32768, .i32⟩) main_call1_call0_call0_v11) ori,
    TRef.binary (TRef.of (T := ⟨S64x32768, .i32⟩) main_call1_call0_call0_v6) (TRef.of (T := ⟨S64x32768, .i32⟩) main_call1_call0_call0_v11) (TRef.of (T := ⟨S64x32768, .i32⟩) main_call1_call0_call0_v12) xori,
    TRef.binary (TRef.of (T := ⟨S64x32768, .i32⟩) main_call1_call0_call0_v6) (TRef.of (T := ⟨S64x32768, .i32⟩) main_call1_call0_call0_v12) (TRef.of (T := ⟨S64x32768, .i32⟩) main_call1_call0_call0_v13) addi,
    TRef.nullary (TRef.of (T := ⟨S_, .i32⟩) main_call1_call0_call0_c_2) (constantI S_ 32 15#32),
    TRef.unary (TRef.of (T := ⟨S_, .i32⟩) main_call1_call0_call0_c_2) (TRef.of (T := ⟨S64x32768, .i32⟩) main_call1_call0_call0_v14) (broadcastInDim S64x32768 ![] bcast_S_S64x32768),
    TRef.binary (TRef.of (T := ⟨S64x32768, .i32⟩) main_call1_call0_call0_v12) (TRef.of (T := ⟨S64x32768, .i32⟩) main_call1_call0_call0_v14) (TRef.of (T := ⟨S64x32768, .i32⟩) main_call1_call0_call0_v15) Host.shli,
    TRef.nullary (TRef.of (T := ⟨S_, .i32⟩) main_call1_call0_call0_c_3) (constantI S_ 32 17#32),
    TRef.unary (TRef.of (T := ⟨S_, .i32⟩) main_call1_call0_call0_c_3) (TRef.of (T := ⟨S64x32768, .i32⟩) main_call1_call0_call0_v16) (broadcastInDim S64x32768 ![] bcast_S_S64x32768),
    TRef.binary (TRef.of (T := ⟨S64x32768, .i32⟩) main_call1_call0_call0_v12) (TRef.of (T := ⟨S64x32768, .i32⟩) main_call1_call0_call0_v16) (TRef.of (T := ⟨S64x32768, .i32⟩) main_call1_call0_call0_v17) Host.shrui,
    TRef.binary (TRef.of (T := ⟨S64x32768, .i32⟩) main_call1_call0_call0_v15) (TRef.of (T := ⟨S64x32768, .i32⟩) main_call1_call0_call0_v17) (TRef.of (T := ⟨S64x32768, .i32⟩) main_call1_call0_call0_v18) ori,
    TRef.binary (TRef.of (T := ⟨S64x32768, .i32⟩) main_call1_call0_call0_v13) (TRef.of (T := ⟨S64x32768, .i32⟩) main_call1_call0_call0_v18) (TRef.of (T := ⟨S64x32768, .i32⟩) main_call1_call0_call0_v19) xori,
    TRef.binary (TRef.of (T := ⟨S64x32768, .i32⟩) main_call1_call0_call0_v13) (TRef.of (T := ⟨S64x32768, .i32⟩) main_call1_call0_call0_v19) (TRef.of (T := ⟨S64x32768, .i32⟩) main_call1_call0_call0_v20) addi,
    TRef.nullary (TRef.of (T := ⟨S_, .i32⟩) main_call1_call0_call0_c_4) (constantI S_ 32 26#32),
    TRef.unary (TRef.of (T := ⟨S_, .i32⟩) main_call1_call0_call0_c_4) (TRef.of (T := ⟨S64x32768, .i32⟩) main_call1_call0_call0_v21) (broadcastInDim S64x32768 ![] bcast_S_S64x32768),
    TRef.binary (TRef.of (T := ⟨S64x32768, .i32⟩) main_call1_call0_call0_v19) (TRef.of (T := ⟨S64x32768, .i32⟩) main_call1_call0_call0_v21) (TRef.of (T := ⟨S64x32768, .i32⟩) main_call1_call0_call0_v22) Host.shli,
    TRef.nullary (TRef.of (T := ⟨S_, .i32⟩) main_call1_call0_call0_c_5) (constantI S_ 32 6#32),
    TRef.unary (TRef.of (T := ⟨S_, .i32⟩) main_call1_call0_call0_c_5) (TRef.of (T := ⟨S64x32768, .i32⟩) main_call1_call0_call0_v23) (broadcastInDim S64x32768 ![] bcast_S_S64x32768),
    TRef.binary (TRef.of (T := ⟨S64x32768, .i32⟩) main_call1_call0_call0_v19) (TRef.of (T := ⟨S64x32768, .i32⟩) main_call1_call0_call0_v23) (TRef.of (T := ⟨S64x32768, .i32⟩) main_call1_call0_call0_v24) Host.shrui,
    TRef.binary (TRef.of (T := ⟨S64x32768, .i32⟩) main_call1_call0_call0_v22) (TRef.of (T := ⟨S64x32768, .i32⟩) main_call1_call0_call0_v24) (TRef.of (T := ⟨S64x32768, .i32⟩) main_call1_call0_call0_v25) ori,
    TRef.binary (TRef.of (T := ⟨S64x32768, .i32⟩) main_call1_call0_call0_v20) (TRef.of (T := ⟨S64x32768, .i32⟩) main_call1_call0_call0_v25) (TRef.of (T := ⟨S64x32768, .i32⟩) main_call1_call0_call0_v26) xori,
    TRef.binary (TRef.of (T := ⟨S64x32768, .i32⟩) main_call1_call0_call0_v20) (TRef.of (T := ⟨S64x32768, .i32⟩) main_call1_call0_call0_v26) (TRef.of (T := ⟨S64x32768, .i32⟩) main_call1_call0_call0_v27) addi,
    TRef.nullary (TRef.of (T := ⟨S_, .i32⟩) main_call1_call0_call0_c_6) (constantI S_ 32 6#32),
    TRef.unary (TRef.of (T := ⟨S_, .i32⟩) main_call1_call0_call0_c_6) (TRef.of (T := ⟨S64x32768, .i32⟩) main_call1_call0_call0_v28) (broadcastInDim S64x32768 ![] bcast_S_S64x32768),
    TRef.binary (TRef.of (T := ⟨S64x32768, .i32⟩) main_call1_call0_call0_v26) (TRef.of (T := ⟨S64x32768, .i32⟩) main_call1_call0_call0_v28) (TRef.of (T := ⟨S64x32768, .i32⟩) main_call1_call0_call0_v29) Host.shli,
    TRef.nullary (TRef.of (T := ⟨S_, .i32⟩) main_call1_call0_call0_c_7) (constantI S_ 32 26#32),
    TRef.unary (TRef.of (T := ⟨S_, .i32⟩) main_call1_call0_call0_c_7) (TRef.of (T := ⟨S64x32768, .i32⟩) main_call1_call0_call0_v30) (broadcastInDim S64x32768 ![] bcast_S_S64x32768),
    TRef.binary (TRef.of (T := ⟨S64x32768, .i32⟩) main_call1_call0_call0_v26) (TRef.of (T := ⟨S64x32768, .i32⟩) main_call1_call0_call0_v30) (TRef.of (T := ⟨S64x32768, .i32⟩) main_call1_call0_call0_v31) Host.shrui ]

/-- @main's operations 91 … 120 of 369 (window `main_part0`). -/
abbrev ops_part0_3 : List (HloOp τ sig (Elt F)) :=
  [ TRef.binary (TRef.of (T := ⟨S64x32768, .i32⟩) main_call1_call0_call0_v29) (TRef.of (T := ⟨S64x32768, .i32⟩) main_call1_call0_call0_v31) (TRef.of (T := ⟨S64x32768, .i32⟩) main_call1_call0_call0_v32) ori,
    TRef.binary (TRef.of (T := ⟨S64x32768, .i32⟩) main_call1_call0_call0_v27) (TRef.of (T := ⟨S64x32768, .i32⟩) main_call1_call0_call0_v32) (TRef.of (T := ⟨S64x32768, .i32⟩) main_call1_call0_call0_v33) xori,
    TRef.unary (TRef.of (T := ⟨S_, .i32⟩) main_call1_call0_v6) (TRef.of (T := ⟨S64x32768, .i32⟩) main_call1_call0_call0_v34) (broadcastInDim S64x32768 ![] bcast_S_S64x32768),
    TRef.binary (TRef.of (T := ⟨S64x32768, .i32⟩) main_call1_call0_call0_v27) (TRef.of (T := ⟨S64x32768, .i32⟩) main_call1_call0_call0_v34) (TRef.of (T := ⟨S64x32768, .i32⟩) main_call1_call0_call0_v35) addi,
    TRef.unary (TRef.of (T := ⟨S_, .i32⟩) main_call1_call0_call0_v1) (TRef.of (T := ⟨S64x32768, .i32⟩) main_call1_call0_call0_v36) (broadcastInDim S64x32768 ![] bcast_S_S64x32768),
    TRef.binary (TRef.of (T := ⟨S64x32768, .i32⟩) main_call1_call0_call0_v33) (TRef.of (T := ⟨S64x32768, .i32⟩) main_call1_call0_call0_v36) (TRef.of (T := ⟨S64x32768, .i32⟩) main_call1_call0_call0_v37) addi,
    TRef.nullary (TRef.of (T := ⟨S_, .i32⟩) main_call1_call0_call0_c_8) (constantI S_ 32 1#32),
    TRef.unary (TRef.of (T := ⟨S_, .i32⟩) main_call1_call0_call0_c_8) (TRef.of (T := ⟨S64x32768, .i32⟩) main_call1_call0_call0_v38) (broadcastInDim S64x32768 ![] bcast_S_S64x32768),
    TRef.binary (TRef.of (T := ⟨S64x32768, .i32⟩) main_call1_call0_call0_v37) (TRef.of (T := ⟨S64x32768, .i32⟩) main_call1_call0_call0_v38) (TRef.of (T := ⟨S64x32768, .i32⟩) main_call1_call0_call0_v39) addi,
    TRef.binary (TRef.of (T := ⟨S64x32768, .i32⟩) main_call1_call0_call0_v35) (TRef.of (T := ⟨S64x32768, .i32⟩) main_call1_call0_call0_v39) (TRef.of (T := ⟨S64x32768, .i32⟩) main_call1_call0_call0_v40) addi,
    TRef.nullary (TRef.of (T := ⟨S_, .i32⟩) main_call1_call0_call0_c_9) (constantI S_ 32 17#32),
    TRef.unary (TRef.of (T := ⟨S_, .i32⟩) main_call1_call0_call0_c_9) (TRef.of (T := ⟨S64x32768, .i32⟩) main_call1_call0_call0_v41) (broadcastInDim S64x32768 ![] bcast_S_S64x32768),
    TRef.binary (TRef.of (T := ⟨S64x32768, .i32⟩) main_call1_call0_call0_v39) (TRef.of (T := ⟨S64x32768, .i32⟩) main_call1_call0_call0_v41) (TRef.of (T := ⟨S64x32768, .i32⟩) main_call1_call0_call0_v42) Host.shli,
    TRef.nullary (TRef.of (T := ⟨S_, .i32⟩) main_call1_call0_call0_c_10) (constantI S_ 32 15#32),
    TRef.unary (TRef.of (T := ⟨S_, .i32⟩) main_call1_call0_call0_c_10) (TRef.of (T := ⟨S64x32768, .i32⟩) main_call1_call0_call0_v43) (broadcastInDim S64x32768 ![] bcast_S_S64x32768),
    TRef.binary (TRef.of (T := ⟨S64x32768, .i32⟩) main_call1_call0_call0_v39) (TRef.of (T := ⟨S64x32768, .i32⟩) main_call1_call0_call0_v43) (TRef.of (T := ⟨S64x32768, .i32⟩) main_call1_call0_call0_v44) Host.shrui,
    TRef.binary (TRef.of (T := ⟨S64x32768, .i32⟩) main_call1_call0_call0_v42) (TRef.of (T := ⟨S64x32768, .i32⟩) main_call1_call0_call0_v44) (TRef.of (T := ⟨S64x32768, .i32⟩) main_call1_call0_call0_v45) ori,
    TRef.binary (TRef.of (T := ⟨S64x32768, .i32⟩) main_call1_call0_call0_v40) (TRef.of (T := ⟨S64x32768, .i32⟩) main_call1_call0_call0_v45) (TRef.of (T := ⟨S64x32768, .i32⟩) main_call1_call0_call0_v46) xori,
    TRef.binary (TRef.of (T := ⟨S64x32768, .i32⟩) main_call1_call0_call0_v40) (TRef.of (T := ⟨S64x32768, .i32⟩) main_call1_call0_call0_v46) (TRef.of (T := ⟨S64x32768, .i32⟩) main_call1_call0_call0_v47) addi,
    TRef.nullary (TRef.of (T := ⟨S_, .i32⟩) main_call1_call0_call0_c_11) (constantI S_ 32 29#32),
    TRef.unary (TRef.of (T := ⟨S_, .i32⟩) main_call1_call0_call0_c_11) (TRef.of (T := ⟨S64x32768, .i32⟩) main_call1_call0_call0_v48) (broadcastInDim S64x32768 ![] bcast_S_S64x32768),
    TRef.binary (TRef.of (T := ⟨S64x32768, .i32⟩) main_call1_call0_call0_v46) (TRef.of (T := ⟨S64x32768, .i32⟩) main_call1_call0_call0_v48) (TRef.of (T := ⟨S64x32768, .i32⟩) main_call1_call0_call0_v49) Host.shli,
    TRef.nullary (TRef.of (T := ⟨S_, .i32⟩) main_call1_call0_call0_c_12) (constantI S_ 32 3#32),
    TRef.unary (TRef.of (T := ⟨S_, .i32⟩) main_call1_call0_call0_c_12) (TRef.of (T := ⟨S64x32768, .i32⟩) main_call1_call0_call0_v50) (broadcastInDim S64x32768 ![] bcast_S_S64x32768),
    TRef.binary (TRef.of (T := ⟨S64x32768, .i32⟩) main_call1_call0_call0_v46) (TRef.of (T := ⟨S64x32768, .i32⟩) main_call1_call0_call0_v50) (TRef.of (T := ⟨S64x32768, .i32⟩) main_call1_call0_call0_v51) Host.shrui,
    TRef.binary (TRef.of (T := ⟨S64x32768, .i32⟩) main_call1_call0_call0_v49) (TRef.of (T := ⟨S64x32768, .i32⟩) main_call1_call0_call0_v51) (TRef.of (T := ⟨S64x32768, .i32⟩) main_call1_call0_call0_v52) ori,
    TRef.binary (TRef.of (T := ⟨S64x32768, .i32⟩) main_call1_call0_call0_v47) (TRef.of (T := ⟨S64x32768, .i32⟩) main_call1_call0_call0_v52) (TRef.of (T := ⟨S64x32768, .i32⟩) main_call1_call0_call0_v53) xori,
    TRef.binary (TRef.of (T := ⟨S64x32768, .i32⟩) main_call1_call0_call0_v47) (TRef.of (T := ⟨S64x32768, .i32⟩) main_call1_call0_call0_v53) (TRef.of (T := ⟨S64x32768, .i32⟩) main_call1_call0_call0_v54) addi,
    TRef.nullary (TRef.of (T := ⟨S_, .i32⟩) main_call1_call0_call0_c_13) (constantI S_ 32 16#32),
    TRef.unary (TRef.of (T := ⟨S_, .i32⟩) main_call1_call0_call0_c_13) (TRef.of (T := ⟨S64x32768, .i32⟩) main_call1_call0_call0_v55) (broadcastInDim S64x32768 ![] bcast_S_S64x32768) ]

/-- @main's operations 121 … 150 of 369 (window `main_part0`). -/
abbrev ops_part0_4 : List (HloOp τ sig (Elt F)) :=
  [ TRef.binary (TRef.of (T := ⟨S64x32768, .i32⟩) main_call1_call0_call0_v53) (TRef.of (T := ⟨S64x32768, .i32⟩) main_call1_call0_call0_v55) (TRef.of (T := ⟨S64x32768, .i32⟩) main_call1_call0_call0_v56) Host.shli,
    TRef.nullary (TRef.of (T := ⟨S_, .i32⟩) main_call1_call0_call0_c_14) (constantI S_ 32 16#32),
    TRef.unary (TRef.of (T := ⟨S_, .i32⟩) main_call1_call0_call0_c_14) (TRef.of (T := ⟨S64x32768, .i32⟩) main_call1_call0_call0_v57) (broadcastInDim S64x32768 ![] bcast_S_S64x32768),
    TRef.binary (TRef.of (T := ⟨S64x32768, .i32⟩) main_call1_call0_call0_v53) (TRef.of (T := ⟨S64x32768, .i32⟩) main_call1_call0_call0_v57) (TRef.of (T := ⟨S64x32768, .i32⟩) main_call1_call0_call0_v58) Host.shrui,
    TRef.binary (TRef.of (T := ⟨S64x32768, .i32⟩) main_call1_call0_call0_v56) (TRef.of (T := ⟨S64x32768, .i32⟩) main_call1_call0_call0_v58) (TRef.of (T := ⟨S64x32768, .i32⟩) main_call1_call0_call0_v59) ori,
    TRef.binary (TRef.of (T := ⟨S64x32768, .i32⟩) main_call1_call0_call0_v54) (TRef.of (T := ⟨S64x32768, .i32⟩) main_call1_call0_call0_v59) (TRef.of (T := ⟨S64x32768, .i32⟩) main_call1_call0_call0_v60) xori,
    TRef.binary (TRef.of (T := ⟨S64x32768, .i32⟩) main_call1_call0_call0_v54) (TRef.of (T := ⟨S64x32768, .i32⟩) main_call1_call0_call0_v60) (TRef.of (T := ⟨S64x32768, .i32⟩) main_call1_call0_call0_v61) addi,
    TRef.nullary (TRef.of (T := ⟨S_, .i32⟩) main_call1_call0_call0_c_15) (constantI S_ 32 24#32),
    TRef.unary (TRef.of (T := ⟨S_, .i32⟩) main_call1_call0_call0_c_15) (TRef.of (T := ⟨S64x32768, .i32⟩) main_call1_call0_call0_v62) (broadcastInDim S64x32768 ![] bcast_S_S64x32768),
    TRef.binary (TRef.of (T := ⟨S64x32768, .i32⟩) main_call1_call0_call0_v60) (TRef.of (T := ⟨S64x32768, .i32⟩) main_call1_call0_call0_v62) (TRef.of (T := ⟨S64x32768, .i32⟩) main_call1_call0_call0_v63) Host.shli,
    TRef.nullary (TRef.of (T := ⟨S_, .i32⟩) main_call1_call0_call0_c_16) (constantI S_ 32 8#32),
    TRef.unary (TRef.of (T := ⟨S_, .i32⟩) main_call1_call0_call0_c_16) (TRef.of (T := ⟨S64x32768, .i32⟩) main_call1_call0_call0_v64) (broadcastInDim S64x32768 ![] bcast_S_S64x32768),
    TRef.binary (TRef.of (T := ⟨S64x32768, .i32⟩) main_call1_call0_call0_v60) (TRef.of (T := ⟨S64x32768, .i32⟩) main_call1_call0_call0_v64) (TRef.of (T := ⟨S64x32768, .i32⟩) main_call1_call0_call0_v65) Host.shrui,
    TRef.binary (TRef.of (T := ⟨S64x32768, .i32⟩) main_call1_call0_call0_v63) (TRef.of (T := ⟨S64x32768, .i32⟩) main_call1_call0_call0_v65) (TRef.of (T := ⟨S64x32768, .i32⟩) main_call1_call0_call0_v66) ori,
    TRef.binary (TRef.of (T := ⟨S64x32768, .i32⟩) main_call1_call0_call0_v61) (TRef.of (T := ⟨S64x32768, .i32⟩) main_call1_call0_call0_v66) (TRef.of (T := ⟨S64x32768, .i32⟩) main_call1_call0_call0_v67) xori,
    TRef.unary (TRef.of (T := ⟨S_, .i32⟩) main_call1_call0_call0_v1) (TRef.of (T := ⟨S64x32768, .i32⟩) main_call1_call0_call0_v68) (broadcastInDim S64x32768 ![] bcast_S_S64x32768),
    TRef.binary (TRef.of (T := ⟨S64x32768, .i32⟩) main_call1_call0_call0_v61) (TRef.of (T := ⟨S64x32768, .i32⟩) main_call1_call0_call0_v68) (TRef.of (T := ⟨S64x32768, .i32⟩) main_call1_call0_call0_v69) addi,
    TRef.unary (TRef.of (T := ⟨S_, .i32⟩) main_call1_call0_v4) (TRef.of (T := ⟨S64x32768, .i32⟩) main_call1_call0_call0_v70) (broadcastInDim S64x32768 ![] bcast_S_S64x32768),
    TRef.binary (TRef.of (T := ⟨S64x32768, .i32⟩) main_call1_call0_call0_v67) (TRef.of (T := ⟨S64x32768, .i32⟩) main_call1_call0_call0_v70) (TRef.of (T := ⟨S64x32768, .i32⟩) main_call1_call0_call0_v71) addi,
    TRef.nullary (TRef.of (T := ⟨S_, .i32⟩) main_call1_call0_call0_c_17) (constantI S_ 32 2#32),
    TRef.unary (TRef.of (T := ⟨S_, .i32⟩) main_call1_call0_call0_c_17) (TRef.of (T := ⟨S64x32768, .i32⟩) main_call1_call0_call0_v72) (broadcastInDim S64x32768 ![] bcast_S_S64x32768),
    TRef.binary (TRef.of (T := ⟨S64x32768, .i32⟩) main_call1_call0_call0_v71) (TRef.of (T := ⟨S64x32768, .i32⟩) main_call1_call0_call0_v72) (TRef.of (T := ⟨S64x32768, .i32⟩) main_call1_call0_call0_v73) addi,
    TRef.binary (TRef.of (T := ⟨S64x32768, .i32⟩) main_call1_call0_call0_v69) (TRef.of (T := ⟨S64x32768, .i32⟩) main_call1_call0_call0_v73) (TRef.of (T := ⟨S64x32768, .i32⟩) main_call1_call0_call0_v74) addi,
    TRef.nullary (TRef.of (T := ⟨S_, .i32⟩) main_call1_call0_call0_c_18) (constantI S_ 32 13#32),
    TRef.unary (TRef.of (T := ⟨S_, .i32⟩) main_call1_call0_call0_c_18) (TRef.of (T := ⟨S64x32768, .i32⟩) main_call1_call0_call0_v75) (broadcastInDim S64x32768 ![] bcast_S_S64x32768),
    TRef.binary (TRef.of (T := ⟨S64x32768, .i32⟩) main_call1_call0_call0_v73) (TRef.of (T := ⟨S64x32768, .i32⟩) main_call1_call0_call0_v75) (TRef.of (T := ⟨S64x32768, .i32⟩) main_call1_call0_call0_v76) Host.shli,
    TRef.nullary (TRef.of (T := ⟨S_, .i32⟩) main_call1_call0_call0_c_19) (constantI S_ 32 19#32),
    TRef.unary (TRef.of (T := ⟨S_, .i32⟩) main_call1_call0_call0_c_19) (TRef.of (T := ⟨S64x32768, .i32⟩) main_call1_call0_call0_v77) (broadcastInDim S64x32768 ![] bcast_S_S64x32768),
    TRef.binary (TRef.of (T := ⟨S64x32768, .i32⟩) main_call1_call0_call0_v73) (TRef.of (T := ⟨S64x32768, .i32⟩) main_call1_call0_call0_v77) (TRef.of (T := ⟨S64x32768, .i32⟩) main_call1_call0_call0_v78) Host.shrui,
    TRef.binary (TRef.of (T := ⟨S64x32768, .i32⟩) main_call1_call0_call0_v76) (TRef.of (T := ⟨S64x32768, .i32⟩) main_call1_call0_call0_v78) (TRef.of (T := ⟨S64x32768, .i32⟩) main_call1_call0_call0_v79) ori ]

/-- @main's operations 151 … 180 of 369 (window `main_part0`). -/
abbrev ops_part0_5 : List (HloOp τ sig (Elt F)) :=
  [ TRef.binary (TRef.of (T := ⟨S64x32768, .i32⟩) main_call1_call0_call0_v74) (TRef.of (T := ⟨S64x32768, .i32⟩) main_call1_call0_call0_v79) (TRef.of (T := ⟨S64x32768, .i32⟩) main_call1_call0_call0_v80) xori,
    TRef.binary (TRef.of (T := ⟨S64x32768, .i32⟩) main_call1_call0_call0_v74) (TRef.of (T := ⟨S64x32768, .i32⟩) main_call1_call0_call0_v80) (TRef.of (T := ⟨S64x32768, .i32⟩) main_call1_call0_call0_v81) addi,
    TRef.nullary (TRef.of (T := ⟨S_, .i32⟩) main_call1_call0_call0_c_20) (constantI S_ 32 15#32),
    TRef.unary (TRef.of (T := ⟨S_, .i32⟩) main_call1_call0_call0_c_20) (TRef.of (T := ⟨S64x32768, .i32⟩) main_call1_call0_call0_v82) (broadcastInDim S64x32768 ![] bcast_S_S64x32768),
    TRef.binary (TRef.of (T := ⟨S64x32768, .i32⟩) main_call1_call0_call0_v80) (TRef.of (T := ⟨S64x32768, .i32⟩) main_call1_call0_call0_v82) (TRef.of (T := ⟨S64x32768, .i32⟩) main_call1_call0_call0_v83) Host.shli,
    TRef.nullary (TRef.of (T := ⟨S_, .i32⟩) main_call1_call0_call0_c_21) (constantI S_ 32 17#32),
    TRef.unary (TRef.of (T := ⟨S_, .i32⟩) main_call1_call0_call0_c_21) (TRef.of (T := ⟨S64x32768, .i32⟩) main_call1_call0_call0_v84) (broadcastInDim S64x32768 ![] bcast_S_S64x32768),
    TRef.binary (TRef.of (T := ⟨S64x32768, .i32⟩) main_call1_call0_call0_v80) (TRef.of (T := ⟨S64x32768, .i32⟩) main_call1_call0_call0_v84) (TRef.of (T := ⟨S64x32768, .i32⟩) main_call1_call0_call0_v85) Host.shrui,
    TRef.binary (TRef.of (T := ⟨S64x32768, .i32⟩) main_call1_call0_call0_v83) (TRef.of (T := ⟨S64x32768, .i32⟩) main_call1_call0_call0_v85) (TRef.of (T := ⟨S64x32768, .i32⟩) main_call1_call0_call0_v86) ori,
    TRef.binary (TRef.of (T := ⟨S64x32768, .i32⟩) main_call1_call0_call0_v81) (TRef.of (T := ⟨S64x32768, .i32⟩) main_call1_call0_call0_v86) (TRef.of (T := ⟨S64x32768, .i32⟩) main_call1_call0_call0_v87) xori,
    TRef.binary (TRef.of (T := ⟨S64x32768, .i32⟩) main_call1_call0_call0_v81) (TRef.of (T := ⟨S64x32768, .i32⟩) main_call1_call0_call0_v87) (TRef.of (T := ⟨S64x32768, .i32⟩) main_call1_call0_call0_v88) addi,
    TRef.nullary (TRef.of (T := ⟨S_, .i32⟩) main_call1_call0_call0_c_22) (constantI S_ 32 26#32),
    TRef.unary (TRef.of (T := ⟨S_, .i32⟩) main_call1_call0_call0_c_22) (TRef.of (T := ⟨S64x32768, .i32⟩) main_call1_call0_call0_v89) (broadcastInDim S64x32768 ![] bcast_S_S64x32768),
    TRef.binary (TRef.of (T := ⟨S64x32768, .i32⟩) main_call1_call0_call0_v87) (TRef.of (T := ⟨S64x32768, .i32⟩) main_call1_call0_call0_v89) (TRef.of (T := ⟨S64x32768, .i32⟩) main_call1_call0_call0_v90) Host.shli,
    TRef.nullary (TRef.of (T := ⟨S_, .i32⟩) main_call1_call0_call0_c_23) (constantI S_ 32 6#32),
    TRef.unary (TRef.of (T := ⟨S_, .i32⟩) main_call1_call0_call0_c_23) (TRef.of (T := ⟨S64x32768, .i32⟩) main_call1_call0_call0_v91) (broadcastInDim S64x32768 ![] bcast_S_S64x32768),
    TRef.binary (TRef.of (T := ⟨S64x32768, .i32⟩) main_call1_call0_call0_v87) (TRef.of (T := ⟨S64x32768, .i32⟩) main_call1_call0_call0_v91) (TRef.of (T := ⟨S64x32768, .i32⟩) main_call1_call0_call0_v92) Host.shrui,
    TRef.binary (TRef.of (T := ⟨S64x32768, .i32⟩) main_call1_call0_call0_v90) (TRef.of (T := ⟨S64x32768, .i32⟩) main_call1_call0_call0_v92) (TRef.of (T := ⟨S64x32768, .i32⟩) main_call1_call0_call0_v93) ori,
    TRef.binary (TRef.of (T := ⟨S64x32768, .i32⟩) main_call1_call0_call0_v88) (TRef.of (T := ⟨S64x32768, .i32⟩) main_call1_call0_call0_v93) (TRef.of (T := ⟨S64x32768, .i32⟩) main_call1_call0_call0_v94) xori,
    TRef.binary (TRef.of (T := ⟨S64x32768, .i32⟩) main_call1_call0_call0_v88) (TRef.of (T := ⟨S64x32768, .i32⟩) main_call1_call0_call0_v94) (TRef.of (T := ⟨S64x32768, .i32⟩) main_call1_call0_call0_v95) addi,
    TRef.nullary (TRef.of (T := ⟨S_, .i32⟩) main_call1_call0_call0_c_24) (constantI S_ 32 6#32),
    TRef.unary (TRef.of (T := ⟨S_, .i32⟩) main_call1_call0_call0_c_24) (TRef.of (T := ⟨S64x32768, .i32⟩) main_call1_call0_call0_v96) (broadcastInDim S64x32768 ![] bcast_S_S64x32768),
    TRef.binary (TRef.of (T := ⟨S64x32768, .i32⟩) main_call1_call0_call0_v94) (TRef.of (T := ⟨S64x32768, .i32⟩) main_call1_call0_call0_v96) (TRef.of (T := ⟨S64x32768, .i32⟩) main_call1_call0_call0_v97) Host.shli,
    TRef.nullary (TRef.of (T := ⟨S_, .i32⟩) main_call1_call0_call0_c_25) (constantI S_ 32 26#32),
    TRef.unary (TRef.of (T := ⟨S_, .i32⟩) main_call1_call0_call0_c_25) (TRef.of (T := ⟨S64x32768, .i32⟩) main_call1_call0_call0_v98) (broadcastInDim S64x32768 ![] bcast_S_S64x32768),
    TRef.binary (TRef.of (T := ⟨S64x32768, .i32⟩) main_call1_call0_call0_v94) (TRef.of (T := ⟨S64x32768, .i32⟩) main_call1_call0_call0_v98) (TRef.of (T := ⟨S64x32768, .i32⟩) main_call1_call0_call0_v99) Host.shrui,
    TRef.binary (TRef.of (T := ⟨S64x32768, .i32⟩) main_call1_call0_call0_v97) (TRef.of (T := ⟨S64x32768, .i32⟩) main_call1_call0_call0_v99) (TRef.of (T := ⟨S64x32768, .i32⟩) main_call1_call0_call0_v100) ori,
    TRef.binary (TRef.of (T := ⟨S64x32768, .i32⟩) main_call1_call0_call0_v95) (TRef.of (T := ⟨S64x32768, .i32⟩) main_call1_call0_call0_v100) (TRef.of (T := ⟨S64x32768, .i32⟩) main_call1_call0_call0_v101) xori,
    TRef.unary (TRef.of (T := ⟨S_, .i32⟩) main_call1_call0_v4) (TRef.of (T := ⟨S64x32768, .i32⟩) main_call1_call0_call0_v102) (broadcastInDim S64x32768 ![] bcast_S_S64x32768),
    TRef.binary (TRef.of (T := ⟨S64x32768, .i32⟩) main_call1_call0_call0_v95) (TRef.of (T := ⟨S64x32768, .i32⟩) main_call1_call0_call0_v102) (TRef.of (T := ⟨S64x32768, .i32⟩) main_call1_call0_call0_v103) addi ]

/-- @main's operations 181 … 210 of 369 (window `main_part0`). -/
abbrev ops_part0_6 : List (HloOp τ sig (Elt F)) :=
  [ TRef.unary (TRef.of (T := ⟨S_, .i32⟩) main_call1_call0_v6) (TRef.of (T := ⟨S64x32768, .i32⟩) main_call1_call0_call0_v104) (broadcastInDim S64x32768 ![] bcast_S_S64x32768),
    TRef.binary (TRef.of (T := ⟨S64x32768, .i32⟩) main_call1_call0_call0_v101) (TRef.of (T := ⟨S64x32768, .i32⟩) main_call1_call0_call0_v104) (TRef.of (T := ⟨S64x32768, .i32⟩) main_call1_call0_call0_v105) addi,
    TRef.nullary (TRef.of (T := ⟨S_, .i32⟩) main_call1_call0_call0_c_26) (constantI S_ 32 3#32),
    TRef.unary (TRef.of (T := ⟨S_, .i32⟩) main_call1_call0_call0_c_26) (TRef.of (T := ⟨S64x32768, .i32⟩) main_call1_call0_call0_v106) (broadcastInDim S64x32768 ![] bcast_S_S64x32768),
    TRef.binary (TRef.of (T := ⟨S64x32768, .i32⟩) main_call1_call0_call0_v105) (TRef.of (T := ⟨S64x32768, .i32⟩) main_call1_call0_call0_v106) (TRef.of (T := ⟨S64x32768, .i32⟩) main_call1_call0_call0_v107) addi,
    TRef.binary (TRef.of (T := ⟨S64x32768, .i32⟩) main_call1_call0_call0_v103) (TRef.of (T := ⟨S64x32768, .i32⟩) main_call1_call0_call0_v107) (TRef.of (T := ⟨S64x32768, .i32⟩) main_call1_call0_call0_v108) addi,
    TRef.nullary (TRef.of (T := ⟨S_, .i32⟩) main_call1_call0_call0_c_27) (constantI S_ 32 17#32),
    TRef.unary (TRef.of (T := ⟨S_, .i32⟩) main_call1_call0_call0_c_27) (TRef.of (T := ⟨S64x32768, .i32⟩) main_call1_call0_call0_v109) (broadcastInDim S64x32768 ![] bcast_S_S64x32768),
    TRef.binary (TRef.of (T := ⟨S64x32768, .i32⟩) main_call1_call0_call0_v107) (TRef.of (T := ⟨S64x32768, .i32⟩) main_call1_call0_call0_v109) (TRef.of (T := ⟨S64x32768, .i32⟩) main_call1_call0_call0_v110) Host.shli,
    TRef.nullary (TRef.of (T := ⟨S_, .i32⟩) main_call1_call0_call0_c_28) (constantI S_ 32 15#32),
    TRef.unary (TRef.of (T := ⟨S_, .i32⟩) main_call1_call0_call0_c_28) (TRef.of (T := ⟨S64x32768, .i32⟩) main_call1_call0_call0_v111) (broadcastInDim S64x32768 ![] bcast_S_S64x32768),
    TRef.binary (TRef.of (T := ⟨S64x32768, .i32⟩) main_call1_call0_call0_v107) (TRef.of (T := ⟨S64x32768, .i32⟩) main_call1_call0_call0_v111) (TRef.of (T := ⟨S64x32768, .i32⟩) main_call1_call0_call0_v112) Host.shrui,
    TRef.binary (TRef.of (T := ⟨S64x32768, .i32⟩) main_call1_call0_call0_v110) (TRef.of (T := ⟨S64x32768, .i32⟩) main_call1_call0_call0_v112) (TRef.of (T := ⟨S64x32768, .i32⟩) main_call1_call0_call0_v113) ori,
    TRef.binary (TRef.of (T := ⟨S64x32768, .i32⟩) main_call1_call0_call0_v108) (TRef.of (T := ⟨S64x32768, .i32⟩) main_call1_call0_call0_v113) (TRef.of (T := ⟨S64x32768, .i32⟩) main_call1_call0_call0_v114) xori,
    TRef.binary (TRef.of (T := ⟨S64x32768, .i32⟩) main_call1_call0_call0_v108) (TRef.of (T := ⟨S64x32768, .i32⟩) main_call1_call0_call0_v114) (TRef.of (T := ⟨S64x32768, .i32⟩) main_call1_call0_call0_v115) addi,
    TRef.nullary (TRef.of (T := ⟨S_, .i32⟩) main_call1_call0_call0_c_29) (constantI S_ 32 29#32),
    TRef.unary (TRef.of (T := ⟨S_, .i32⟩) main_call1_call0_call0_c_29) (TRef.of (T := ⟨S64x32768, .i32⟩) main_call1_call0_call0_v116) (broadcastInDim S64x32768 ![] bcast_S_S64x32768),
    TRef.binary (TRef.of (T := ⟨S64x32768, .i32⟩) main_call1_call0_call0_v114) (TRef.of (T := ⟨S64x32768, .i32⟩) main_call1_call0_call0_v116) (TRef.of (T := ⟨S64x32768, .i32⟩) main_call1_call0_call0_v117) Host.shli,
    TRef.nullary (TRef.of (T := ⟨S_, .i32⟩) main_call1_call0_call0_c_30) (constantI S_ 32 3#32),
    TRef.unary (TRef.of (T := ⟨S_, .i32⟩) main_call1_call0_call0_c_30) (TRef.of (T := ⟨S64x32768, .i32⟩) main_call1_call0_call0_v118) (broadcastInDim S64x32768 ![] bcast_S_S64x32768),
    TRef.binary (TRef.of (T := ⟨S64x32768, .i32⟩) main_call1_call0_call0_v114) (TRef.of (T := ⟨S64x32768, .i32⟩) main_call1_call0_call0_v118) (TRef.of (T := ⟨S64x32768, .i32⟩) main_call1_call0_call0_v119) Host.shrui,
    TRef.binary (TRef.of (T := ⟨S64x32768, .i32⟩) main_call1_call0_call0_v117) (TRef.of (T := ⟨S64x32768, .i32⟩) main_call1_call0_call0_v119) (TRef.of (T := ⟨S64x32768, .i32⟩) main_call1_call0_call0_v120) ori,
    TRef.binary (TRef.of (T := ⟨S64x32768, .i32⟩) main_call1_call0_call0_v115) (TRef.of (T := ⟨S64x32768, .i32⟩) main_call1_call0_call0_v120) (TRef.of (T := ⟨S64x32768, .i32⟩) main_call1_call0_call0_v121) xori,
    TRef.binary (TRef.of (T := ⟨S64x32768, .i32⟩) main_call1_call0_call0_v115) (TRef.of (T := ⟨S64x32768, .i32⟩) main_call1_call0_call0_v121) (TRef.of (T := ⟨S64x32768, .i32⟩) main_call1_call0_call0_v122) addi,
    TRef.nullary (TRef.of (T := ⟨S_, .i32⟩) main_call1_call0_call0_c_31) (constantI S_ 32 16#32),
    TRef.unary (TRef.of (T := ⟨S_, .i32⟩) main_call1_call0_call0_c_31) (TRef.of (T := ⟨S64x32768, .i32⟩) main_call1_call0_call0_v123) (broadcastInDim S64x32768 ![] bcast_S_S64x32768),
    TRef.binary (TRef.of (T := ⟨S64x32768, .i32⟩) main_call1_call0_call0_v121) (TRef.of (T := ⟨S64x32768, .i32⟩) main_call1_call0_call0_v123) (TRef.of (T := ⟨S64x32768, .i32⟩) main_call1_call0_call0_v124) Host.shli,
    TRef.nullary (TRef.of (T := ⟨S_, .i32⟩) main_call1_call0_call0_c_32) (constantI S_ 32 16#32),
    TRef.unary (TRef.of (T := ⟨S_, .i32⟩) main_call1_call0_call0_c_32) (TRef.of (T := ⟨S64x32768, .i32⟩) main_call1_call0_call0_v125) (broadcastInDim S64x32768 ![] bcast_S_S64x32768),
    TRef.binary (TRef.of (T := ⟨S64x32768, .i32⟩) main_call1_call0_call0_v121) (TRef.of (T := ⟨S64x32768, .i32⟩) main_call1_call0_call0_v125) (TRef.of (T := ⟨S64x32768, .i32⟩) main_call1_call0_call0_v126) Host.shrui ]

/-- @main's operations 211 … 240 of 369 (window `main_part0`). -/
abbrev ops_part0_7 : List (HloOp τ sig (Elt F)) :=
  [ TRef.binary (TRef.of (T := ⟨S64x32768, .i32⟩) main_call1_call0_call0_v124) (TRef.of (T := ⟨S64x32768, .i32⟩) main_call1_call0_call0_v126) (TRef.of (T := ⟨S64x32768, .i32⟩) main_call1_call0_call0_v127) ori,
    TRef.binary (TRef.of (T := ⟨S64x32768, .i32⟩) main_call1_call0_call0_v122) (TRef.of (T := ⟨S64x32768, .i32⟩) main_call1_call0_call0_v127) (TRef.of (T := ⟨S64x32768, .i32⟩) main_call1_call0_call0_v128) xori,
    TRef.binary (TRef.of (T := ⟨S64x32768, .i32⟩) main_call1_call0_call0_v122) (TRef.of (T := ⟨S64x32768, .i32⟩) main_call1_call0_call0_v128) (TRef.of (T := ⟨S64x32768, .i32⟩) main_call1_call0_call0_v129) addi,
    TRef.nullary (TRef.of (T := ⟨S_, .i32⟩) main_call1_call0_call0_c_33) (constantI S_ 32 24#32),
    TRef.unary (TRef.of (T := ⟨S_, .i32⟩) main_call1_call0_call0_c_33) (TRef.of (T := ⟨S64x32768, .i32⟩) main_call1_call0_call0_v130) (broadcastInDim S64x32768 ![] bcast_S_S64x32768),
    TRef.binary (TRef.of (T := ⟨S64x32768, .i32⟩) main_call1_call0_call0_v128) (TRef.of (T := ⟨S64x32768, .i32⟩) main_call1_call0_call0_v130) (TRef.of (T := ⟨S64x32768, .i32⟩) main_call1_call0_call0_v131) Host.shli,
    TRef.nullary (TRef.of (T := ⟨S_, .i32⟩) main_call1_call0_call0_c_34) (constantI S_ 32 8#32),
    TRef.unary (TRef.of (T := ⟨S_, .i32⟩) main_call1_call0_call0_c_34) (TRef.of (T := ⟨S64x32768, .i32⟩) main_call1_call0_call0_v132) (broadcastInDim S64x32768 ![] bcast_S_S64x32768),
    TRef.binary (TRef.of (T := ⟨S64x32768, .i32⟩) main_call1_call0_call0_v128) (TRef.of (T := ⟨S64x32768, .i32⟩) main_call1_call0_call0_v132) (TRef.of (T := ⟨S64x32768, .i32⟩) main_call1_call0_call0_v133) Host.shrui,
    TRef.binary (TRef.of (T := ⟨S64x32768, .i32⟩) main_call1_call0_call0_v131) (TRef.of (T := ⟨S64x32768, .i32⟩) main_call1_call0_call0_v133) (TRef.of (T := ⟨S64x32768, .i32⟩) main_call1_call0_call0_v134) ori,
    TRef.binary (TRef.of (T := ⟨S64x32768, .i32⟩) main_call1_call0_call0_v129) (TRef.of (T := ⟨S64x32768, .i32⟩) main_call1_call0_call0_v134) (TRef.of (T := ⟨S64x32768, .i32⟩) main_call1_call0_call0_v135) xori,
    TRef.unary (TRef.of (T := ⟨S_, .i32⟩) main_call1_call0_v6) (TRef.of (T := ⟨S64x32768, .i32⟩) main_call1_call0_call0_v136) (broadcastInDim S64x32768 ![] bcast_S_S64x32768),
    TRef.binary (TRef.of (T := ⟨S64x32768, .i32⟩) main_call1_call0_call0_v129) (TRef.of (T := ⟨S64x32768, .i32⟩) main_call1_call0_call0_v136) (TRef.of (T := ⟨S64x32768, .i32⟩) main_call1_call0_call0_v137) addi,
    TRef.unary (TRef.of (T := ⟨S_, .i32⟩) main_call1_call0_call0_v1) (TRef.of (T := ⟨S64x32768, .i32⟩) main_call1_call0_call0_v138) (broadcastInDim S64x32768 ![] bcast_S_S64x32768),
    TRef.binary (TRef.of (T := ⟨S64x32768, .i32⟩) main_call1_call0_call0_v135) (TRef.of (T := ⟨S64x32768, .i32⟩) main_call1_call0_call0_v138) (TRef.of (T := ⟨S64x32768, .i32⟩) main_call1_call0_call0_v139) addi,
    TRef.nullary (TRef.of (T := ⟨S_, .i32⟩) main_call1_call0_call0_c_35) (constantI S_ 32 4#32),
    TRef.unary (TRef.of (T := ⟨S_, .i32⟩) main_call1_call0_call0_c_35) (TRef.of (T := ⟨S64x32768, .i32⟩) main_call1_call0_call0_v140) (broadcastInDim S64x32768 ![] bcast_S_S64x32768),
    TRef.binary (TRef.of (T := ⟨S64x32768, .i32⟩) main_call1_call0_call0_v139) (TRef.of (T := ⟨S64x32768, .i32⟩) main_call1_call0_call0_v140) (TRef.of (T := ⟨S64x32768, .i32⟩) main_call1_call0_call0_v141) addi,
    TRef.binary (TRef.of (T := ⟨S64x32768, .i32⟩) main_call1_call0_call0_v137) (TRef.of (T := ⟨S64x32768, .i32⟩) main_call1_call0_call0_v141) (TRef.of (T := ⟨S64x32768, .i32⟩) main_call1_call0_call0_v142) addi,
    TRef.nullary (TRef.of (T := ⟨S_, .i32⟩) main_call1_call0_call0_c_36) (constantI S_ 32 13#32),
    TRef.unary (TRef.of (T := ⟨S_, .i32⟩) main_call1_call0_call0_c_36) (TRef.of (T := ⟨S64x32768, .i32⟩) main_call1_call0_call0_v143) (broadcastInDim S64x32768 ![] bcast_S_S64x32768),
    TRef.binary (TRef.of (T := ⟨S64x32768, .i32⟩) main_call1_call0_call0_v141) (TRef.of (T := ⟨S64x32768, .i32⟩) main_call1_call0_call0_v143) (TRef.of (T := ⟨S64x32768, .i32⟩) main_call1_call0_call0_v144) Host.shli,
    TRef.nullary (TRef.of (T := ⟨S_, .i32⟩) main_call1_call0_call0_c_37) (constantI S_ 32 19#32),
    TRef.unary (TRef.of (T := ⟨S_, .i32⟩) main_call1_call0_call0_c_37) (TRef.of (T := ⟨S64x32768, .i32⟩) main_call1_call0_call0_v145) (broadcastInDim S64x32768 ![] bcast_S_S64x32768),
    TRef.binary (TRef.of (T := ⟨S64x32768, .i32⟩) main_call1_call0_call0_v141) (TRef.of (T := ⟨S64x32768, .i32⟩) main_call1_call0_call0_v145) (TRef.of (T := ⟨S64x32768, .i32⟩) main_call1_call0_call0_v146) Host.shrui,
    TRef.binary (TRef.of (T := ⟨S64x32768, .i32⟩) main_call1_call0_call0_v144) (TRef.of (T := ⟨S64x32768, .i32⟩) main_call1_call0_call0_v146) (TRef.of (T := ⟨S64x32768, .i32⟩) main_call1_call0_call0_v147) ori,
    TRef.binary (TRef.of (T := ⟨S64x32768, .i32⟩) main_call1_call0_call0_v142) (TRef.of (T := ⟨S64x32768, .i32⟩) main_call1_call0_call0_v147) (TRef.of (T := ⟨S64x32768, .i32⟩) main_call1_call0_call0_v148) xori,
    TRef.binary (TRef.of (T := ⟨S64x32768, .i32⟩) main_call1_call0_call0_v142) (TRef.of (T := ⟨S64x32768, .i32⟩) main_call1_call0_call0_v148) (TRef.of (T := ⟨S64x32768, .i32⟩) main_call1_call0_call0_v149) addi,
    TRef.nullary (TRef.of (T := ⟨S_, .i32⟩) main_call1_call0_call0_c_38) (constantI S_ 32 15#32),
    TRef.unary (TRef.of (T := ⟨S_, .i32⟩) main_call1_call0_call0_c_38) (TRef.of (T := ⟨S64x32768, .i32⟩) main_call1_call0_call0_v150) (broadcastInDim S64x32768 ![] bcast_S_S64x32768) ]

/-- @main's operations 241 … 270 of 369 (window `main_part0`). -/
abbrev ops_part0_8 : List (HloOp τ sig (Elt F)) :=
  [ TRef.binary (TRef.of (T := ⟨S64x32768, .i32⟩) main_call1_call0_call0_v148) (TRef.of (T := ⟨S64x32768, .i32⟩) main_call1_call0_call0_v150) (TRef.of (T := ⟨S64x32768, .i32⟩) main_call1_call0_call0_v151) Host.shli,
    TRef.nullary (TRef.of (T := ⟨S_, .i32⟩) main_call1_call0_call0_c_39) (constantI S_ 32 17#32),
    TRef.unary (TRef.of (T := ⟨S_, .i32⟩) main_call1_call0_call0_c_39) (TRef.of (T := ⟨S64x32768, .i32⟩) main_call1_call0_call0_v152) (broadcastInDim S64x32768 ![] bcast_S_S64x32768),
    TRef.binary (TRef.of (T := ⟨S64x32768, .i32⟩) main_call1_call0_call0_v148) (TRef.of (T := ⟨S64x32768, .i32⟩) main_call1_call0_call0_v152) (TRef.of (T := ⟨S64x32768, .i32⟩) main_call1_call0_call0_v153) Host.shrui,
    TRef.binary (TRef.of (T := ⟨S64x32768, .i32⟩) main_call1_call0_call0_v151) (TRef.of (T := ⟨S64x32768, .i32⟩) main_call1_call0_call0_v153) (TRef.of (T := ⟨S64x32768, .i32⟩) main_call1_call0_call0_v154) ori,
    TRef.binary (TRef.of (T := ⟨S64x32768, .i32⟩) main_call1_call0_call0_v149) (TRef.of (T := ⟨S64x32768, .i32⟩) main_call1_call0_call0_v154) (TRef.of (T := ⟨S64x32768, .i32⟩) main_call1_call0_call0_v155) xori,
    TRef.binary (TRef.of (T := ⟨S64x32768, .i32⟩) main_call1_call0_call0_v149) (TRef.of (T := ⟨S64x32768, .i32⟩) main_call1_call0_call0_v155) (TRef.of (T := ⟨S64x32768, .i32⟩) main_call1_call0_call0_v156) addi,
    TRef.nullary (TRef.of (T := ⟨S_, .i32⟩) main_call1_call0_call0_c_40) (constantI S_ 32 26#32),
    TRef.unary (TRef.of (T := ⟨S_, .i32⟩) main_call1_call0_call0_c_40) (TRef.of (T := ⟨S64x32768, .i32⟩) main_call1_call0_call0_v157) (broadcastInDim S64x32768 ![] bcast_S_S64x32768),
    TRef.binary (TRef.of (T := ⟨S64x32768, .i32⟩) main_call1_call0_call0_v155) (TRef.of (T := ⟨S64x32768, .i32⟩) main_call1_call0_call0_v157) (TRef.of (T := ⟨S64x32768, .i32⟩) main_call1_call0_call0_v158) Host.shli,
    TRef.nullary (TRef.of (T := ⟨S_, .i32⟩) main_call1_call0_call0_c_41) (constantI S_ 32 6#32),
    TRef.unary (TRef.of (T := ⟨S_, .i32⟩) main_call1_call0_call0_c_41) (TRef.of (T := ⟨S64x32768, .i32⟩) main_call1_call0_call0_v159) (broadcastInDim S64x32768 ![] bcast_S_S64x32768),
    TRef.binary (TRef.of (T := ⟨S64x32768, .i32⟩) main_call1_call0_call0_v155) (TRef.of (T := ⟨S64x32768, .i32⟩) main_call1_call0_call0_v159) (TRef.of (T := ⟨S64x32768, .i32⟩) main_call1_call0_call0_v160) Host.shrui,
    TRef.binary (TRef.of (T := ⟨S64x32768, .i32⟩) main_call1_call0_call0_v158) (TRef.of (T := ⟨S64x32768, .i32⟩) main_call1_call0_call0_v160) (TRef.of (T := ⟨S64x32768, .i32⟩) main_call1_call0_call0_v161) ori,
    TRef.binary (TRef.of (T := ⟨S64x32768, .i32⟩) main_call1_call0_call0_v156) (TRef.of (T := ⟨S64x32768, .i32⟩) main_call1_call0_call0_v161) (TRef.of (T := ⟨S64x32768, .i32⟩) main_call1_call0_call0_v162) xori,
    TRef.binary (TRef.of (T := ⟨S64x32768, .i32⟩) main_call1_call0_call0_v156) (TRef.of (T := ⟨S64x32768, .i32⟩) main_call1_call0_call0_v162) (TRef.of (T := ⟨S64x32768, .i32⟩) main_call1_call0_call0_v163) addi,
    TRef.nullary (TRef.of (T := ⟨S_, .i32⟩) main_call1_call0_call0_c_42) (constantI S_ 32 6#32),
    TRef.unary (TRef.of (T := ⟨S_, .i32⟩) main_call1_call0_call0_c_42) (TRef.of (T := ⟨S64x32768, .i32⟩) main_call1_call0_call0_v164) (broadcastInDim S64x32768 ![] bcast_S_S64x32768),
    TRef.binary (TRef.of (T := ⟨S64x32768, .i32⟩) main_call1_call0_call0_v162) (TRef.of (T := ⟨S64x32768, .i32⟩) main_call1_call0_call0_v164) (TRef.of (T := ⟨S64x32768, .i32⟩) main_call1_call0_call0_v165) Host.shli,
    TRef.nullary (TRef.of (T := ⟨S_, .i32⟩) main_call1_call0_call0_c_43) (constantI S_ 32 26#32),
    TRef.unary (TRef.of (T := ⟨S_, .i32⟩) main_call1_call0_call0_c_43) (TRef.of (T := ⟨S64x32768, .i32⟩) main_call1_call0_call0_v166) (broadcastInDim S64x32768 ![] bcast_S_S64x32768),
    TRef.binary (TRef.of (T := ⟨S64x32768, .i32⟩) main_call1_call0_call0_v162) (TRef.of (T := ⟨S64x32768, .i32⟩) main_call1_call0_call0_v166) (TRef.of (T := ⟨S64x32768, .i32⟩) main_call1_call0_call0_v167) Host.shrui,
    TRef.binary (TRef.of (T := ⟨S64x32768, .i32⟩) main_call1_call0_call0_v165) (TRef.of (T := ⟨S64x32768, .i32⟩) main_call1_call0_call0_v167) (TRef.of (T := ⟨S64x32768, .i32⟩) main_call1_call0_call0_v168) ori,
    TRef.binary (TRef.of (T := ⟨S64x32768, .i32⟩) main_call1_call0_call0_v163) (TRef.of (T := ⟨S64x32768, .i32⟩) main_call1_call0_call0_v168) (TRef.of (T := ⟨S64x32768, .i32⟩) main_call1_call0_call0_v169) xori,
    TRef.unary (TRef.of (T := ⟨S_, .i32⟩) main_call1_call0_call0_v1) (TRef.of (T := ⟨S64x32768, .i32⟩) main_call1_call0_call0_v170) (broadcastInDim S64x32768 ![] bcast_S_S64x32768),
    TRef.binary (TRef.of (T := ⟨S64x32768, .i32⟩) main_call1_call0_call0_v163) (TRef.of (T := ⟨S64x32768, .i32⟩) main_call1_call0_call0_v170) (TRef.of (T := ⟨S64x32768, .i32⟩) main_call1_call0_v18_0) addi,
    TRef.unary (TRef.of (T := ⟨S_, .i32⟩) main_call1_call0_v4) (TRef.of (T := ⟨S64x32768, .i32⟩) main_call1_call0_call0_v172) (broadcastInDim S64x32768 ![] bcast_S_S64x32768),
    TRef.binary (TRef.of (T := ⟨S64x32768, .i32⟩) main_call1_call0_call0_v169) (TRef.of (T := ⟨S64x32768, .i32⟩) main_call1_call0_call0_v172) (TRef.of (T := ⟨S64x32768, .i32⟩) main_call1_call0_call0_v173) addi,
    TRef.nullary (TRef.of (T := ⟨S_, .i32⟩) main_call1_call0_call0_c_44) (constantI S_ 32 5#32),
    TRef.unary (TRef.of (T := ⟨S_, .i32⟩) main_call1_call0_call0_c_44) (TRef.of (T := ⟨S64x32768, .i32⟩) main_call1_call0_call0_v174) (broadcastInDim S64x32768 ![] bcast_S_S64x32768) ]

/-- @main's operations 271 … 300 of 369 (window `main_part0`). -/
abbrev ops_part0_9 : List (HloOp τ sig (Elt F)) :=
  [ TRef.binary (TRef.of (T := ⟨S64x32768, .i32⟩) main_call1_call0_call0_v173) (TRef.of (T := ⟨S64x32768, .i32⟩) main_call1_call0_call0_v174) (TRef.of (T := ⟨S64x32768, .i32⟩) main_call1_call0_v18_1) addi,
    TRef.binary (TRef.of (T := ⟨S64x32768, .i32⟩) main_call1_call0_v18_0) (TRef.of (T := ⟨S64x32768, .i32⟩) main_call1_call0_v18_1) (TRef.of (T := ⟨S64x32768, .i32⟩) main_call1_call0_v19) xori,
    TRef.nullary (TRef.of (T := ⟨S_, .i32⟩) main_call1_call0_c_2) (constantI S_ 32 9#32),
    TRef.unary (TRef.of (T := ⟨S_, .i32⟩) main_call1_call0_c_2) (TRef.of (T := ⟨S64x32768, .i32⟩) main_call1_call0_v20) (broadcastInDim S64x32768 ![] bcast_S_S64x32768),
    TRef.binary (TRef.of (T := ⟨S64x32768, .i32⟩) main_call1_call0_v19) (TRef.of (T := ⟨S64x32768, .i32⟩) main_call1_call0_v20) (TRef.of (T := ⟨S64x32768, .i32⟩) main_call1_call0_v21) Host.shrui,
    TRef.nullary (TRef.of (T := ⟨S_, .i32⟩) main_call1_call0_c_3) (constantI S_ 32 1065353216#32),
    TRef.unary (TRef.of (T := ⟨S_, .i32⟩) main_call1_call0_c_3) (TRef.of (T := ⟨S64x32768, .i32⟩) main_call1_call0_v22) (broadcastInDim S64x32768 ![] bcast_S_S64x32768),
    TRef.binary (TRef.of (T := ⟨S64x32768, .i32⟩) main_call1_call0_v21) (TRef.of (T := ⟨S64x32768, .i32⟩) main_call1_call0_v22) (TRef.of (T := ⟨S64x32768, .i32⟩) main_call1_call0_v23) ori,
    TRef.unary (TRef.of (T := ⟨S64x32768, .i32⟩) main_call1_call0_v23) (TRef.of (T := ⟨S64x32768, .f32⟩) main_call1_call0_v24) (bitcastToFloat (F := F) .f32),
    TRef.nullary (TRef.of (T := ⟨S_, .f32⟩) main_call1_call0_cst) (constant S_ .f32 0x3F800000#32),
    TRef.unary (TRef.of (T := ⟨S_, .f32⟩) main_call1_call0_cst) (TRef.of (T := ⟨S64x32768, .f32⟩) main_call1_call0_v25) (broadcastInDim S64x32768 ![] bcast_S_S64x32768),
    TRef.binary (TRef.of (T := ⟨S64x32768, .f32⟩) main_call1_call0_v24) (TRef.of (T := ⟨S64x32768, .f32⟩) main_call1_call0_v25) (TRef.of (T := ⟨S64x32768, .f32⟩) main_call1_call0_v26) subf,
    TRef.binary (TRef.of (T := ⟨S1x1, .f32⟩) main_call1_call0_v2) (TRef.of (T := ⟨S1x1, .f32⟩) main_call1_call0_v1) (TRef.of (T := ⟨S1x1, .f32⟩) main_call1_call0_v27) subf,
    TRef.unary (TRef.of (T := ⟨S1x1, .f32⟩) main_call1_call0_v27) (TRef.of (T := ⟨S64x32768, .f32⟩) main_call1_call0_v28) (broadcastInDim S64x32768 ![0, 1] bcast_S1x1_S64x32768_0_1),
    TRef.binary (TRef.of (T := ⟨S64x32768, .f32⟩) main_call1_call0_v26) (TRef.of (T := ⟨S64x32768, .f32⟩) main_call1_call0_v28) (TRef.of (T := ⟨S64x32768, .f32⟩) main_call1_call0_v29) mulf,
    TRef.unary (TRef.of (T := ⟨S1x1, .f32⟩) main_call1_call0_v1) (TRef.of (T := ⟨S64x32768, .f32⟩) main_call1_call0_v30) (broadcastInDim S64x32768 ![0, 1] bcast_S1x1_S64x32768_0_1),
    TRef.binary (TRef.of (T := ⟨S64x32768, .f32⟩) main_call1_call0_v29) (TRef.of (T := ⟨S64x32768, .f32⟩) main_call1_call0_v30) (TRef.of (T := ⟨S64x32768, .f32⟩) main_call1_call0_v31) addf,
    TRef.unary (TRef.of (T := ⟨S1x1, .f32⟩) main_call1_call0_v1) (TRef.of (T := ⟨S64x32768, .f32⟩) main_call1_call0_v32) (broadcastInDim S64x32768 ![0, 1] bcast_S1x1_S64x32768_0_1),
    TRef.binary (TRef.of (T := ⟨S64x32768, .f32⟩) main_call1_call0_v32) (TRef.of (T := ⟨S64x32768, .f32⟩) main_call1_call0_v31) (TRef.of (T := ⟨S64x32768, .f32⟩) main_call1_v0) maximumf,
    TRef.unary (TRef.of (T := ⟨S64x32768, .f32⟩) main_call1_v0) (TRef.of (T := ⟨S64x32768, .f32⟩) main_call1_v1) Host.log,
    TRef.unary (TRef.of (T := ⟨S64x32768, .f32⟩) main_call1_v1) (TRef.of (T := ⟨S64x32768, .f32⟩) main_call1_v2) Host.negf,
    TRef.unary (TRef.of (T := ⟨S64x32768, .f32⟩) main_call1_v2) (TRef.of (T := ⟨S64x32768, .f32⟩) main_call1_v3) Host.log,
    TRef.unary (TRef.of (T := ⟨S64x32768, .f32⟩) main_call1_v3) (TRef.of (T := ⟨S64x32768, .f32⟩) main_v8) Host.negf,
    binary main_v8 main_v0 main_v9 (addf : (⟨S64x32768, .f32⟩ : BufTy).Contents (Elt F) → (⟨S64x32768, .f32⟩ : BufTy).Contents (Elt F) → (⟨S64x32768, .f32⟩ : BufTy).Contents (Elt F)),
    TRef.nullary (TRef.of (T := ⟨S64x32768, .i32⟩) main_call2_v0) (iotaInDim S64x32768 32 1),
    TRef.nullary (TRef.of (T := ⟨S_, .f32⟩) main_call2_cst) (constant S_ .f32 0xFF800000#32),
    TRef.nullary (TRef.of (T := ⟨S_, .i32⟩) main_call2_c) (constantI S_ 32 0#32),
    TRef.quaternary (TRef.of (T := ⟨S64x32768, .f32⟩) main_v9) (TRef.of (T := ⟨S64x32768, .i32⟩) main_call2_v0) (TRef.of (T := ⟨S_, .f32⟩) main_call2_cst) (TRef.of (T := ⟨S_, .i32⟩) main_call2_c) (TRef.of (T := ⟨S64, .f32⟩) main_call2_v1_0) (fun x y u v => fun j => (Host.argReduce reducer_argmax_f32_i32 x y u v reducesTo_S64x32768_S64_d1 h_S_ j).1),
    TRef.quaternary (TRef.of (T := ⟨S64x32768, .f32⟩) main_v9) (TRef.of (T := ⟨S64x32768, .i32⟩) main_call2_v0) (TRef.of (T := ⟨S_, .f32⟩) main_call2_cst) (TRef.of (T := ⟨S_, .i32⟩) main_call2_c) (TRef.of (T := ⟨S64, .i32⟩) main_v10) (fun x y u v => fun j => (Host.argReduce reducer_argmax_f32_i32 x y u v reducesTo_S64x32768_S64_d1 h_S_ j).2),
    nullary main_c_2 (constantI S_ 32 16384#32) ]

/-- @main's operations 301 … 330 of 369 (window `main_part0`). -/
abbrev ops_part0_10 : List (HloOp τ sig (Elt F)) :=
  [ unary main_c_2 main_v11 (broadcastInDim S64 ![] bcast_S_S64 : (⟨S_, .i32⟩ : BufTy).Contents (Elt F) → (⟨S64, .i32⟩ : BufTy).Contents (Elt F)),
    binary main_v10 main_v11 main_v12 (cmpi .slt : (⟨S64, .i32⟩ : BufTy).Contents (Elt F) → (⟨S64, .i32⟩ : BufTy).Contents (Elt F) → (⟨S64, .i1⟩ : BufTy).Contents (Elt F)),
    nullary main_v13 (iotaInDim S64 32 0),
    nullary main_c_3 (constantI S_ 32 16384#32),
    unary main_c_3 main_v14 (broadcastInDim S64 ![] bcast_S_S64 : (⟨S_, .i32⟩ : BufTy).Contents (Elt F) → (⟨S64, .i32⟩ : BufTy).Contents (Elt F)),
    binary main_v13 main_v14 main_v15 (muli : (⟨S64, .i32⟩ : BufTy).Contents (Elt F) → (⟨S64, .i32⟩ : BufTy).Contents (Elt F) → (⟨S64, .i32⟩ : BufTy).Contents (Elt F)),
    nullary main_c_4 (constantI S_ 32 0#32),
    nullary main_c_5 (constantI S_ 32 16383#32),
    TRef.unary (TRef.of (T := ⟨S_, .i32⟩) main_c_4) (TRef.of (T := ⟨S_, .i32⟩) main_call3_v0) id,
    TRef.unary (TRef.of (T := ⟨S_, .i32⟩) main_call3_v0) (TRef.of (T := ⟨S64, .i32⟩) main_call3_v1) (broadcastInDim S64 ![] bcast_S_S64),
    TRef.binary (TRef.of (T := ⟨S64, .i32⟩) main_call3_v1) (TRef.of (T := ⟨S64, .i32⟩) main_v10) (TRef.of (T := ⟨S64, .i32⟩) main_call3_v2) maxsi,
    TRef.unary (TRef.of (T := ⟨S_, .i32⟩) main_c_5) (TRef.of (T := ⟨S_, .i32⟩) main_call3_v3) id,
    TRef.unary (TRef.of (T := ⟨S_, .i32⟩) main_call3_v3) (TRef.of (T := ⟨S64, .i32⟩) main_call3_v4) (broadcastInDim S64 ![] bcast_S_S64),
    TRef.binary (TRef.of (T := ⟨S64, .i32⟩) main_call3_v4) (TRef.of (T := ⟨S64, .i32⟩) main_call3_v2) (TRef.of (T := ⟨S64, .i32⟩) main_v16) minsi,
    binary main_v15 main_v16 main_v17 (addi : (⟨S64, .i32⟩ : BufTy).Contents (Elt F) → (⟨S64, .i32⟩ : BufTy).Contents (Elt F) → (⟨S64, .i32⟩ : BufTy).Contents (Elt F)),
    nullary main_v18 (iotaInDim S64 32 0),
    nullary main_c_6 (constantI S_ 32 16384#32),
    unary main_c_6 main_v19 (broadcastInDim S64 ![] bcast_S_S64 : (⟨S_, .i32⟩ : BufTy).Contents (Elt F) → (⟨S64, .i32⟩ : BufTy).Contents (Elt F)),
    binary main_v18 main_v19 main_v20 (muli : (⟨S64, .i32⟩ : BufTy).Contents (Elt F) → (⟨S64, .i32⟩ : BufTy).Contents (Elt F) → (⟨S64, .i32⟩ : BufTy).Contents (Elt F)),
    nullary main_c_7 (constantI S_ 32 16384#32),
    unary main_c_7 main_v21 (broadcastInDim S64 ![] bcast_S_S64 : (⟨S_, .i32⟩ : BufTy).Contents (Elt F) → (⟨S64, .i32⟩ : BufTy).Contents (Elt F)),
    binary main_v10 main_v21 main_v22 (subi : (⟨S64, .i32⟩ : BufTy).Contents (Elt F) → (⟨S64, .i32⟩ : BufTy).Contents (Elt F) → (⟨S64, .i32⟩ : BufTy).Contents (Elt F)),
    nullary main_c_8 (constantI S_ 32 0#32),
    nullary main_c_9 (constantI S_ 32 16383#32),
    TRef.unary (TRef.of (T := ⟨S_, .i32⟩) main_c_8) (TRef.of (T := ⟨S_, .i32⟩) main_call4_v0) id,
    TRef.unary (TRef.of (T := ⟨S_, .i32⟩) main_call4_v0) (TRef.of (T := ⟨S64, .i32⟩) main_call4_v1) (broadcastInDim S64 ![] bcast_S_S64),
    TRef.binary (TRef.of (T := ⟨S64, .i32⟩) main_call4_v1) (TRef.of (T := ⟨S64, .i32⟩) main_v22) (TRef.of (T := ⟨S64, .i32⟩) main_call4_v2) maxsi,
    TRef.unary (TRef.of (T := ⟨S_, .i32⟩) main_c_9) (TRef.of (T := ⟨S_, .i32⟩) main_call4_v3) id,
    TRef.unary (TRef.of (T := ⟨S_, .i32⟩) main_call4_v3) (TRef.of (T := ⟨S64, .i32⟩) main_call4_v4) (broadcastInDim S64 ![] bcast_S_S64),
    TRef.binary (TRef.of (T := ⟨S64, .i32⟩) main_call4_v4) (TRef.of (T := ⟨S64, .i32⟩) main_call4_v2) (TRef.of (T := ⟨S64, .i32⟩) main_v23) minsi ]

/-- @main's operations 331 … 355 of 369 (window `main_part0`). -/
abbrev ops_part0_11 : List (HloOp τ sig (Elt F)) :=
  [ binary main_v20 main_v23 main_v24 (addi : (⟨S64, .i32⟩ : BufTy).Contents (Elt F) → (⟨S64, .i32⟩ : BufTy).Contents (Elt F) → (⟨S64, .i32⟩ : BufTy).Contents (Elt F)),
    unary main_v12 main_v25 (uitofp .f32 : (⟨S64, .i1⟩ : BufTy).Contents (Elt F) → (⟨S64, .f32⟩ : BufTy).Contents (Elt F)),
    nullary main_c_10 (constantI S_ 32 0#32),
    unary main_c_10 main_v26 (broadcastInDim S64 ![] bcast_S_S64 : (⟨S_, .i32⟩ : BufTy).Contents (Elt F) → (⟨S64, .i32⟩ : BufTy).Contents (Elt F)),
    binary main_v17 main_v26 main_v27 (cmpi .slt : (⟨S64, .i32⟩ : BufTy).Contents (Elt F) → (⟨S64, .i32⟩ : BufTy).Contents (Elt F) → (⟨S64, .i1⟩ : BufTy).Contents (Elt F)),
    nullary main_c_11 (constantI S_ 32 1048576#32),
    unary main_c_11 main_v28 (broadcastInDim S64 ![] bcast_S_S64 : (⟨S_, .i32⟩ : BufTy).Contents (Elt F) → (⟨S64, .i32⟩ : BufTy).Contents (Elt F)),
    binary main_v17 main_v28 main_v29 (addi : (⟨S64, .i32⟩ : BufTy).Contents (Elt F) → (⟨S64, .i32⟩ : BufTy).Contents (Elt F) → (⟨S64, .i32⟩ : BufTy).Contents (Elt F)),
    ternary main_v27 main_v29 main_v17 main_v30 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    nullary main_c_12 (constantI S_ 32 0#32),
    binary main_arg3 main_c_12 main_v31 (cmpi .slt : (⟨S_, .i32⟩ : BufTy).Contents (Elt F) → (⟨S_, .i32⟩ : BufTy).Contents (Elt F) → (⟨S_, .i1⟩ : BufTy).Contents (Elt F)),
    nullary main_c_13 (constantI S_ 32 32#32),
    binary main_arg3 main_c_13 main_v32 (addi : (⟨S_, .i32⟩ : BufTy).Contents (Elt F) → (⟨S_, .i32⟩ : BufTy).Contents (Elt F) → (⟨S_, .i32⟩ : BufTy).Contents (Elt F)),
    ternary main_v31 main_v32 main_arg3 main_v33 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unary main_v33 main_v34 (broadcastInDim S64 ![] bcast_S_S64 : (⟨S_, .i32⟩ : BufTy).Contents (Elt F) → (⟨S64, .i32⟩ : BufTy).Contents (Elt F)),
    unary main_v30 main_v35 (broadcastInDim S64x1 ![0] bcast_S64_S64x1_0 : (⟨S64, .i32⟩ : BufTy).Contents (Elt F) → (⟨S64x1, .i32⟩ : BufTy).Contents (Elt F)),
    unary main_v34 main_v36 (broadcastInDim S64x1 ![0] bcast_S64_S64x1_0 : (⟨S64, .i32⟩ : BufTy).Contents (Elt F) → (⟨S64x1, .i32⟩ : BufTy).Contents (Elt F)),
    binary main_v35 main_v36 main_v37 (fn_main_v37 (F := F)),
    ternary main_arg1 main_v37 main_v25 main_v38 ((fun x i u => Host.scatterAdd scatter_S1048576x32_S64x2_S64_n_01_01_1 x i u) : (⟨S1048576x32, .f32⟩ : BufTy).Contents (Elt F) → (⟨S64x2, .i32⟩ : BufTy).Contents (Elt F) → (⟨S64, .f32⟩ : BufTy).Contents (Elt F) → (⟨S1048576x32, .f32⟩ : BufTy).Contents (Elt F)),
    unary main_v12 main_v39 (noti : (⟨S64, .i1⟩ : BufTy).Contents (Elt F) → (⟨S64, .i1⟩ : BufTy).Contents (Elt F)),
    unary main_v39 main_v40 (uitofp .f32 : (⟨S64, .i1⟩ : BufTy).Contents (Elt F) → (⟨S64, .f32⟩ : BufTy).Contents (Elt F)),
    nullary main_c_14 (constantI S_ 32 0#32),
    unary main_c_14 main_v41 (broadcastInDim S64 ![] bcast_S_S64 : (⟨S_, .i32⟩ : BufTy).Contents (Elt F) → (⟨S64, .i32⟩ : BufTy).Contents (Elt F)),
    binary main_v24 main_v41 main_v42 (cmpi .slt : (⟨S64, .i32⟩ : BufTy).Contents (Elt F) → (⟨S64, .i32⟩ : BufTy).Contents (Elt F) → (⟨S64, .i1⟩ : BufTy).Contents (Elt F)),
    nullary main_c_15 (constantI S_ 32 1048576#32) ]

/-- Window `main_part0`'s operations. Not an abbreviation: `main_eq` below splits `ops` into the windows and no further. -/
def ops_part0 : List (HloOp τ sig (Elt F)) :=
  ops_part0_0 ++ (ops_part0_1 ++ (ops_part0_2 ++ (ops_part0_3 ++ (ops_part0_4 ++ (ops_part0_5 ++ (ops_part0_6 ++ (ops_part0_7 ++ (ops_part0_8 ++ (ops_part0_9 ++ (ops_part0_10 ++ (ops_part0_11)))))))))))

/-- @main's operations 356 … 369 of 369 (window `main_part1`). -/
abbrev ops_part1 : List (HloOp τ sig (Elt F)) :=
  [ unary main_c_15 main_v43 (broadcastInDim S64 ![] bcast_S_S64 : (⟨S_, .i32⟩ : BufTy).Contents (Elt F) → (⟨S64, .i32⟩ : BufTy).Contents (Elt F)),
    binary main_v24 main_v43 main_v44 (addi : (⟨S64, .i32⟩ : BufTy).Contents (Elt F) → (⟨S64, .i32⟩ : BufTy).Contents (Elt F) → (⟨S64, .i32⟩ : BufTy).Contents (Elt F)),
    ternary main_v42 main_v44 main_v24 main_v45 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    nullary main_c_16 (constantI S_ 32 0#32),
    binary main_arg3 main_c_16 main_v46 (cmpi .slt : (⟨S_, .i32⟩ : BufTy).Contents (Elt F) → (⟨S_, .i32⟩ : BufTy).Contents (Elt F) → (⟨S_, .i1⟩ : BufTy).Contents (Elt F)),
    nullary main_c_17 (constantI S_ 32 32#32),
    binary main_arg3 main_c_17 main_v47 (addi : (⟨S_, .i32⟩ : BufTy).Contents (Elt F) → (⟨S_, .i32⟩ : BufTy).Contents (Elt F) → (⟨S_, .i32⟩ : BufTy).Contents (Elt F)),
    ternary main_v46 main_v47 main_arg3 main_v48 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unary main_v48 main_v49 (broadcastInDim S64 ![] bcast_S_S64 : (⟨S_, .i32⟩ : BufTy).Contents (Elt F) → (⟨S64, .i32⟩ : BufTy).Contents (Elt F)),
    unary main_v45 main_v50 (broadcastInDim S64x1 ![0] bcast_S64_S64x1_0 : (⟨S64, .i32⟩ : BufTy).Contents (Elt F) → (⟨S64x1, .i32⟩ : BufTy).Contents (Elt F)),
    unary main_v49 main_v51 (broadcastInDim S64x1 ![0] bcast_S64_S64x1_0 : (⟨S64, .i32⟩ : BufTy).Contents (Elt F) → (⟨S64x1, .i32⟩ : BufTy).Contents (Elt F)),
    binary main_v50 main_v51 main_v52 (fn_main_v52 (F := F)),
    ternary main_arg2 main_v52 main_v40 main_v53 ((fun x i u => Host.scatterAdd scatter_S1048576x32_S64x2_S64_n_01_01_1 x i u) : (⟨S1048576x32, .f32⟩ : BufTy).Contents (Elt F) → (⟨S64x2, .i32⟩ : BufTy).Contents (Elt F) → (⟨S64, .f32⟩ : BufTy).Contents (Elt F) → (⟨S1048576x32, .f32⟩ : BufTy).Contents (Elt F)),
    binary main_v38 main_v53 main_v54 (fn_main_v54 (F := F)) ]

/-- @main's 369 operations, in order (a called function's operations stand in its call's place, spelt `TRef.…`). -/
abbrev ops : List (HloOp τ sig (Elt F)) :=
  ops_part0 ++ (ops_part1)

set_option maxRecDepth 8192 in
set_option maxHeartbeats 4000000 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_eq (c : Dev nD) : main (F := F) c = seq ops := by
  simp only [ops, seq_append, ← main_part0_eq c, ← main_part1_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨binary_bufs_sub .., nullary_bufs_sub .., unary_bufs_sub .., ternary_bufs_sub .., nullary_bufs_sub .., unary_bufs_sub .., binary_bufs_sub .., nullary_bufs_sub .., unary_bufs_sub .., ternary_bufs_sub .., nullary_bufs_sub .., unary_bufs_sub .., binary_bufs_sub .., nullary_bufs_sub .., unary_bufs_sub .., ternary_bufs_sub .., nullary_bufs_sub .., nullary_bufs_sub .., binary_bufs_sub .., unary_bufs_sub .., unary_bufs_sub .., nullary_bufs_sub .., binary_bufs_sub .., unary_bufs_sub .., unary_bufs_sub .., binary_bufs_sub .., nullary_bufs_sub .., nullary_bufs_sub .., unary_bufs_sub .., unary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨unary_bufs_sub .., unary_bufs_sub .., reshape_bufs_sub .., unary_bufs_sub .., reshape_bufs_sub .., nullary_bufs_sub .., nullary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., unary_bufs_sub .., binary_bufs_sub .., nullary_bufs_sub .., binary_bufs_sub .., unary_bufs_sub .., binary_bufs_sub .., unary_bufs_sub .., binary_bufs_sub .., binary_bufs_sub .., nullary_bufs_sub .., unary_bufs_sub .., binary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub ..⟩
set_option maxRecDepth 8192 in
theorem ops_part0_2_fresh : (ops_part0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_3_sub : (ops_part0_3 : List (HloOp τ sig (Elt F))).Forall fun op => op.bufs ⊆ tcRefs τ sig :=
  ⟨binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub ..⟩
set_option maxRecDepth 8192 in
theorem ops_part0_3_fresh : (ops_part0_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_4_sub : (ops_part0_4 : List (HloOp τ sig (Elt F))).Forall fun op => op.bufs ⊆ tcRefs τ sig :=
  ⟨binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub ..⟩
set_option maxRecDepth 8192 in
theorem ops_part0_4_fresh : (ops_part0_4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_5_sub : (ops_part0_5 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub ..⟩
set_option maxRecDepth 8192 in
theorem ops_part0_5_fresh : (ops_part0_5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_6_sub : (ops_part0_6 : List (HloOp τ sig (Elt F))).Forall fun op => op.bufs ⊆ tcRefs τ sig :=
  ⟨unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub ..⟩
set_option maxRecDepth 8192 in
theorem ops_part0_6_fresh : (ops_part0_6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_7_sub : (ops_part0_7 : List (HloOp τ sig (Elt F))).Forall fun op => op.bufs ⊆ tcRefs τ sig :=
  ⟨binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub ..⟩
set_option maxRecDepth 8192 in
theorem ops_part0_7_fresh : (ops_part0_7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_8_sub : (ops_part0_8 : List (HloOp τ sig (Elt F))).Forall fun op => op.bufs ⊆ tcRefs τ sig :=
  ⟨binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub ..⟩
set_option maxRecDepth 8192 in
theorem ops_part0_8_fresh : (ops_part0_8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_9_sub : (ops_part0_9 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., unary_bufs_sub .., binary_bufs_sub .., unary_bufs_sub .., binary_bufs_sub .., unary_bufs_sub .., binary_bufs_sub .., unary_bufs_sub .., unary_bufs_sub .., unary_bufs_sub .., unary_bufs_sub .., binary_bufs_sub .., nullary_bufs_sub .., nullary_bufs_sub .., nullary_bufs_sub .., quaternary_bufs_sub .., quaternary_bufs_sub .., nullary_bufs_sub ..⟩
set_option maxRecDepth 8192 in
theorem ops_part0_9_fresh : (ops_part0_9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_10_sub : (ops_part0_10 : List (HloOp τ sig (Elt F))).Forall fun op => op.bufs ⊆ tcRefs τ sig :=
  ⟨unary_bufs_sub .., binary_bufs_sub .., nullary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., binary_bufs_sub .., nullary_bufs_sub .., nullary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub ..⟩
set_option maxRecDepth 8192 in
theorem ops_part0_10_fresh : (ops_part0_10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_11_sub : (ops_part0_11 : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., nullary_bufs_sub .., binary_bufs_sub .., nullary_bufs_sub .., binary_bufs_sub .., ternary_bufs_sub .., unary_bufs_sub .., unary_bufs_sub .., unary_bufs_sub .., binary_bufs_sub .., ternary_bufs_sub .., unary_bufs_sub .., unary_bufs_sub .., nullary_bufs_sub .., unary_bufs_sub .., binary_bufs_sub .., nullary_bufs_sub ..⟩
set_option maxRecDepth 8192 in
theorem ops_part0_11_fresh : (ops_part0_11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_sub : (ops_part1 : List (HloOp τ sig (Elt F))).Forall fun op => op.bufs ⊆ tcRefs τ sig :=
  ⟨unary_bufs_sub .., binary_bufs_sub .., ternary_bufs_sub .., nullary_bufs_sub .., binary_bufs_sub .., nullary_bufs_sub .., binary_bufs_sub .., ternary_bufs_sub .., unary_bufs_sub .., unary_bufs_sub .., unary_bufs_sub .., binary_bufs_sub .., ternary_bufs_sub .., binary_bufs_sub ..⟩
set_option maxRecDepth 8192 in
theorem ops_part1_fresh : (ops_part1 : List (HloOp τ sig (Elt F))).Forall fun op => op.fresh = ∅ :=
  ⟨rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, List.mem_append, or_assoc] at h
    rcases h with h | h | h | h | h | h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part0_3_sub op h, List.forall_iff_forall_mem.mp ops_part0_4_sub op h, List.forall_iff_forall_mem.mp ops_part0_5_sub op h, List.forall_iff_forall_mem.mp ops_part0_6_sub op h, List.forall_iff_forall_mem.mp ops_part0_7_sub op h, List.forall_iff_forall_mem.mp ops_part0_8_sub op h, List.forall_iff_forall_mem.mp ops_part0_9_sub op h, List.forall_iff_forall_mem.mp ops_part0_10_sub op h, List.forall_iff_forall_mem.mp ops_part0_11_sub op h, List.forall_iff_forall_mem.mp ops_part1_sub op h]
theorem ops_fresh : ∀ op ∈ (ops : List (HloOp τ sig (Elt F))), op.fresh = ∅ := fun op h => by
    simp only [ops, ops_part0, List.mem_append, or_assoc] at h
    rcases h with h | h | h | h | h | h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part0_3_fresh op h, List.forall_iff_forall_mem.mp ops_part0_4_fresh op h, List.forall_iff_forall_mem.mp ops_part0_5_fresh op h, List.forall_iff_forall_mem.mp ops_part0_6_fresh op h, List.forall_iff_forall_mem.mp ops_part0_7_fresh op h, List.forall_iff_forall_mem.mp ops_part0_8_fresh op h, List.forall_iff_forall_mem.mp ops_part0_9_fresh op h, List.forall_iff_forall_mem.mp ops_part0_10_fresh op h, List.forall_iff_forall_mem.mp ops_part0_11_fresh op h, List.forall_iff_forall_mem.mp ops_part1_fresh op h]

set_option maxRecDepth 8192 in
/-- `main_call0_v1`'s composed term of the arguments (named: it is used 2 times). -/
def res_main_call0_v1 (V0 : Valuation τ sig (Elt F)) : (Proc.devRef .tc main_call0_v1 : DevRef τ sig).ty.Contents (Elt F) :=
  select (cmpf .une (V0 (Proc.devRef .tc main_arg0)) (V0 (Proc.devRef .tc main_arg0))) (broadcastInDim S64x32768 ![] bcast_S_S64x32768 (constant S_ .f32 0x00000000#32)) (V0 (Proc.devRef .tc main_arg0))

set_option maxRecDepth 8192 in
/-- `main_call0_v4`'s composed term of the arguments (named: it is used 2 times). -/
def res_main_call0_v4 (V0 : Valuation τ sig (Elt F)) : (Proc.devRef .tc main_call0_v4 : DevRef τ sig).ty.Contents (Elt F) :=
  select (cmpf .oeq (res_main_call0_v1 V0) (broadcastInDim S64x32768 ![] bcast_S_S64x32768 (constant S_ .f32 0x7F800000#32))) (broadcastInDim S64x32768 ![] bcast_S_S64x32768 (constant S_ .f32 0x7F7FFFFF#32)) (res_main_call0_v1 V0)

set_option maxRecDepth 8192 in
/-- `main_c`'s composed term of the arguments (named: it is used 2 times). -/
def res_main_c (V0 : Valuation τ sig (Elt F)) : (Proc.devRef .tc main_c : DevRef τ sig).ty.Contents (Elt F) :=
  constantI S_ 32 12345#32

set_option maxRecDepth 8192 in
/-- `main_v7`'s composed term of the arguments (named: it is used 2 times). -/
def res_main_v7 (V0 : Valuation τ sig (Elt F)) : (Proc.devRef .tc main_v7 : DevRef τ sig).ty.Contents (Elt F) :=
  concatenate S2 0 [⟨S1, (broadcastInDim S1 ![] bcast_S_S1 (id (Host.shrui (res_main_c V0) (constantI S_ 32 32#32))))⟩, ⟨S1, (broadcastInDim S1 ![] bcast_S_S1 (id (andi (res_main_c V0) (constantI S_ 32 4294967295#32))))⟩] concatenates_S1_S1_S2_d0

set_option maxRecDepth 8192 in
/-- `main_call1_call0_v1`'s composed term of the arguments (named: it is used 3 times). -/
def res_main_call1_call0_v1 (V0 : Valuation τ sig (Elt F)) : (Proc.devRef .tc main_call1_call0_v1 : DevRef τ sig).ty.Contents (Elt F) :=
  broadcastInDim S1x1 ![] bcast_S_S1x1 (constant S_ .f32 0x00800000#32)

set_option maxRecDepth 8192 in
/-- `main_call1_call0_v4`'s composed term of the arguments (named: it is used 5 times). -/
def res_main_call1_call0_v4 (V0 : Valuation τ sig (Elt F)) : (Proc.devRef .tc main_call1_call0_v4 : DevRef τ sig).ty.Contents (Elt F) :=
  shapeCast _ (extractStridedSlice S1 ![0] (res_main_v7 V0) slices_S2_S1_0) shapeCasts_S1_S_

set_option maxRecDepth 8192 in
/-- `main_call1_call0_v6`'s composed term of the arguments (named: it is used 5 times). -/
def res_main_call1_call0_v6 (V0 : Valuation τ sig (Elt F)) : (Proc.devRef .tc main_call1_call0_v6 : DevRef τ sig).ty.Contents (Elt F) :=
  shapeCast _ (extractStridedSlice S1 ![1] (res_main_v7 V0) slices_S2_S1_1) shapeCasts_S1_S_

set_option maxRecDepth 8192 in
/-- `main_call1_call0_v13`'s composed term of the arguments (named: it is used 2 times). -/
def res_main_call1_call0_v13 (V0 : Valuation τ sig (Elt F)) : (Proc.devRef .tc main_call1_call0_v13 : DevRef τ sig).ty.Contents (Elt F) :=
  addi (muli (broadcastInDim S64x32768 ![] bcast_S_S64x32768 (constantI S_ 64 32768#64)) (iotaInDim S64x32768 64 0)) (muli (broadcastInDim S64x32768 ![] bcast_S_S64x32768 (constantI S_ 64 1#64)) (iotaInDim S64x32768 64 1))

set_option maxRecDepth 8192 in
/-- `main_call1_call0_call0_v1`'s composed term of the arguments (named: it is used 4 times). -/
def res_main_call1_call0_call0_v1 (V0 : Valuation τ sig (Elt F)) : (Proc.devRef .tc main_call1_call0_call0_v1 : DevRef τ sig).ty.Contents (Elt F) :=
  xori (xori (res_main_call1_call0_v4 V0) (res_main_call1_call0_v6 V0)) (constantI S_ 32 466688986#32)

set_option maxRecDepth 8192 in
/-- `main_call1_call0_call0_v5`'s composed term of the arguments (named: it is used 3 times). -/
def res_main_call1_call0_call0_v5 (V0 : Valuation τ sig (Elt F)) : (Proc.devRef .tc main_call1_call0_call0_v5 : DevRef τ sig).ty.Contents (Elt F) :=
  addi (trunci 32 (res_main_call1_call0_v13 V0) natLt_32_64) (broadcastInDim S64x32768 ![] bcast_S_S64x32768 (res_main_call1_call0_v6 V0))

set_option maxRecDepth 8192 in
/-- `main_call1_call0_call0_v6`'s composed term of the arguments (named: it is used 2 times). -/
def res_main_call1_call0_call0_v6 (V0 : Valuation τ sig (Elt F)) : (Proc.devRef .tc main_call1_call0_call0_v6 : DevRef τ sig).ty.Contents (Elt F) :=
  addi (addi (trunci 32 (Host.shrui (res_main_call1_call0_v13 V0) (broadcastInDim S64x32768 ![] bcast_S_S64x32768 (constantI S_ 64 32#64))) natLt_32_64) (broadcastInDim S64x32768 ![] bcast_S_S64x32768 (res_main_call1_call0_v4 V0))) (res_main_call1_call0_call0_v5 V0)

set_option maxRecDepth 8192 in
/-- `main_call1_call0_call0_v12`'s composed term of the arguments (named: it is used 3 times). -/
def res_main_call1_call0_call0_v12 (V0 : Valuation τ sig (Elt F)) : (Proc.devRef .tc main_call1_call0_call0_v12 : DevRef τ sig).ty.Contents (Elt F) :=
  xori (res_main_call1_call0_call0_v6 V0) (ori (Host.shli (res_main_call1_call0_call0_v5 V0) (broadcastInDim S64x32768 ![] bcast_S_S64x32768 (constantI S_ 32 13#32))) (Host.shrui (res_main_call1_call0_call0_v5 V0) (broadcastInDim S64x32768 ![] bcast_S_S64x32768 (constantI S_ 32 19#32))))

set_option maxRecDepth 8192 in
/-- `main_call1_call0_call0_v13`'s composed term of the arguments (named: it is used 2 times). -/
def res_main_call1_call0_call0_v13 (V0 : Valuation τ sig (Elt F)) : (Proc.devRef .tc main_call1_call0_call0_v13 : DevRef τ sig).ty.Contents (Elt F) :=
  addi (res_main_call1_call0_call0_v6 V0) (res_main_call1_call0_call0_v12 V0)

set_option maxRecDepth 8192 in
/-- `main_call1_call0_call0_v19`'s composed term of the arguments (named: it is used 3 times). -/
def res_main_call1_call0_call0_v19 (V0 : Valuation τ sig (Elt F)) : (Proc.devRef .tc main_call1_call0_call0_v19 : DevRef τ sig).ty.Contents (Elt F) :=
  xori (res_main_call1_call0_call0_v13 V0) (ori (Host.shli (res_main_call1_call0_call0_v12 V0) (broadcastInDim S64x32768 ![] bcast_S_S64x32768 (constantI S_ 32 15#32))) (Host.shrui (res_main_call1_call0_call0_v12 V0) (broadcastInDim S64x32768 ![] bcast_S_S64x32768 (constantI S_ 32 17#32))))

set_option maxRecDepth 8192 in
/-- `main_call1_call0_call0_v20`'s composed term of the arguments (named: it is used 2 times). -/
def res_main_call1_call0_call0_v20 (V0 : Valuation τ sig (Elt F)) : (Proc.devRef .tc main_call1_call0_call0_v20 : DevRef τ sig).ty.Contents (Elt F) :=
  addi (res_main_call1_call0_call0_v13 V0) (res_main_call1_call0_call0_v19 V0)

set_option maxRecDepth 8192 in
/-- `main_call1_call0_call0_v26`'s composed term of the arguments (named: it is used 3 times). -/
def res_main_call1_call0_call0_v26 (V0 : Valuation τ sig (Elt F)) : (Proc.devRef .tc main_call1_call0_call0_v26 : DevRef τ sig).ty.Contents (Elt F) :=
  xori (res_main_call1_call0_call0_v20 V0) (ori (Host.shli (res_main_call1_call0_call0_v19 V0) (broadcastInDim S64x32768 ![] bcast_S_S64x32768 (constantI S_ 32 26#32))) (Host.shrui (res_main_call1_call0_call0_v19 V0) (broadcastInDim S64x32768 ![] bcast_S_S64x32768 (constantI S_ 32 6#32))))

set_option maxRecDepth 8192 in
/-- `main_call1_call0_call0_v27`'s composed term of the arguments (named: it is used 2 times). -/
def res_main_call1_call0_call0_v27 (V0 : Valuation τ sig (Elt F)) : (Proc.devRef .tc main_call1_call0_call0_v27 : DevRef τ sig).ty.Contents (Elt F) :=
  addi (res_main_call1_call0_call0_v20 V0) (res_main_call1_call0_call0_v26 V0)

set_option maxRecDepth 8192 in
/-- `main_call1_call0_call0_v39`'s composed term of the arguments (named: it is used 3 times). -/
def res_main_call1_call0_call0_v39 (V0 : Valuation τ sig (Elt F)) : (Proc.devRef .tc main_call1_call0_call0_v39 : DevRef τ sig).ty.Contents (Elt F) :=
  addi (addi (xori (res_main_call1_call0_call0_v27 V0) (ori (Host.shli (res_main_call1_call0_call0_v26 V0) (broadcastInDim S64x32768 ![] bcast_S_S64x32768 (constantI S_ 32 6#32))) (Host.shrui (res_main_call1_call0_call0_v26 V0) (broadcastInDim S64x32768 ![] bcast_S_S64x32768 (constantI S_ 32 26#32))))) (broadcastInDim S64x32768 ![] bcast_S_S64x32768 (res_main_call1_call0_call0_v1 V0))) (broadcastInDim S64x32768 ![] bcast_S_S64x32768 (constantI S_ 32 1#32))

set_option maxRecDepth 8192 in
/-- `main_call1_call0_call0_v40`'s composed term of the arguments (named: it is used 2 times). -/
def res_main_call1_call0_call0_v40 (V0 : Valuation τ sig (Elt F)) : (Proc.devRef .tc main_call1_call0_call0_v40 : DevRef τ sig).ty.Contents (Elt F) :=
  addi (addi (res_main_call1_call0_call0_v27 V0) (broadcastInDim S64x32768 ![] bcast_S_S64x32768 (res_main_call1_call0_v6 V0))) (res_main_call1_call0_call0_v39 V0)

set_option maxRecDepth 8192 in
/-- `main_call1_call0_call0_v46`'s composed term of the arguments (named: it is used 3 times). -/
def res_main_call1_call0_call0_v46 (V0 : Valuation τ sig (Elt F)) : (Proc.devRef .tc main_call1_call0_call0_v46 : DevRef τ sig).ty.Contents (Elt F) :=
  xori (res_main_call1_call0_call0_v40 V0) (ori (Host.shli (res_main_call1_call0_call0_v39 V0) (broadcastInDim S64x32768 ![] bcast_S_S64x32768 (constantI S_ 32 17#32))) (Host.shrui (res_main_call1_call0_call0_v39 V0) (broadcastInDim S64x32768 ![] bcast_S_S64x32768 (constantI S_ 32 15#32))))

set_option maxRecDepth 8192 in
/-- `main_call1_call0_call0_v47`'s composed term of the arguments (named: it is used 2 times). -/
def res_main_call1_call0_call0_v47 (V0 : Valuation τ sig (Elt F)) : (Proc.devRef .tc main_call1_call0_call0_v47 : DevRef τ sig).ty.Contents (Elt F) :=
  addi (res_main_call1_call0_call0_v40 V0) (res_main_call1_call0_call0_v46 V0)

set_option maxRecDepth 8192 in
/-- `main_call1_call0_call0_v53`'s composed term of the arguments (named: it is used 3 times). -/
def res_main_call1_call0_call0_v53 (V0 : Valuation τ sig (Elt F)) : (Proc.devRef .tc main_call1_call0_call0_v53 : DevRef τ sig).ty.Contents (Elt F) :=
  xori (res_main_call1_call0_call0_v47 V0) (ori (Host.shli (res_main_call1_call0_call0_v46 V0) (broadcastInDim S64x32768 ![] bcast_S_S64x32768 (constantI S_ 32 29#32))) (Host.shrui (res_main_call1_call0_call0_v46 V0) (broadcastInDim S64x32768 ![] bcast_S_S64x32768 (constantI S_ 32 3#32))))

set_option maxRecDepth 8192 in
/-- `main_call1_call0_call0_v54`'s composed term of the arguments (named: it is used 2 times). -/
def res_main_call1_call0_call0_v54 (V0 : Valuation τ sig (Elt F)) : (Proc.devRef .tc main_call1_call0_call0_v54 : DevRef τ sig).ty.Contents (Elt F) :=
  addi (res_main_call1_call0_call0_v47 V0) (res_main_call1_call0_call0_v53 V0)

set_option maxRecDepth 8192 in
/-- `main_call1_call0_call0_v60`'s composed term of the arguments (named: it is used 3 times). -/
def res_main_call1_call0_call0_v60 (V0 : Valuation τ sig (Elt F)) : (Proc.devRef .tc main_call1_call0_call0_v60 : DevRef τ sig).ty.Contents (Elt F) :=
  xori (res_main_call1_call0_call0_v54 V0) (ori (Host.shli (res_main_call1_call0_call0_v53 V0) (broadcastInDim S64x32768 ![] bcast_S_S64x32768 (constantI S_ 32 16#32))) (Host.shrui (res_main_call1_call0_call0_v53 V0) (broadcastInDim S64x32768 ![] bcast_S_S64x32768 (constantI S_ 32 16#32))))

set_option maxRecDepth 8192 in
/-- `main_call1_call0_call0_v61`'s composed term of the arguments (named: it is used 2 times). -/
def res_main_call1_call0_call0_v61 (V0 : Valuation τ sig (Elt F)) : (Proc.devRef .tc main_call1_call0_call0_v61 : DevRef τ sig).ty.Contents (Elt F) :=
  addi (res_main_call1_call0_call0_v54 V0) (res_main_call1_call0_call0_v60 V0)

set_option maxRecDepth 8192 in
/-- `main_call1_call0_call0_v73`'s composed term of the arguments (named: it is used 3 times). -/
def res_main_call1_call0_call0_v73 (V0 : Valuation τ sig (Elt F)) : (Proc.devRef .tc main_call1_call0_call0_v73 : DevRef τ sig).ty.Contents (Elt F) :=
  addi (addi (xori (res_main_call1_call0_call0_v61 V0) (ori (Host.shli (res_main_call1_call0_call0_v60 V0) (broadcastInDim S64x32768 ![] bcast_S_S64x32768 (constantI S_ 32 24#32))) (Host.shrui (res_main_call1_call0_call0_v60 V0) (broadcastInDim S64x32768 ![] bcast_S_S64x32768 (constantI S_ 32 8#32))))) (broadcastInDim S64x32768 ![] bcast_S_S64x32768 (res_main_call1_call0_v4 V0))) (broadcastInDim S64x32768 ![] bcast_S_S64x32768 (constantI S_ 32 2#32))

set_option maxRecDepth 8192 in
/-- `main_call1_call0_call0_v74`'s composed term of the arguments (named: it is used 2 times). -/
def res_main_call1_call0_call0_v74 (V0 : Valuation τ sig (Elt F)) : (Proc.devRef .tc main_call1_call0_call0_v74 : DevRef τ sig).ty.Contents (Elt F) :=
  addi (addi (res_main_call1_call0_call0_v61 V0) (broadcastInDim S64x32768 ![] bcast_S_S64x32768 (res_main_call1_call0_call0_v1 V0))) (res_main_call1_call0_call0_v73 V0)

set_option maxRecDepth 8192 in
/-- `main_call1_call0_call0_v80`'s composed term of the arguments (named: it is used 3 times). -/
def res_main_call1_call0_call0_v80 (V0 : Valuation τ sig (Elt F)) : (Proc.devRef .tc main_call1_call0_call0_v80 : DevRef τ sig).ty.Contents (Elt F) :=
  xori (res_main_call1_call0_call0_v74 V0) (ori (Host.shli (res_main_call1_call0_call0_v73 V0) (broadcastInDim S64x32768 ![] bcast_S_S64x32768 (constantI S_ 32 13#32))) (Host.shrui (res_main_call1_call0_call0_v73 V0) (broadcastInDim S64x32768 ![] bcast_S_S64x32768 (constantI S_ 32 19#32))))

set_option maxRecDepth 8192 in
/-- `main_call1_call0_call0_v81`'s composed term of the arguments (named: it is used 2 times). -/
def res_main_call1_call0_call0_v81 (V0 : Valuation τ sig (Elt F)) : (Proc.devRef .tc main_call1_call0_call0_v81 : DevRef τ sig).ty.Contents (Elt F) :=
  addi (res_main_call1_call0_call0_v74 V0) (res_main_call1_call0_call0_v80 V0)

set_option maxRecDepth 8192 in
/-- `main_call1_call0_call0_v87`'s composed term of the arguments (named: it is used 3 times). -/
def res_main_call1_call0_call0_v87 (V0 : Valuation τ sig (Elt F)) : (Proc.devRef .tc main_call1_call0_call0_v87 : DevRef τ sig).ty.Contents (Elt F) :=
  xori (res_main_call1_call0_call0_v81 V0) (ori (Host.shli (res_main_call1_call0_call0_v80 V0) (broadcastInDim S64x32768 ![] bcast_S_S64x32768 (constantI S_ 32 15#32))) (Host.shrui (res_main_call1_call0_call0_v80 V0) (broadcastInDim S64x32768 ![] bcast_S_S64x32768 (constantI S_ 32 17#32))))

set_option maxRecDepth 8192 in
/-- `main_call1_call0_call0_v88`'s composed term of the arguments (named: it is used 2 times). -/
def res_main_call1_call0_call0_v88 (V0 : Valuation τ sig (Elt F)) : (Proc.devRef .tc main_call1_call0_call0_v88 : DevRef τ sig).ty.Contents (Elt F) :=
  addi (res_main_call1_call0_call0_v81 V0) (res_main_call1_call0_call0_v87 V0)

set_option maxRecDepth 8192 in
/-- `main_call1_call0_call0_v94`'s composed term of the arguments (named: it is used 3 times). -/
def res_main_call1_call0_call0_v94 (V0 : Valuation τ sig (Elt F)) : (Proc.devRef .tc main_call1_call0_call0_v94 : DevRef τ sig).ty.Contents (Elt F) :=
  xori (res_main_call1_call0_call0_v88 V0) (ori (Host.shli (res_main_call1_call0_call0_v87 V0) (broadcastInDim S64x32768 ![] bcast_S_S64x32768 (constantI S_ 32 26#32))) (Host.shrui (res_main_call1_call0_call0_v87 V0) (broadcastInDim S64x32768 ![] bcast_S_S64x32768 (constantI S_ 32 6#32))))

set_option maxRecDepth 8192 in
/-- `main_call1_call0_call0_v95`'s composed term of the arguments (named: it is used 2 times). -/
def res_main_call1_call0_call0_v95 (V0 : Valuation τ sig (Elt F)) : (Proc.devRef .tc main_call1_call0_call0_v95 : DevRef τ sig).ty.Contents (Elt F) :=
  addi (res_main_call1_call0_call0_v88 V0) (res_main_call1_call0_call0_v94 V0)

set_option maxRecDepth 8192 in
/-- `main_call1_call0_call0_v107`'s composed term of the arguments (named: it is used 3 times). -/
def res_main_call1_call0_call0_v107 (V0 : Valuation τ sig (Elt F)) : (Proc.devRef .tc main_call1_call0_call0_v107 : DevRef τ sig).ty.Contents (Elt F) :=
  addi (addi (xori (res_main_call1_call0_call0_v95 V0) (ori (Host.shli (res_main_call1_call0_call0_v94 V0) (broadcastInDim S64x32768 ![] bcast_S_S64x32768 (constantI S_ 32 6#32))) (Host.shrui (res_main_call1_call0_call0_v94 V0) (broadcastInDim S64x32768 ![] bcast_S_S64x32768 (constantI S_ 32 26#32))))) (broadcastInDim S64x32768 ![] bcast_S_S64x32768 (res_main_call1_call0_v6 V0))) (broadcastInDim S64x32768 ![] bcast_S_S64x32768 (constantI S_ 32 3#32))

set_option maxRecDepth 8192 in
/-- `main_call1_call0_call0_v108`'s composed term of the arguments (named: it is used 2 times). -/
def res_main_call1_call0_call0_v108 (V0 : Valuation τ sig (Elt F)) : (Proc.devRef .tc main_call1_call0_call0_v108 : DevRef τ sig).ty.Contents (Elt F) :=
  addi (addi (res_main_call1_call0_call0_v95 V0) (broadcastInDim S64x32768 ![] bcast_S_S64x32768 (res_main_call1_call0_v4 V0))) (res_main_call1_call0_call0_v107 V0)

set_option maxRecDepth 8192 in
/-- `main_call1_call0_call0_v114`'s composed term of the arguments (named: it is used 3 times). -/
def res_main_call1_call0_call0_v114 (V0 : Valuation τ sig (Elt F)) : (Proc.devRef .tc main_call1_call0_call0_v114 : DevRef τ sig).ty.Contents (Elt F) :=
  xori (res_main_call1_call0_call0_v108 V0) (ori (Host.shli (res_main_call1_call0_call0_v107 V0) (broadcastInDim S64x32768 ![] bcast_S_S64x32768 (constantI S_ 32 17#32))) (Host.shrui (res_main_call1_call0_call0_v107 V0) (broadcastInDim S64x32768 ![] bcast_S_S64x32768 (constantI S_ 32 15#32))))

set_option maxRecDepth 8192 in
/-- `main_call1_call0_call0_v115`'s composed term of the arguments (named: it is used 2 times). -/
def res_main_call1_call0_call0_v115 (V0 : Valuation τ sig (Elt F)) : (Proc.devRef .tc main_call1_call0_call0_v115 : DevRef τ sig).ty.Contents (Elt F) :=
  addi (res_main_call1_call0_call0_v108 V0) (res_main_call1_call0_call0_v114 V0)

set_option maxRecDepth 8192 in
/-- `main_call1_call0_call0_v121`'s composed term of the arguments (named: it is used 3 times). -/
def res_main_call1_call0_call0_v121 (V0 : Valuation τ sig (Elt F)) : (Proc.devRef .tc main_call1_call0_call0_v121 : DevRef τ sig).ty.Contents (Elt F) :=
  xori (res_main_call1_call0_call0_v115 V0) (ori (Host.shli (res_main_call1_call0_call0_v114 V0) (broadcastInDim S64x32768 ![] bcast_S_S64x32768 (constantI S_ 32 29#32))) (Host.shrui (res_main_call1_call0_call0_v114 V0) (broadcastInDim S64x32768 ![] bcast_S_S64x32768 (constantI S_ 32 3#32))))

set_option maxRecDepth 8192 in
/-- `main_call1_call0_call0_v122`'s composed term of the arguments (named: it is used 2 times). -/
def res_main_call1_call0_call0_v122 (V0 : Valuation τ sig (Elt F)) : (Proc.devRef .tc main_call1_call0_call0_v122 : DevRef τ sig).ty.Contents (Elt F) :=
  addi (res_main_call1_call0_call0_v115 V0) (res_main_call1_call0_call0_v121 V0)

set_option maxRecDepth 8192 in
/-- `main_call1_call0_call0_v128`'s composed term of the arguments (named: it is used 3 times). -/
def res_main_call1_call0_call0_v128 (V0 : Valuation τ sig (Elt F)) : (Proc.devRef .tc main_call1_call0_call0_v128 : DevRef τ sig).ty.Contents (Elt F) :=
  xori (res_main_call1_call0_call0_v122 V0) (ori (Host.shli (res_main_call1_call0_call0_v121 V0) (broadcastInDim S64x32768 ![] bcast_S_S64x32768 (constantI S_ 32 16#32))) (Host.shrui (res_main_call1_call0_call0_v121 V0) (broadcastInDim S64x32768 ![] bcast_S_S64x32768 (constantI S_ 32 16#32))))

set_option maxRecDepth 8192 in
/-- `main_call1_call0_call0_v129`'s composed term of the arguments (named: it is used 2 times). -/
def res_main_call1_call0_call0_v129 (V0 : Valuation τ sig (Elt F)) : (Proc.devRef .tc main_call1_call0_call0_v129 : DevRef τ sig).ty.Contents (Elt F) :=
  addi (res_main_call1_call0_call0_v122 V0) (res_main_call1_call0_call0_v128 V0)

set_option maxRecDepth 8192 in
/-- `main_call1_call0_call0_v141`'s composed term of the arguments (named: it is used 3 times). -/
def res_main_call1_call0_call0_v141 (V0 : Valuation τ sig (Elt F)) : (Proc.devRef .tc main_call1_call0_call0_v141 : DevRef τ sig).ty.Contents (Elt F) :=
  addi (addi (xori (res_main_call1_call0_call0_v129 V0) (ori (Host.shli (res_main_call1_call0_call0_v128 V0) (broadcastInDim S64x32768 ![] bcast_S_S64x32768 (constantI S_ 32 24#32))) (Host.shrui (res_main_call1_call0_call0_v128 V0) (broadcastInDim S64x32768 ![] bcast_S_S64x32768 (constantI S_ 32 8#32))))) (broadcastInDim S64x32768 ![] bcast_S_S64x32768 (res_main_call1_call0_call0_v1 V0))) (broadcastInDim S64x32768 ![] bcast_S_S64x32768 (constantI S_ 32 4#32))

set_option maxRecDepth 8192 in
/-- `main_call1_call0_call0_v142`'s composed term of the arguments (named: it is used 2 times). -/
def res_main_call1_call0_call0_v142 (V0 : Valuation τ sig (Elt F)) : (Proc.devRef .tc main_call1_call0_call0_v142 : DevRef τ sig).ty.Contents (Elt F) :=
  addi (addi (res_main_call1_call0_call0_v129 V0) (broadcastInDim S64x32768 ![] bcast_S_S64x32768 (res_main_call1_call0_v6 V0))) (res_main_call1_call0_call0_v141 V0)

set_option maxRecDepth 8192 in
/-- `main_call1_call0_call0_v148`'s composed term of the arguments (named: it is used 3 times). -/
def res_main_call1_call0_call0_v148 (V0 : Valuation τ sig (Elt F)) : (Proc.devRef .tc main_call1_call0_call0_v148 : DevRef τ sig).ty.Contents (Elt F) :=
  xori (res_main_call1_call0_call0_v142 V0) (ori (Host.shli (res_main_call1_call0_call0_v141 V0) (broadcastInDim S64x32768 ![] bcast_S_S64x32768 (constantI S_ 32 13#32))) (Host.shrui (res_main_call1_call0_call0_v141 V0) (broadcastInDim S64x32768 ![] bcast_S_S64x32768 (constantI S_ 32 19#32))))

set_option maxRecDepth 8192 in
/-- `main_call1_call0_call0_v149`'s composed term of the arguments (named: it is used 2 times). -/
def res_main_call1_call0_call0_v149 (V0 : Valuation τ sig (Elt F)) : (Proc.devRef .tc main_call1_call0_call0_v149 : DevRef τ sig).ty.Contents (Elt F) :=
  addi (res_main_call1_call0_call0_v142 V0) (res_main_call1_call0_call0_v148 V0)

set_option maxRecDepth 8192 in
/-- `main_call1_call0_call0_v155`'s composed term of the arguments (named: it is used 3 times). -/
def res_main_call1_call0_call0_v155 (V0 : Valuation τ sig (Elt F)) : (Proc.devRef .tc main_call1_call0_call0_v155 : DevRef τ sig).ty.Contents (Elt F) :=
  xori (res_main_call1_call0_call0_v149 V0) (ori (Host.shli (res_main_call1_call0_call0_v148 V0) (broadcastInDim S64x32768 ![] bcast_S_S64x32768 (constantI S_ 32 15#32))) (Host.shrui (res_main_call1_call0_call0_v148 V0) (broadcastInDim S64x32768 ![] bcast_S_S64x32768 (constantI S_ 32 17#32))))

set_option maxRecDepth 8192 in
/-- `main_call1_call0_call0_v156`'s composed term of the arguments (named: it is used 2 times). -/
def res_main_call1_call0_call0_v156 (V0 : Valuation τ sig (Elt F)) : (Proc.devRef .tc main_call1_call0_call0_v156 : DevRef τ sig).ty.Contents (Elt F) :=
  addi (res_main_call1_call0_call0_v149 V0) (res_main_call1_call0_call0_v155 V0)

set_option maxRecDepth 8192 in
/-- `main_call1_call0_call0_v162`'s composed term of the arguments (named: it is used 3 times). -/
def res_main_call1_call0_call0_v162 (V0 : Valuation τ sig (Elt F)) : (Proc.devRef .tc main_call1_call0_call0_v162 : DevRef τ sig).ty.Contents (Elt F) :=
  xori (res_main_call1_call0_call0_v156 V0) (ori (Host.shli (res_main_call1_call0_call0_v155 V0) (broadcastInDim S64x32768 ![] bcast_S_S64x32768 (constantI S_ 32 26#32))) (Host.shrui (res_main_call1_call0_call0_v155 V0) (broadcastInDim S64x32768 ![] bcast_S_S64x32768 (constantI S_ 32 6#32))))

set_option maxRecDepth 8192 in
/-- `main_call1_call0_call0_v163`'s composed term of the arguments (named: it is used 2 times). -/
def res_main_call1_call0_call0_v163 (V0 : Valuation τ sig (Elt F)) : (Proc.devRef .tc main_call1_call0_call0_v163 : DevRef τ sig).ty.Contents (Elt F) :=
  addi (res_main_call1_call0_call0_v156 V0) (res_main_call1_call0_call0_v162 V0)

set_option maxRecDepth 8192 in
/-- `main_v9`'s composed term of the arguments (named: it is used 2 times). -/
def res_main_v9 (V0 : Valuation τ sig (Elt F)) : (Proc.devRef .tc main_v9 : DevRef τ sig).ty.Contents (Elt F) :=
  addf (Host.negf (Host.log (Host.negf (Host.log (maximumf (broadcastInDim S64x32768 ![0, 1] bcast_S1x1_S64x32768_0_1 (res_main_call1_call0_v1 V0)) (addf (mulf (subf (bitcastToFloat (F := F) .f32 (ori (Host.shrui (xori (addi (res_main_call1_call0_call0_v163 V0) (broadcastInDim S64x32768 ![] bcast_S_S64x32768 (res_main_call1_call0_call0_v1 V0))) (addi (addi (xori (res_main_call1_call0_call0_v163 V0) (ori (Host.shli (res_main_call1_call0_call0_v162 V0) (broadcastInDim S64x32768 ![] bcast_S_S64x32768 (constantI S_ 32 6#32))) (Host.shrui (res_main_call1_call0_call0_v162 V0) (broadcastInDim S64x32768 ![] bcast_S_S64x32768 (constantI S_ 32 26#32))))) (broadcastInDim S64x32768 ![] bcast_S_S64x32768 (res_main_call1_call0_v4 V0))) (broadcastInDim S64x32768 ![] bcast_S_S64x32768 (constantI S_ 32 5#32)))) (broadcastInDim S64x32768 ![] bcast_S_S64x32768 (constantI S_ 32 9#32))) (broadcastInDim S64x32768 ![] bcast_S_S64x32768 (constantI S_ 32 1065353216#32)))) (broadcastInDim S64x32768 ![] bcast_S_S64x32768 (constant S_ .f32 0x3F800000#32))) (broadcastInDim S64x32768 ![0, 1] bcast_S1x1_S64x32768_0_1 (subf (broadcastInDim S1x1 ![] bcast_S_S1x1 (id (constant S_ .f32 0x3F800000#32))) (res_main_call1_call0_v1 V0)))) (broadcastInDim S64x32768 ![0, 1] bcast_S1x1_S64x32768_0_1 (res_main_call1_call0_v1 V0)))))))) (select (cmpf .oeq (res_main_call0_v4 V0) (broadcastInDim S64x32768 ![] bcast_S_S64x32768 (constant S_ .f32 0xFF800000#32))) (broadcastInDim S64x32768 ![] bcast_S_S64x32768 (constant S_ .f32 0xFF7FFFFF#32)) (res_main_call0_v4 V0))

set_option maxRecDepth 8192 in
/-- `main_call2_v0`'s composed term of the arguments (named: it is used 2 times). -/
def res_main_call2_v0 (V0 : Valuation τ sig (Elt F)) : (Proc.devRef .tc main_call2_v0 : DevRef τ sig).ty.Contents (Elt F) :=
  iotaInDim S64x32768 32 1

set_option maxRecDepth 8192 in
/-- `main_call2_cst`'s composed term of the arguments (named: it is used 2 times). -/
def res_main_call2_cst (V0 : Valuation τ sig (Elt F)) : (Proc.devRef .tc main_call2_cst : DevRef τ sig).ty.Contents (Elt F) :=
  constant S_ .f32 0xFF800000#32

set_option maxRecDepth 8192 in
/-- `main_call2_c`'s composed term of the arguments (named: it is used 2 times). -/
def res_main_call2_c (V0 : Valuation τ sig (Elt F)) : (Proc.devRef .tc main_call2_c : DevRef τ sig).ty.Contents (Elt F) :=
  constantI S_ 32 0#32

set_option maxRecDepth 8192 in
/-- `main_v10`'s composed term of the arguments (named: it is used 3 times). -/
def res_main_v10 (V0 : Valuation τ sig (Elt F)) : (Proc.devRef .tc main_v10 : DevRef τ sig).ty.Contents (Elt F) :=
  fun j => (Host.argReduce reducer_argmax_f32_i32 (res_main_v9 V0) (res_main_call2_v0 V0) (res_main_call2_cst V0) (res_main_call2_c V0) reducesTo_S64x32768_S64_d1 h_S_ j).2

set_option maxRecDepth 8192 in
/-- `main_v12`'s composed term of the arguments (named: it is used 2 times). -/
def res_main_v12 (V0 : Valuation τ sig (Elt F)) : (Proc.devRef .tc main_v12 : DevRef τ sig).ty.Contents (Elt F) :=
  cmpi .slt (res_main_v10 V0) (broadcastInDim S64 ![] bcast_S_S64 (constantI S_ 32 16384#32))

set_option maxRecDepth 8192 in
/-- `main_v17`'s composed term of the arguments (named: it is used 3 times). -/
def res_main_v17 (V0 : Valuation τ sig (Elt F)) : (Proc.devRef .tc main_v17 : DevRef τ sig).ty.Contents (Elt F) :=
  addi (muli (iotaInDim S64 32 0) (broadcastInDim S64 ![] bcast_S_S64 (constantI S_ 32 16384#32))) (minsi (broadcastInDim S64 ![] bcast_S_S64 (id (constantI S_ 32 16383#32))) (maxsi (broadcastInDim S64 ![] bcast_S_S64 (id (constantI S_ 32 0#32))) (res_main_v10 V0)))

set_option maxRecDepth 8192 in
/-- `main_v24`'s composed term of the arguments (named: it is used 3 times). -/
def res_main_v24 (V0 : Valuation τ sig (Elt F)) : (Proc.devRef .tc main_v24 : DevRef τ sig).ty.Contents (Elt F) :=
  addi (muli (iotaInDim S64 32 0) (broadcastInDim S64 ![] bcast_S_S64 (constantI S_ 32 16384#32))) (minsi (broadcastInDim S64 ![] bcast_S_S64 (id (constantI S_ 32 16383#32))) (maxsi (broadcastInDim S64 ![] bcast_S_S64 (id (constantI S_ 32 0#32))) (subi (res_main_v10 V0) (broadcastInDim S64 ![] bcast_S_S64 (constantI S_ 32 16384#32)))))

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_call0_v0, main_call0_cst, main_call0_call0_v0, main_call0_v1, main_call0_cst_0, main_call0_v2, main_call0_v3, main_call0_cst_1, main_call0_call1_v0, main_call0_v4, main_call0_cst_2, main_call0_v5, main_call0_v6, main_call0_cst_3, main_call0_call2_v0, main_v0, main_c, main_c_0, main_v1, main_v2, main_v3, main_c_1, main_v4, main_v5, main_v6, main_v7, main_call1_cst, main_call1_cst_0, main_call1_call0_v0, main_call1_call0_v1]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
theorem val0_1_main_arg3 (V0 : Valuation τ sig (Elt F)) : val0_1 V0 (no_index (Proc.devRef .tc main_arg3)) = V0 (Proc.devRef .tc main_arg3) :=
  (val0_1_keep V0 main_arg3 (by decide)).trans (val0_main_arg3 V0)
set_option maxRecDepth 8192 in
set_option maxHeartbeats 2000000 in
theorem val0_1_main_v0 (V0 : Valuation τ sig (Elt F)) : val0_1 V0 (no_index (Proc.devRef .tc main_v0)) = select (cmpf .oeq (res_main_call0_v4 V0) (broadcastInDim S64x32768 ![] bcast_S_S64x32768 (constant S_ .f32 0xFF800000#32))) (broadcastInDim S64x32768 ![] bcast_S_S64x32768 (constant S_ .f32 0xFF7FFFFF#32)) (res_main_call0_v4 V0) := by
  unfold val0_1
  simp only [ops_part0_0, TRef.binary, TRef.nullary, TRef.ternary, TRef.unary, TRef.toBuf, TRef.ofBuf, cast_eq]
  after_results_simp
  simp only [val0_main_arg0] <;> rfl
set_option maxRecDepth 8192 in
set_option maxHeartbeats 2000000 in
theorem val0_1_main_v7 (V0 : Valuation τ sig (Elt F)) : val0_1 V0 (no_index (Proc.devRef .tc main_v7)) = res_main_v7 V0 := by
  unfold val0_1
  simp only [ops_part0_0, TRef.binary, TRef.nullary, TRef.ternary, TRef.unary, TRef.toBuf, TRef.ofBuf, cast_eq]
  after_results_simp
  all_goals rfl
set_option maxRecDepth 8192 in
set_option maxHeartbeats 2000000 in
theorem val0_1_main_call1_call0_v0 (V0 : Valuation τ sig (Elt F)) : val0_1 V0 (no_index (Proc.devRef .tc main_call1_call0_v0)) = id (constant S_ .f32 0x3F800000#32) := by
  unfold val0_1
  simp only [ops_part0_0, TRef.binary, TRef.nullary, TRef.ternary, TRef.unary, TRef.toBuf, TRef.ofBuf, cast_eq]
  after_results_simp
  all_goals rfl
set_option maxRecDepth 8192 in
set_option maxHeartbeats 2000000 in
theorem val0_1_main_call1_call0_v1 (V0 : Valuation τ sig (Elt F)) : val0_1 V0 (no_index (Proc.devRef .tc main_call1_call0_v1)) = res_main_call1_call0_v1 V0 := by
  unfold val0_1
  simp only [ops_part0_0, TRef.binary, TRef.nullary, TRef.ternary, TRef.unary, TRef.toBuf, TRef.ofBuf, cast_eq]
  after_results_simp
  all_goals rfl

end Cert.ReferenceIdeal.Value

end
-- ==== Proof.Words.lean ====
/-
  The random words: the counter-based generator both programs compute, as plain functions of the counter, and that each
  program's rounds, element by element, are those functions.
-/
module

public import proofs.«01_k».proof.Proof.RefOps
public import proofs.«01_k».proof.Proof.SampleRegion

@[expose] public section

noncomputable section

namespace Cert.Words

open Idealize.ShloMosaic Idealize.ShloMosaic.TcCoe

/-- One round's second word: the first word xored with the second rotated left by `r` (`s = 32 - r`). -/
def spin (a b r s : BitVec 32) : BitVec 32 := a ^^^ ((b <<< r) ||| (b >>> s))

/-- The words the generator starts from, at counter `x`. -/
def mix0 (x : BitVec 32) : BitVec 32 := x + 12345#32
def sum0 (x : BitVec 32) : BitVec 32 := mix0 x

def mix1 (x : BitVec 32) : BitVec 32 := spin (sum0 x) (mix0 x) 13#32 19#32
def sum1 (x : BitVec 32) : BitVec 32 := sum0 x + mix1 x
def mix2 (x : BitVec 32) : BitVec 32 := spin (sum1 x) (mix1 x) 15#32 17#32
def sum2 (x : BitVec 32) : BitVec 32 := sum1 x + mix2 x
def mix3 (x : BitVec 32) : BitVec 32 := spin (sum2 x) (mix2 x) 26#32 6#32
def sum3 (x : BitVec 32) : BitVec 32 := sum2 x + mix3 x
def mix4 (x : BitVec 32) : BitVec 32 := spin (sum3 x) (mix3 x) 6#32 26#32 + 466693092#32
def sum4 (x : BitVec 32) : BitVec 32 := sum3 x + 12345#32 + mix4 x
def mix5 (x : BitVec 32) : BitVec 32 := spin (sum4 x) (mix4 x) 17#32 15#32
def sum5 (x : BitVec 32) : BitVec 32 := sum4 x + mix5 x
def mix6 (x : BitVec 32) : BitVec 32 := spin (sum5 x) (mix5 x) 29#32 3#32
def sum6 (x : BitVec 32) : BitVec 32 := sum5 x + mix6 x
def mix7 (x : BitVec 32) : BitVec 32 := spin (sum6 x) (mix6 x) 16#32 16#32
def sum7 (x : BitVec 32) : BitVec 32 := sum6 x + mix7 x
def mix8 (x : BitVec 32) : BitVec 32 := spin (sum7 x) (mix7 x) 24#32 8#32 + 2#32
def sum8 (x : BitVec 32) : BitVec 32 := sum7 x + 466693091#32 + mix8 x
def mix9 (x : BitVec 32) : BitVec 32 := spin (sum8 x) (mix8 x) 13#32 19#32
def sum9 (x : BitVec 32) : BitVec 32 := sum8 x + mix9 x
def mix10 (x : BitVec 32) : BitVec 32 := spin (sum9 x) (mix9 x) 15#32 17#32
def sum10 (x : BitVec 32) : BitVec 32 := sum9 x + mix10 x
def mix11 (x : BitVec 32) : BitVec 32 := spin (sum10 x) (mix10 x) 26#32 6#32
def sum11 (x : BitVec 32) : BitVec 32 := sum10 x + mix11 x
def mix12 (x : BitVec 32) : BitVec 32 := spin (sum11 x) (mix11 x) 6#32 26#32 + 12348#32
def sum12 (x : BitVec 32) : BitVec 32 := sum11 x + mix12 x
def mix13 (x : BitVec 32) : BitVec 32 := spin (sum12 x) (mix12 x) 17#32 15#32
def sum13 (x : BitVec 32) : BitVec 32 := sum12 x + mix13 x
def mix14 (x : BitVec 32) : BitVec 32 := spin (sum13 x) (mix13 x) 29#32 3#32
def sum14 (x : BitVec 32) : BitVec 32 := sum13 x + mix14 x
def mix15 (x : BitVec 32) : BitVec 32 := spin (sum14 x) (mix14 x) 16#32 16#32
def sum15 (x : BitVec 32) : BitVec 32 := sum14 x + mix15 x
def mix16 (x : BitVec 32) : BitVec 32 := spin (sum15 x) (mix15 x) 24#32 8#32 + 466693095#32
def sum16 (x : BitVec 32) : BitVec 32 := sum15 x + 12345#32 + mix16 x
def mix17 (x : BitVec 32) : BitVec 32 := spin (sum16 x) (mix16 x) 13#32 19#32
def sum17 (x : BitVec 32) : BitVec 32 := sum16 x + mix17 x
def mix18 (x : BitVec 32) : BitVec 32 := spin (sum17 x) (mix17 x) 15#32 17#32
def sum18 (x : BitVec 32) : BitVec 32 := sum17 x + mix18 x
def mix19 (x : BitVec 32) : BitVec 32 := spin (sum18 x) (mix18 x) 26#32 6#32
def sum19 (x : BitVec 32) : BitVec 32 := sum18 x + mix19 x

/-- The generator's second word after the last round, before the last key word. -/
def last (x : BitVec 32) : BitVec 32 := spin (sum19 x) (mix19 x) 6#32 26#32

/-- The random word of counter `x`. -/
def bits (x : BitVec 32) : BitVec 32 := (sum19 x + 466693091#32) ^^^ (last x + 5#32)

theorem spin_at (u : ArithUnit) (a b r s : BitVec 32) (hr : r.toNat < 32) (hs : s.toNat < 32) :
    IntOp.xori a (IntOp.ori (IntOp.shli u b r) (IntOp.shrui u b s)) = spin a b r s := by
  unfold IntOp.shli IntOp.shrui
  rw [if_pos hr, if_pos hs]; rfl

theorem shl_at (u : ArithUnit) (b r : BitVec 32) (hr : r.toNat < 32) : IntOp.shli u b r = b <<< r := if_pos hr
theorem shr_at (u : ArithUnit) (b r : BitVec 32) (hr : r.toNat < 32) : IntOp.shrui u b r = b >>> r := if_pos hr

/-! ## The kernel's rounds -/

section Kernel

open Cert.KernelIdeal Cert.KernelIdeal.Gen

/-- The counter of an element of a block at a grid point. -/
def blockCount (i : grid0.Coords) (y : S16x32768.Idx) : BitVec 32 := BitVec.ofNat 32 (((i 0).val * 16 + (y 0).val) * 32768 + (y 1).val)

variable (i : grid0.Coords) (y : S16x32768.Idx)

theorem pay3 : k0_pay3 i y = mix0 (blockCount i y) := by
  unfold k0_pay3 mix0 blockCount
  show (BitVec.ofNat 32 (i 0).val * 16#32 + BitVec.ofNat 32 (0 * 16 + (y 0).val)) * 32768#32 + BitVec.ofNat 32 (0 * 32768 + (y 1).val) + 12345#32 = _
  congr 1
  apply BitVec.eq_of_toNat_eq
  simp only [BitVec.toNat_add, BitVec.toNat_mul, BitVec.toNat_ofNat]
  omega
theorem pay4 : k0_pay4 i y = sum0 (blockCount i y) := by
  show (0#32 + 0#32) + k0_pay3 i y = _
  rw [pay3]; unfold sum0; simp

theorem pay5 : k0_pay5 i y = mix1 (blockCount i y) := by
  show IntOp.xori (k0_pay4 i y) (IntOp.ori (IntOp.shli .vector (k0_pay3 i y) 13#32) (IntOp.shrui .vector (k0_pay3 i y) 19#32)) = _
  rw [pay4, pay3]; exact spin_at _ _ _ _ _ (by decide) (by decide)
theorem pay6 : k0_pay6 i y = sum1 (blockCount i y) := by
  show IntOp.addi (k0_pay4 i y) (k0_pay5 i y) = _
  rw [pay4, pay5]; rfl
theorem pay7 : k0_pay7 i y = mix2 (blockCount i y) := by
  show IntOp.xori (k0_pay6 i y) (IntOp.ori (IntOp.shli .vector (k0_pay5 i y) 15#32) (IntOp.shrui .vector (k0_pay5 i y) 17#32)) = _
  rw [pay6, pay5]; exact spin_at _ _ _ _ _ (by decide) (by decide)
theorem pay8 : k0_pay8 i y = sum2 (blockCount i y) := by
  show IntOp.addi (k0_pay6 i y) (k0_pay7 i y) = _
  rw [pay6, pay7]; rfl
theorem pay9 : k0_pay9 i y = mix3 (blockCount i y) := by
  show IntOp.xori (k0_pay8 i y) (IntOp.ori (IntOp.shli .vector (k0_pay7 i y) 26#32) (IntOp.shrui .vector (k0_pay7 i y) 6#32)) = _
  rw [pay8, pay7]; exact spin_at _ _ _ _ _ (by decide) (by decide)
theorem pay10 : k0_pay10 i y = sum3 (blockCount i y) := by
  show IntOp.addi (k0_pay8 i y) (k0_pay9 i y) = _
  rw [pay8, pay9]; rfl

section
variable (a b : IVec S16x32768 32) (x : BitVec 32) (h0 : a y = mix3 x) (h1 : b y = sum3 x)
include h0 h1

theorem pay11 : k0_pay11 a b y = mix4 x := by
  show IntOp.addi (IntOp.xori (b y) (IntOp.ori (IntOp.shli .vector (a y) 6#32) (IntOp.shrui .vector (a y) 26#32))) 466693092#32 = _
  rw [h1, h0]; rw [spin_at _ _ _ _ _ (by decide) (by decide)]; rfl
theorem pay12 : k0_pay12 a b y = sum4 x := by
  show IntOp.addi (IntOp.addi (b y) 12345#32) (k0_pay11 a b y) = _
  rw [h1, pay11 y a b x h0 h1]; rfl
theorem pay13 : k0_pay13 a b y = mix5 x := by
  show IntOp.xori (k0_pay12 a b y) (IntOp.ori (IntOp.shli .vector (k0_pay11 a b y) 17#32) (IntOp.shrui .vector (k0_pay11 a b y) 15#32)) = _
  rw [pay12 y a b x h0 h1, pay11 y a b x h0 h1]; exact spin_at _ _ _ _ _ (by decide) (by decide)
theorem pay14 : k0_pay14 a b y = sum5 x := by
  show IntOp.addi (k0_pay12 a b y) (k0_pay13 a b y) = _
  rw [pay12 y a b x h0 h1, pay13 y a b x h0 h1]; rfl
theorem pay15 : k0_pay15 a b y = mix6 x := by
  show IntOp.xori (k0_pay14 a b y) (IntOp.ori (IntOp.shli .vector (k0_pay13 a b y) 29#32) (IntOp.shrui .vector (k0_pay13 a b y) 3#32)) = _
  rw [pay14 y a b x h0 h1, pay13 y a b x h0 h1]; exact spin_at _ _ _ _ _ (by decide) (by decide)
theorem pay16 : k0_pay16 a b y = sum6 x := by
  show IntOp.addi (k0_pay14 a b y) (k0_pay15 a b y) = _
  rw [pay14 y a b x h0 h1, pay15 y a b x h0 h1]; rfl
theorem pay17 : k0_pay17 a b y = mix7 x := by
  show IntOp.xori (k0_pay16 a b y) (IntOp.ori (IntOp.shli .vector (k0_pay15 a b y) 16#32) (IntOp.shrui .vector (k0_pay15 a b y) 16#32)) = _
  rw [pay16 y a b x h0 h1, pay15 y a b x h0 h1]; exact spin_at _ _ _ _ _ (by decide) (by decide)
theorem pay18 : k0_pay18 a b y = sum7 x := by
  show IntOp.addi (k0_pay16 a b y) (k0_pay17 a b y) = _
  rw [pay16 y a b x h0 h1, pay17 y a b x h0 h1]; rfl
theorem pay19 : k0_pay19 a b y = mix8 x := by
  show IntOp.addi (IntOp.xori (k0_pay18 a b y) (IntOp.ori (IntOp.shli .vector (k0_pay17 a b y) 24#32) (IntOp.shrui .vector (k0_pay17 a b y) 8#32))) 2#32 = _
  rw [pay18 y a b x h0 h1, pay17 y a b x h0 h1]; rw [spin_at _ _ _ _ _ (by decide) (by decide)]; rfl
theorem pay20 : k0_pay20 a b y = sum8 x := by
  show IntOp.addi (IntOp.addi (k0_pay18 a b y) 466693091#32) (k0_pay19 a b y) = _
  rw [pay18 y a b x h0 h1, pay19 y a b x h0 h1]; rfl
theorem pay21 : k0_pay21 a b y = mix8 x <<< 13#32 := by
  show IntOp.shli .vector (k0_pay19 a b y) 13#32 = _
  rw [pay19 y a b x h0 h1]; exact shl_at _ _ _ (by decide)
end

section
variable (a b c : IVec S16x32768 32) (x : BitVec 32) (h0 : a y = mix8 x) (h1 : b y = sum8 x) (h2 : c y = mix8 x <<< 13#32)
include h0 h1 h2

theorem pay22 : k0_pay22 a b c y = mix9 x := by
  show IntOp.xori (b y) (IntOp.ori (c y) (IntOp.shrui .vector (a y) 19#32)) = _
  rw [h1, h0, h2]; rw [← shl_at .vector _ _ (by decide)]; exact spin_at _ _ _ _ _ (by decide) (by decide)
theorem pay23 : k0_pay23 a b c y = sum9 x := by
  show IntOp.addi (b y) (k0_pay22 a b c y) = _
  rw [h1, pay22 y a b c x h0 h1 h2]; rfl
theorem pay24 : k0_pay24 a b c y = mix10 x := by
  show IntOp.xori (k0_pay23 a b c y) (IntOp.ori (IntOp.shli .vector (k0_pay22 a b c y) 15#32) (IntOp.shrui .vector (k0_pay22 a b c y) 17#32)) = _
  rw [pay23 y a b c x h0 h1 h2, pay22 y a b c x h0 h1 h2]; exact spin_at _ _ _ _ _ (by decide) (by decide)
theorem pay25 : k0_pay25 a b c y = sum10 x := by
  show IntOp.addi (k0_pay23 a b c y) (k0_pay24 a b c y) = _
  rw [pay23 y a b c x h0 h1 h2, pay24 y a b c x h0 h1 h2]; rfl
theorem pay26 : k0_pay26 a b c y = mix11 x := by
  show IntOp.xori (k0_pay25 a b c y) (IntOp.ori (IntOp.shli .vector (k0_pay24 a b c y) 26#32) (IntOp.shrui .vector (k0_pay24 a b c y) 6#32)) = _
  rw [pay25 y a b c x h0 h1 h2, pay24 y a b c x h0 h1 h2]; exact spin_at _ _ _ _ _ (by decide) (by decide)
theorem pay27 : k0_pay27 a b c y = sum11 x := by
  show IntOp.addi (k0_pay25 a b c y) (k0_pay26 a b c y) = _
  rw [pay25 y a b c x h0 h1 h2, pay26 y a b c x h0 h1 h2]; rfl
theorem pay28 : k0_pay28 a b c y = mix12 x := by
  show IntOp.addi (IntOp.xori (k0_pay27 a b c y) (IntOp.ori (IntOp.shli .vector (k0_pay26 a b c y) 6#32) (IntOp.shrui .vector (k0_pay26 a b c y) 26#32))) 12348#32 = _
  rw [pay27 y a b c x h0 h1 h2, pay26 y a b c x h0 h1 h2]; rw [spin_at _ _ _ _ _ (by decide) (by decide)]; rfl
theorem pay29 : k0_pay29 a b c y = sum12 x := by
  show IntOp.addi (IntOp.addi (k0_pay27 a b c y) 0#32) (k0_pay28 a b c y) = _
  rw [pay27 y a b c x h0 h1 h2, pay28 y a b c x h0 h1 h2]; show sum11 x + 0#32 + mix12 x = _; rw [BitVec.add_zero]; rfl
theorem pay30 : k0_pay30 a b c y = mix13 x := by
  show IntOp.xori (k0_pay29 a b c y) (IntOp.ori (IntOp.shli .vector (k0_pay28 a b c y) 17#32) (IntOp.shrui .vector (k0_pay28 a b c y) 15#32)) = _
  rw [pay29 y a b c x h0 h1 h2, pay28 y a b c x h0 h1 h2]; exact spin_at _ _ _ _ _ (by decide) (by decide)
theorem pay31 : k0_pay31 a b c y = sum13 x := by
  show IntOp.addi (k0_pay29 a b c y) (k0_pay30 a b c y) = _
  rw [pay29 y a b c x h0 h1 h2, pay30 y a b c x h0 h1 h2]; rfl
theorem pay32 : k0_pay32 a b c y = mix14 x := by
  show IntOp.xori (k0_pay31 a b c y) (IntOp.ori (IntOp.shli .vector (k0_pay30 a b c y) 29#32) (IntOp.shrui .vector (k0_pay30 a b c y) 3#32)) = _
  rw [pay31 y a b c x h0 h1 h2, pay30 y a b c x h0 h1 h2]; exact spin_at _ _ _ _ _ (by decide) (by decide)
theorem pay33 : k0_pay33 a b c y = sum14 x := by
  show IntOp.addi (k0_pay31 a b c y) (k0_pay32 a b c y) = _
  rw [pay31 y a b c x h0 h1 h2, pay32 y a b c x h0 h1 h2]; rfl
theorem pay34 : k0_pay34 a b c y = mix14 x <<< 16#32 := by
  show IntOp.shli .vector (k0_pay32 a b c y) 16#32 = _
  rw [pay32 y a b c x h0 h1 h2]; exact shl_at _ _ _ (by decide)
end

section
variable (a b c : IVec S16x32768 32) (x : BitVec 32) (h0 : a y = mix14 x) (h1 : b y = sum14 x) (h2 : c y = mix14 x <<< 16#32)
include h0 h1 h2

theorem pay35 : k0_pay35 a b c y = mix15 x := by
  show IntOp.xori (b y) (IntOp.ori (c y) (IntOp.shrui .vector (a y) 16#32)) = _
  rw [h1, h0, h2]; rw [← shl_at .vector _ _ (by decide)]; exact spin_at _ _ _ _ _ (by decide) (by decide)
theorem pay36 : k0_pay36 a b c y = sum15 x := by
  show IntOp.addi (b y) (k0_pay35 a b c y) = _
  rw [h1, pay35 y a b c x h0 h1 h2]; rfl
theorem pay37 : k0_pay37 a b c y = mix16 x := by
  show IntOp.addi (IntOp.xori (k0_pay36 a b c y) (IntOp.ori (IntOp.shli .vector (k0_pay35 a b c y) 24#32) (IntOp.shrui .vector (k0_pay35 a b c y) 8#32))) 466693095#32 = _
  rw [pay36 y a b c x h0 h1 h2, pay35 y a b c x h0 h1 h2]; rw [spin_at _ _ _ _ _ (by decide) (by decide)]; rfl
theorem pay38 : k0_pay38 a b c y = sum16 x := by
  show IntOp.addi (IntOp.addi (k0_pay36 a b c y) 12345#32) (k0_pay37 a b c y) = _
  rw [pay36 y a b c x h0 h1 h2, pay37 y a b c x h0 h1 h2]; rfl
theorem pay39 : k0_pay39 a b c y = mix17 x := by
  show IntOp.xori (k0_pay38 a b c y) (IntOp.ori (IntOp.shli .vector (k0_pay37 a b c y) 13#32) (IntOp.shrui .vector (k0_pay37 a b c y) 19#32)) = _
  rw [pay38 y a b c x h0 h1 h2, pay37 y a b c x h0 h1 h2]; exact spin_at _ _ _ _ _ (by decide) (by decide)
theorem pay40 : k0_pay40 a b c y = sum17 x := by
  show IntOp.addi (k0_pay38 a b c y) (k0_pay39 a b c y) = _
  rw [pay38 y a b c x h0 h1 h2, pay39 y a b c x h0 h1 h2]; rfl
theorem pay41 : k0_pay41 a b c y = mix18 x := by
  show IntOp.xori (k0_pay40 a b c y) (IntOp.ori (IntOp.shli .vector (k0_pay39 a b c y) 15#32) (IntOp.shrui .vector (k0_pay39 a b c y) 17#32)) = _
  rw [pay40 y a b c x h0 h1 h2, pay39 y a b c x h0 h1 h2]; exact spin_at _ _ _ _ _ (by decide) (by decide)
theorem pay42 : k0_pay42 a b c y = sum18 x := by
  show IntOp.addi (k0_pay40 a b c y) (k0_pay41 a b c y) = _
  rw [pay40 y a b c x h0 h1 h2, pay41 y a b c x h0 h1 h2]; rfl
theorem pay43 : k0_pay43 a b c y = mix19 x := by
  show IntOp.xori (k0_pay42 a b c y) (IntOp.ori (IntOp.shli .vector (k0_pay41 a b c y) 26#32) (IntOp.shrui .vector (k0_pay41 a b c y) 6#32)) = _
  rw [pay42 y a b c x h0 h1 h2, pay41 y a b c x h0 h1 h2]; exact spin_at _ _ _ _ _ (by decide) (by decide)
theorem pay44 : k0_pay44 a b c y = sum19 x := by
  show IntOp.addi (k0_pay42 a b c y) (k0_pay43 a b c y) = _
  rw [pay42 y a b c x h0 h1 h2, pay43 y a b c x h0 h1 h2]; rfl
theorem pay45 : k0_pay45 a b c y = last x := by
  show IntOp.xori (k0_pay44 a b c y) (IntOp.ori (IntOp.shli .vector (k0_pay43 a b c y) 6#32) (IntOp.shrui .vector (k0_pay43 a b c y) 26#32)) = _
  rw [pay44 y a b c x h0 h1 h2, pay43 y a b c x h0 h1 h2]; exact spin_at _ _ _ _ _ (by decide) (by decide)
theorem pay46 : k0_pay46 a b c y = sum19 x + 466693091#32 := by
  show IntOp.addi (k0_pay44 a b c y) 466693091#32 = _
  rw [pay44 y a b c x h0 h1 h2]; rfl
end

/-- The kernel's two words after the rounds, element by element. -/
theorem words_at : (Cert.KernelIdeal.Scatter.words i).1 y = last (blockCount i y) ∧ (Cert.KernelIdeal.Scatter.words i).2 y = sum19 (blockCount i y) + 466693091#32 := by
  have p9 := pay9 i y
  have p10 := pay10 i y
  have p19 := pay19 y _ _ _ p9 p10
  have p20 := pay20 y _ _ _ p9 p10
  have p21 := pay21 y _ _ _ p9 p10
  have p32 := pay32 y _ _ _ _ p19 p20 p21
  have p33 := pay33 y _ _ _ _ p19 p20 p21
  have p34 := pay34 y _ _ _ _ p19 p20 p21
  exact ⟨pay45 y _ _ _ _ p32 p33 p34, pay46 y _ _ _ _ p32 p33 p34⟩

end Kernel

/-! ## The reference's rounds -/

section Reference

open Cert.ReferenceIdeal Cert.ReferenceIdeal.Gen Cert.ReferenceIdeal.Value

variable {F : FTy → Type} [FloatOps F] (V : Valuation τ sig (Elt F))

/-- The counter of an element of the logits. -/
def count (y : S64x32768.Idx) : BitVec 32 := BitVec.ofNat 32 ((y 0).val * 32768 + (y 1).val)

/-- The one index of a vector of one. -/
def at1x : S1.Idx := fun a => ⟨0, by fin_cases a; decide⟩

/-- The seed's two words, a vector of two: the shifted one, then the masked one. -/
theorem seed_words : (res_main_v7 V : IVec S2 32) = fun k => if (k 0).val = 0 then 0#32 else 12345#32 := by
  funext k
  have hk : (k 0).val < 2 := (k 0).isLt
  by_cases h0 : (k 0).val = 0
  · rw [if_pos h0]
    unfold res_main_v7
    refine (concatenate_pair_apply_left (t := S2) (s₁ := S1) (s₂ := S1) 0 _ _ _ k rfl at1x ?_).trans ?_
    · intro b
      obtain rfl : b = 0 := Subsingleton.elim (α := Fin 1) _ _
      exact h0.symm
    · show IntOp.shrui .host 12345#32 32#32 = 0#32
      unfold IntOp.shrui
      rw [if_neg (by decide)]
      rfl
  · rw [if_neg h0]
    unfold res_main_v7
    refine (concatenate_pair_apply_right (t := S2) (s₁ := S1) (s₂ := S1) 0 _ _ _ k rfl rfl at1x ?_ ?_).trans ?_
    · intro b hb
      obtain rfl : b = 0 := Subsingleton.elim (α := Fin 1) _ _
      exact absurd rfl hb
    · show 0 + 1 = (k 0).val
      omega
    · show IntOp.andi 12345#32 4294967295#32 = 12345#32
      rfl
/-- The seed's high word is zero. -/
theorem key_hi (j : S_.Idx) : (res_main_call1_call0_v4 V : IVec S_ 32) j = 0#32 := by
  unfold res_main_call1_call0_v4 shapeCast extractStridedSlice
  rw [seed_words]
  refine if_pos ?_
  show 0 + (Shape.reshapeEquiv shapeCasts_S1_S_ j (0 : Fin 1)).val = 0
  have h : (Shape.reshapeEquiv shapeCasts_S1_S_ j (0 : Fin 1)).val < 1 := (Shape.reshapeEquiv shapeCasts_S1_S_ j (0 : Fin 1)).isLt
  omega
/-- The seed's low word is 12345. -/
theorem key_lo (j : S_.Idx) : (res_main_call1_call0_v6 V : IVec S_ 32) j = 12345#32 := by
  unfold res_main_call1_call0_v6 shapeCast extractStridedSlice
  rw [seed_words]
  refine if_neg ?_
  show ¬ 1 + (Shape.reshapeEquiv shapeCasts_S1_S_ j (0 : Fin 1)).val = 0
  omega
/-- The third key word. -/
theorem key_mix (j : S_.Idx) : (res_main_call1_call0_call0_v1 V : IVec S_ 32) j = 466693091#32 := by
  show IntOp.xori (IntOp.xori ((res_main_call1_call0_v4 V : IVec S_ 32) j) ((res_main_call1_call0_v6 V : IVec S_ 32) j)) 466688986#32 = _
  rw [key_hi, key_lo]; rfl

variable (y : S64x32768.Idx)

theorem wide_count : (res_main_call1_call0_v13 V : IVec S64x32768 64) y = BitVec.ofNat 64 ((y 0).val * 32768 + (y 1).val) := by
  show 32768#64 * BitVec.ofNat 64 (y 0).val + 1#64 * BitVec.ofNat 64 (y 1).val = _
  apply BitVec.eq_of_toNat_eq
  simp only [BitVec.toNat_add, BitVec.toNat_mul, BitVec.toNat_ofNat]
  have h0 : (y 0).val < 64 := (y 0).isLt
  have h1 : (y 1).val < 32768 := (y 1).isLt
  omega

theorem r5 : (res_main_call1_call0_call0_v5 V : IVec S64x32768 32) y = mix0 (count y) := by
  show ((res_main_call1_call0_v13 V : IVec S64x32768 64) y).setWidth 32 + (res_main_call1_call0_v6 V : IVec S_ 32) _ = _
  rw [wide_count, key_lo]; unfold mix0 count
  congr 1
  apply BitVec.eq_of_toNat_eq
  simp only [BitVec.toNat_setWidth, BitVec.toNat_ofNat]
  omega
theorem r6 : (res_main_call1_call0_call0_v6 V : IVec S64x32768 32) y = sum0 (count y) := by
  show (IntOp.shrui .host ((res_main_call1_call0_v13 V : IVec S64x32768 64) y) 32#64).setWidth 32 + (res_main_call1_call0_v4 V : IVec S_ 32) _ + (res_main_call1_call0_call0_v5 V : IVec S64x32768 32) y = _
  rw [wide_count, key_hi, r5]; unfold sum0
  rw [show IntOp.shrui .host (BitVec.ofNat 64 ((y 0).val * 32768 + (y 1).val)) 32#64 = 0#64 from ?_]
  · show 0#32 + 0#32 + mix0 (count y) = mix0 (count y)
    rw [BitVec.add_zero, BitVec.zero_add]
  · unfold IntOp.shrui
    rw [if_pos (by decide)]
    apply BitVec.eq_of_toNat_eq
    have h0 : (y 0).val < 64 := (y 0).isLt
    have h1 : (y 1).val < 32768 := (y 1).isLt
    show ((BitVec.ofNat 64 _) >>> (32#64).toNat).toNat = _
    rw [BitVec.toNat_ushiftRight, Nat.shiftRight_eq_div_pow, BitVec.toNat_ofNat]
    show _ / 2 ^ 32 = 0
    omega
theorem r12 : (res_main_call1_call0_call0_v12 V : IVec S64x32768 32) y = mix1 (count y) := by
  show IntOp.xori ((res_main_call1_call0_call0_v6 V : IVec S64x32768 32) y) (IntOp.ori (IntOp.shli .host ((res_main_call1_call0_call0_v5 V : IVec S64x32768 32) y) 13#32) (IntOp.shrui .host ((res_main_call1_call0_call0_v5 V : IVec S64x32768 32) y) 19#32)) = _
  rw [r6, r5]; exact spin_at _ _ _ _ _ (by decide) (by decide)
theorem r13 : (res_main_call1_call0_call0_v13 V : IVec S64x32768 32) y = sum1 (count y) := by
  show IntOp.addi ((res_main_call1_call0_call0_v6 V : IVec S64x32768 32) y) ((res_main_call1_call0_call0_v12 V : IVec S64x32768 32) y) = _
  rw [r6, r12]; rfl
theorem r19 : (res_main_call1_call0_call0_v19 V : IVec S64x32768 32) y = mix2 (count y) := by
  show IntOp.xori ((res_main_call1_call0_call0_v13 V : IVec S64x32768 32) y) (IntOp.ori (IntOp.shli .host ((res_main_call1_call0_call0_v12 V : IVec S64x32768 32) y) 15#32) (IntOp.shrui .host ((res_main_call1_call0_call0_v12 V : IVec S64x32768 32) y) 17#32)) = _
  rw [r13, r12]; exact spin_at _ _ _ _ _ (by decide) (by decide)
theorem r20 : (res_main_call1_call0_call0_v20 V : IVec S64x32768 32) y = sum2 (count y) := by
  show IntOp.addi ((res_main_call1_call0_call0_v13 V : IVec S64x32768 32) y) ((res_main_call1_call0_call0_v19 V : IVec S64x32768 32) y) = _
  rw [r13, r19]; rfl
theorem r26 : (res_main_call1_call0_call0_v26 V : IVec S64x32768 32) y = mix3 (count y) := by
  show IntOp.xori ((res_main_call1_call0_call0_v20 V : IVec S64x32768 32) y) (IntOp.ori (IntOp.shli .host ((res_main_call1_call0_call0_v19 V : IVec S64x32768 32) y) 26#32) (IntOp.shrui .host ((res_main_call1_call0_call0_v19 V : IVec S64x32768 32) y) 6#32)) = _
  rw [r20, r19]; exact spin_at _ _ _ _ _ (by decide) (by decide)
theorem r27 : (res_main_call1_call0_call0_v27 V : IVec S64x32768 32) y = sum3 (count y) := by
  show IntOp.addi ((res_main_call1_call0_call0_v20 V : IVec S64x32768 32) y) ((res_main_call1_call0_call0_v26 V : IVec S64x32768 32) y) = _
  rw [r20, r26]; rfl
theorem r39 : (res_main_call1_call0_call0_v39 V : IVec S64x32768 32) y = mix4 (count y) := by
  show IntOp.addi (IntOp.addi (IntOp.xori ((res_main_call1_call0_call0_v27 V : IVec S64x32768 32) y) (IntOp.ori (IntOp.shli .host ((res_main_call1_call0_call0_v26 V : IVec S64x32768 32) y) 6#32) (IntOp.shrui .host ((res_main_call1_call0_call0_v26 V : IVec S64x32768 32) y) 26#32))) ((res_main_call1_call0_call0_v1 V : IVec S_ 32) _)) 1#32 = _
  rw [r27, r26, key_mix, spin_at _ _ _ _ _ (by decide) (by decide)]
  exact BitVec.add_assoc _ _ _
theorem r40 : (res_main_call1_call0_call0_v40 V : IVec S64x32768 32) y = sum4 (count y) := by
  show IntOp.addi (IntOp.addi ((res_main_call1_call0_call0_v27 V : IVec S64x32768 32) y) ((res_main_call1_call0_v6 V : IVec S_ 32) _)) ((res_main_call1_call0_call0_v39 V : IVec S64x32768 32) y) = _
  rw [r27, r39, key_lo]; rfl
theorem r46 : (res_main_call1_call0_call0_v46 V : IVec S64x32768 32) y = mix5 (count y) := by
  show IntOp.xori ((res_main_call1_call0_call0_v40 V : IVec S64x32768 32) y) (IntOp.ori (IntOp.shli .host ((res_main_call1_call0_call0_v39 V : IVec S64x32768 32) y) 17#32) (IntOp.shrui .host ((res_main_call1_call0_call0_v39 V : IVec S64x32768 32) y) 15#32)) = _
  rw [r40, r39]; exact spin_at _ _ _ _ _ (by decide) (by decide)
theorem r47 : (res_main_call1_call0_call0_v47 V : IVec S64x32768 32) y = sum5 (count y) := by
  show IntOp.addi ((res_main_call1_call0_call0_v40 V : IVec S64x32768 32) y) ((res_main_call1_call0_call0_v46 V : IVec S64x32768 32) y) = _
  rw [r40, r46]; rfl
theorem r53 : (res_main_call1_call0_call0_v53 V : IVec S64x32768 32) y = mix6 (count y) := by
  show IntOp.xori ((res_main_call1_call0_call0_v47 V : IVec S64x32768 32) y) (IntOp.ori (IntOp.shli .host ((res_main_call1_call0_call0_v46 V : IVec S64x32768 32) y) 29#32) (IntOp.shrui .host ((res_main_call1_call0_call0_v46 V : IVec S64x32768 32) y) 3#32)) = _
  rw [r47, r46]; exact spin_at _ _ _ _ _ (by decide) (by decide)
theorem r54 : (res_main_call1_call0_call0_v54 V : IVec S64x32768 32) y = sum6 (count y) := by
  show IntOp.addi ((res_main_call1_call0_call0_v47 V : IVec S64x32768 32) y) ((res_main_call1_call0_call0_v53 V : IVec S64x32768 32) y) = _
  rw [r47, r53]; rfl
theorem r60 : (res_main_call1_call0_call0_v60 V : IVec S64x32768 32) y = mix7 (count y) := by
  show IntOp.xori ((res_main_call1_call0_call0_v54 V : IVec S64x32768 32) y) (IntOp.ori (IntOp.shli .host ((res_main_call1_call0_call0_v53 V : IVec S64x32768 32) y) 16#32) (IntOp.shrui .host ((res_main_call1_call0_call0_v53 V : IVec S64x32768 32) y) 16#32)) = _
  rw [r54, r53]; exact spin_at _ _ _ _ _ (by decide) (by decide)
theorem r61 : (res_main_call1_call0_call0_v61 V : IVec S64x32768 32) y = sum7 (count y) := by
  show IntOp.addi ((res_main_call1_call0_call0_v54 V : IVec S64x32768 32) y) ((res_main_call1_call0_call0_v60 V : IVec S64x32768 32) y) = _
  rw [r54, r60]; rfl
theorem r73 : (res_main_call1_call0_call0_v73 V : IVec S64x32768 32) y = mix8 (count y) := by
  show IntOp.addi (IntOp.addi (IntOp.xori ((res_main_call1_call0_call0_v61 V : IVec S64x32768 32) y) (IntOp.ori (IntOp.shli .host ((res_main_call1_call0_call0_v60 V : IVec S64x32768 32) y) 24#32) (IntOp.shrui .host ((res_main_call1_call0_call0_v60 V : IVec S64x32768 32) y) 8#32))) ((res_main_call1_call0_v4 V : IVec S_ 32) _)) 2#32 = _
  rw [r61, r60, key_hi, spin_at _ _ _ _ _ (by decide) (by decide)]
  exact BitVec.add_assoc _ _ _
theorem r74 : (res_main_call1_call0_call0_v74 V : IVec S64x32768 32) y = sum8 (count y) := by
  show IntOp.addi (IntOp.addi ((res_main_call1_call0_call0_v61 V : IVec S64x32768 32) y) ((res_main_call1_call0_call0_v1 V : IVec S_ 32) _)) ((res_main_call1_call0_call0_v73 V : IVec S64x32768 32) y) = _
  rw [r61, r73, key_mix]; rfl
theorem r80 : (res_main_call1_call0_call0_v80 V : IVec S64x32768 32) y = mix9 (count y) := by
  show IntOp.xori ((res_main_call1_call0_call0_v74 V : IVec S64x32768 32) y) (IntOp.ori (IntOp.shli .host ((res_main_call1_call0_call0_v73 V : IVec S64x32768 32) y) 13#32) (IntOp.shrui .host ((res_main_call1_call0_call0_v73 V : IVec S64x32768 32) y) 19#32)) = _
  rw [r74, r73]; exact spin_at _ _ _ _ _ (by decide) (by decide)
theorem r81 : (res_main_call1_call0_call0_v81 V : IVec S64x32768 32) y = sum9 (count y) := by
  show IntOp.addi ((res_main_call1_call0_call0_v74 V : IVec S64x32768 32) y) ((res_main_call1_call0_call0_v80 V : IVec S64x32768 32) y) = _
  rw [r74, r80]; rfl
theorem r87 : (res_main_call1_call0_call0_v87 V : IVec S64x32768 32) y = mix10 (count y) := by
  show IntOp.xori ((res_main_call1_call0_call0_v81 V : IVec S64x32768 32) y) (IntOp.ori (IntOp.shli .host ((res_main_call1_call0_call0_v80 V : IVec S64x32768 32) y) 15#32) (IntOp.shrui .host ((res_main_call1_call0_call0_v80 V : IVec S64x32768 32) y) 17#32)) = _
  rw [r81, r80]; exact spin_at _ _ _ _ _ (by decide) (by decide)
theorem r88 : (res_main_call1_call0_call0_v88 V : IVec S64x32768 32) y = sum10 (count y) := by
  show IntOp.addi ((res_main_call1_call0_call0_v81 V : IVec S64x32768 32) y) ((res_main_call1_call0_call0_v87 V : IVec S64x32768 32) y) = _
  rw [r81, r87]; rfl
theorem r94 : (res_main_call1_call0_call0_v94 V : IVec S64x32768 32) y = mix11 (count y) := by
  show IntOp.xori ((res_main_call1_call0_call0_v88 V : IVec S64x32768 32) y) (IntOp.ori (IntOp.shli .host ((res_main_call1_call0_call0_v87 V : IVec S64x32768 32) y) 26#32) (IntOp.shrui .host ((res_main_call1_call0_call0_v87 V : IVec S64x32768 32) y) 6#32)) = _
  rw [r88, r87]; exact spin_at _ _ _ _ _ (by decide) (by decide)
theorem r95 : (res_main_call1_call0_call0_v95 V : IVec S64x32768 32) y = sum11 (count y) := by
  show IntOp.addi ((res_main_call1_call0_call0_v88 V : IVec S64x32768 32) y) ((res_main_call1_call0_call0_v94 V : IVec S64x32768 32) y) = _
  rw [r88, r94]; rfl
theorem r107 : (res_main_call1_call0_call0_v107 V : IVec S64x32768 32) y = mix12 (count y) := by
  show IntOp.addi (IntOp.addi (IntOp.xori ((res_main_call1_call0_call0_v95 V : IVec S64x32768 32) y) (IntOp.ori (IntOp.shli .host ((res_main_call1_call0_call0_v94 V : IVec S64x32768 32) y) 6#32) (IntOp.shrui .host ((res_main_call1_call0_call0_v94 V : IVec S64x32768 32) y) 26#32))) ((res_main_call1_call0_v6 V : IVec S_ 32) _)) 3#32 = _
  rw [r95, r94, key_lo, spin_at _ _ _ _ _ (by decide) (by decide)]
  exact BitVec.add_assoc _ _ _
theorem r108 : (res_main_call1_call0_call0_v108 V : IVec S64x32768 32) y = sum12 (count y) := by
  show IntOp.addi (IntOp.addi ((res_main_call1_call0_call0_v95 V : IVec S64x32768 32) y) ((res_main_call1_call0_v4 V : IVec S_ 32) _)) ((res_main_call1_call0_call0_v107 V : IVec S64x32768 32) y) = _
  rw [r95, r107, key_hi]
  show sum11 (count y) + 0#32 + _ = _; rw [BitVec.add_zero]; rfl
theorem r114 : (res_main_call1_call0_call0_v114 V : IVec S64x32768 32) y = mix13 (count y) := by
  show IntOp.xori ((res_main_call1_call0_call0_v108 V : IVec S64x32768 32) y) (IntOp.ori (IntOp.shli .host ((res_main_call1_call0_call0_v107 V : IVec S64x32768 32) y) 17#32) (IntOp.shrui .host ((res_main_call1_call0_call0_v107 V : IVec S64x32768 32) y) 15#32)) = _
  rw [r108, r107]; exact spin_at _ _ _ _ _ (by decide) (by decide)
theorem r115 : (res_main_call1_call0_call0_v115 V : IVec S64x32768 32) y = sum13 (count y) := by
  show IntOp.addi ((res_main_call1_call0_call0_v108 V : IVec S64x32768 32) y) ((res_main_call1_call0_call0_v114 V : IVec S64x32768 32) y) = _
  rw [r108, r114]; rfl
theorem r121 : (res_main_call1_call0_call0_v121 V : IVec S64x32768 32) y = mix14 (count y) := by
  show IntOp.xori ((res_main_call1_call0_call0_v115 V : IVec S64x32768 32) y) (IntOp.ori (IntOp.shli .host ((res_main_call1_call0_call0_v114 V : IVec S64x32768 32) y) 29#32) (IntOp.shrui .host ((res_main_call1_call0_call0_v114 V : IVec S64x32768 32) y) 3#32)) = _
  rw [r115, r114]; exact spin_at _ _ _ _ _ (by decide) (by decide)
theorem r122 : (res_main_call1_call0_call0_v122 V : IVec S64x32768 32) y = sum14 (count y) := by
  show IntOp.addi ((res_main_call1_call0_call0_v115 V : IVec S64x32768 32) y) ((res_main_call1_call0_call0_v121 V : IVec S64x32768 32) y) = _
  rw [r115, r121]; rfl
theorem r128 : (res_main_call1_call0_call0_v128 V : IVec S64x32768 32) y = mix15 (count y) := by
  show IntOp.xori ((res_main_call1_call0_call0_v122 V : IVec S64x32768 32) y) (IntOp.ori (IntOp.shli .host ((res_main_call1_call0_call0_v121 V : IVec S64x32768 32) y) 16#32) (IntOp.shrui .host ((res_main_call1_call0_call0_v121 V : IVec S64x32768 32) y) 16#32)) = _
  rw [r122, r121]; exact spin_at _ _ _ _ _ (by decide) (by decide)
theorem r129 : (res_main_call1_call0_call0_v129 V : IVec S64x32768 32) y = sum15 (count y) := by
  show IntOp.addi ((res_main_call1_call0_call0_v122 V : IVec S64x32768 32) y) ((res_main_call1_call0_call0_v128 V : IVec S64x32768 32) y) = _
  rw [r122, r128]; rfl
theorem r141 : (res_main_call1_call0_call0_v141 V : IVec S64x32768 32) y = mix16 (count y) := by
  show IntOp.addi (IntOp.addi (IntOp.xori ((res_main_call1_call0_call0_v129 V : IVec S64x32768 32) y) (IntOp.ori (IntOp.shli .host ((res_main_call1_call0_call0_v128 V : IVec S64x32768 32) y) 24#32) (IntOp.shrui .host ((res_main_call1_call0_call0_v128 V : IVec S64x32768 32) y) 8#32))) ((res_main_call1_call0_call0_v1 V : IVec S_ 32) _)) 4#32 = _
  rw [r129, r128, key_mix, spin_at _ _ _ _ _ (by decide) (by decide)]
  exact BitVec.add_assoc _ _ _
theorem r142 : (res_main_call1_call0_call0_v142 V : IVec S64x32768 32) y = sum16 (count y) := by
  show IntOp.addi (IntOp.addi ((res_main_call1_call0_call0_v129 V : IVec S64x32768 32) y) ((res_main_call1_call0_v6 V : IVec S_ 32) _)) ((res_main_call1_call0_call0_v141 V : IVec S64x32768 32) y) = _
  rw [r129, r141, key_lo]; rfl
theorem r148 : (res_main_call1_call0_call0_v148 V : IVec S64x32768 32) y = mix17 (count y) := by
  show IntOp.xori ((res_main_call1_call0_call0_v142 V : IVec S64x32768 32) y) (IntOp.ori (IntOp.shli .host ((res_main_call1_call0_call0_v141 V : IVec S64x32768 32) y) 13#32) (IntOp.shrui .host ((res_main_call1_call0_call0_v141 V : IVec S64x32768 32) y) 19#32)) = _
  rw [r142, r141]; exact spin_at _ _ _ _ _ (by decide) (by decide)
theorem r149 : (res_main_call1_call0_call0_v149 V : IVec S64x32768 32) y = sum17 (count y) := by
  show IntOp.addi ((res_main_call1_call0_call0_v142 V : IVec S64x32768 32) y) ((res_main_call1_call0_call0_v148 V : IVec S64x32768 32) y) = _
  rw [r142, r148]; rfl
theorem r155 : (res_main_call1_call0_call0_v155 V : IVec S64x32768 32) y = mix18 (count y) := by
  show IntOp.xori ((res_main_call1_call0_call0_v149 V : IVec S64x32768 32) y) (IntOp.ori (IntOp.shli .host ((res_main_call1_call0_call0_v148 V : IVec S64x32768 32) y) 15#32) (IntOp.shrui .host ((res_main_call1_call0_call0_v148 V : IVec S64x32768 32) y) 17#32)) = _
  rw [r149, r148]; exact spin_at _ _ _ _ _ (by decide) (by decide)
theorem r156 : (res_main_call1_call0_call0_v156 V : IVec S64x32768 32) y = sum18 (count y) := by
  show IntOp.addi ((res_main_call1_call0_call0_v149 V : IVec S64x32768 32) y) ((res_main_call1_call0_call0_v155 V : IVec S64x32768 32) y) = _
  rw [r149, r155]; rfl
theorem r162 : (res_main_call1_call0_call0_v162 V : IVec S64x32768 32) y = mix19 (count y) := by
  show IntOp.xori ((res_main_call1_call0_call0_v156 V : IVec S64x32768 32) y) (IntOp.ori (IntOp.shli .host ((res_main_call1_call0_call0_v155 V : IVec S64x32768 32) y) 26#32) (IntOp.shrui .host ((res_main_call1_call0_call0_v155 V : IVec S64x32768 32) y) 6#32)) = _
  rw [r156, r155]; exact spin_at _ _ _ _ _ (by decide) (by decide)
theorem r163 : (res_main_call1_call0_call0_v163 V : IVec S64x32768 32) y = sum19 (count y) := by
  show IntOp.addi ((res_main_call1_call0_call0_v156 V : IVec S64x32768 32) y) ((res_main_call1_call0_call0_v162 V : IVec S64x32768 32) y) = _
  rw [r156, r162]; rfl

end Reference

end Cert.Words

end
-- ==== Proof.Pick.lean ====
/-
  The chosen column: the first column at which a row's value is greatest. The kernel finds it as the least column number
  among those whose value is the row's maximum, the reference by a pairwise arg-max; both find the same one.
-/
module

public import proofs.«01_k».proof.Proof.RefOps
public import proofs.«01_k».proof.Proof.SampleRegion
public import Idealize.ShloMosaic.PureOps.Ideal.Laws
public import Idealize.ShloMosaic.Lib.SortNet.Extract
public import Idealize.ShloMosaic.Lib.ValueIdxCore
public import Idealize.ShloMosaic.Lib.ValueLayoutCasts

@[expose] public section

noncomputable section

namespace Cert.Pick

open Idealize.ShloMosaic

/-- `c` is the number of the first of the columns at which `v` is greatest. -/
def IsPick (v : Fin 32768 → EReal) (c : BitVec 32) : Prop :=
  ∃ k : Fin 32768, c = BitVec.ofNat 32 k.val ∧ (∀ n, v n ≤ v k) ∧ ∀ n, v n = v k → k ≤ n

/-- A row has one such column. -/
theorem IsPick.unique {v : Fin 32768 → EReal} {c d : BitVec 32} (hc : IsPick v c) (hd : IsPick v d) : c = d := by
  obtain ⟨k, rfl, hk, hk'⟩ := hc
  obtain ⟨l, rfl, hl, hl'⟩ := hd
  have e : v k = v l := le_antisymm (hl k) (hk l)
  rw [le_antisymm (hk' l e.symm) (hl' k e)]

/-- Its number is below the number of columns. -/
theorem IsPick.lt {v : Fin 32768 → EReal} {c : BitVec 32} (hc : IsPick v c) : c.toNat < 32768 := by
  obtain ⟨k, rfl, -, -⟩ := hc
  have := k.isLt
  rw [BitVec.toNat_ofNat]; omega

theorem toInt_col (k : Nat) (hk : k ≤ 32768) : (BitVec.ofNat 32 k).toInt = k := by
  rw [BitVec.toInt_eq_toNat_of_lt] <;> rw [BitVec.toNat_ofNat] <;> omega

/-! ## The kernel's way -/

/-- A fold of the signed minimum: below the start and every element, and one of them. -/
theorem fold_minsi_spec {ι : Type} [DecidableEq ι] (g : ι → BitVec 32) (s : Finset ι) (init : BitVec 32) :
    (s.fold IntOp.minsi init g).toInt ≤ init.toInt ∧ (∀ i ∈ s, (s.fold IntOp.minsi init g).toInt ≤ (g i).toInt) ∧
      (s.fold IntOp.minsi init g = init ∨ ∃ i ∈ s, s.fold IntOp.minsi init g = g i) := by
  refine Finset.induction_on s ⟨le_of_eq (by rw [Finset.fold_empty]), fun i hi => absurd hi (Finset.notMem_empty i),
    Or.inl (by rw [Finset.fold_empty])⟩ ?_
  intro a s has ih
  obtain ⟨h1, h2, h3⟩ := ih
  rw [Finset.fold_insert has]
  have hm := SortNet.toInt_minsi (g a) (s.fold IntOp.minsi init g)
  refine ⟨by rw [hm]; exact le_trans (min_le_right _ _) h1, fun i hi => ?_, ?_⟩
  · rw [hm]
    rcases Finset.mem_insert.mp hi with rfl | hi
    · exact min_le_left _ _
    · exact le_trans (min_le_right _ _) (h2 i hi)
  · have hc : IntOp.minsi (g a) (s.fold IntOp.minsi init g) = g a ∨
        IntOp.minsi (g a) (s.fold IntOp.minsi init g) = s.fold IntOp.minsi init g := by
      unfold IntOp.minsi; split <;> simp
    rcases hc with hc | hc
    · exact .inr ⟨a, Finset.mem_insert_self _ _, hc⟩
    · rw [hc]
      rcases h3 with h3 | ⟨i, hi, h3⟩
      · exact .inl h3
      · exact .inr ⟨i, Finset.mem_insert_of_mem hi, h3⟩

/-- The least column number among those at which the value is the greatest is the pick. -/
theorem pick_of_folds (v : Fin 32768 → EReal) (cand : Fin 32768 → BitVec 32) (M : EReal)
    (hM : M = (Finset.univ : Finset (Fin 32768)).fold max ⊥ v)
    (hc : ∀ n, cand n = if v n = M then BitVec.ofNat 32 n.val else 32768#32) :
    IsPick v ((Finset.univ : Finset (Fin 32768)).fold IntOp.minsi 2147483647#32 cand) := by
  have hle : ∀ n, v n ≤ M := fun n => by
    rw [hM, Finset.le_fold_max]; exact .inr ⟨n, Finset.mem_univ _, le_refl _⟩
  have hex : ∃ k, v k = M := by
    have h := le_refl M
    conv at h => rhs; rw [hM]
    rw [Finset.le_fold_max] at h
    rcases h with h | ⟨k, -, h⟩
    · exact ⟨0, le_antisymm (hle 0) (le_trans h bot_le)⟩
    · exact ⟨k, le_antisymm (hle k) h⟩
  obtain ⟨k0, hk0⟩ := hex
  obtain ⟨-, h2, h3⟩ := fold_minsi_spec cand Finset.univ 2147483647#32
  generalize (Finset.univ : Finset (Fin 32768)).fold IntOp.minsi 2147483647#32 cand = r at h2 h3 ⊢
  have hr := h2 k0 (Finset.mem_univ _)
  rw [hc, if_pos hk0, toInt_col _ k0.isLt.le] at hr
  have hk0' : (k0.val : Int) < 32768 := by exact_mod_cast k0.isLt
  rcases h3 with rfl | ⟨k, -, rfl⟩
  · exact absurd hr (by rw [show (2147483647#32).toInt = 2147483647 from rfl]; omega)
  · by_cases hk : v k = M
    · refine ⟨k, by rw [hc, if_pos hk], fun n => by rw [hk]; exact hle n, fun n hn => ?_⟩
      have := h2 n (Finset.mem_univ _)
      rw [hc, if_pos hk, hc, if_pos (hn.trans hk), toInt_col _ k.isLt.le, toInt_col _ n.isLt.le] at this
      exact_mod_cast this
    · rw [hc, if_neg hk, show (32768#32).toInt = 32768 from rfl] at hr
      omega

theorem ofBits_bot : Ideal.ofBits .f32 0xFF800000#32 = ⊥ := by simp [Ideal.ofBits, Ideal.ieee]

section Kernel

open Cert.KernelIdeal Cert.KernelIdeal.Gen

/-- The kernel's choice of a column from a block of values. -/
def pickCol (v : FVec Ideal S16x32768 .f32) : IVec S16x1 32 :=
  shapeCast S16x1 (multiReductionI .minsi [1] S16
    (select (cmpf .oeq v (broadcastTo S16x32768 (shapeCast S16x1 (multiReduction .maximumf [1] S16 v 0xFF800000#32 reduces_S16x32768_S16 (.inl rfl) rfl) shapeCasts_S16_S16x1) broadcasts_S16x1_S16x32768))
      Cert.KernelIdeal.Scatter.colNos (broadcast S16x32768 32768#32)) 2147483647#32 reduces_S16x32768_S16 rfl) shapeCasts_S16_S16x1

/-- The index of a block at a row and a column. -/
def at16 (r : Fin 16) (n : Fin 32768) : S16x32768.Idx := ValueIdx.ix2 r n
/-- The index of a column of sixteen at a row. -/
def row16 (r : Fin 16) : S16x1.Idx := ValueIdx.ix2 r 0

theorem lift16 (r : Fin 16) (k : Fin 32768) : Shape.Reduces.lift reduces_S16x32768_S16 (ValueIdx.ix1 r) k = at16 r k := by
  funext a
  fin_cases a <;> rfl

/-- The least of a row's words. -/
theorem row_min (w : IVec S16x32768 32) (h : 2147483647#32 = IKind.minsi.neutral) (r : Fin 16) :
    multiReductionI .minsi [1] S16 w 2147483647#32 reduces_S16x32768_S16 h (ValueIdx.ix1 r) =
      (Finset.univ : Finset (Fin 32768)).fold IntOp.minsi 2147483647#32 fun n => w (at16 r n) := by
  rw [multiReductionI_eq_fold]
  refine (Shape.Reduces.fold_filter_drop_single reduces_S16x32768_S16 IntOp.minsi _ w (ValueIdx.ix1 r)).trans ?_
  refine congrArg (Finset.fold IntOp.minsi _ · _) (funext fun k => ?_)
  exact congrArg w (lift16 r k)

/-- The greatest of a row's values. -/
theorem row_max (v : FVec Ideal S16x32768 .f32) (hφ : FKind.Formats .f32) (h : 0xFF800000#32 = FKind.maximumf.neutral .f32 hφ) (r : Fin 16) :
    multiReduction .maximumf [1] S16 v 0xFF800000#32 reduces_S16x32768_S16 hφ h (ValueIdx.ix1 r) =
      (Finset.univ : Finset (Fin 32768)).fold max ⊥ fun n => v (at16 r n) := by
  refine (Ideal.multiReduction_maximumf_single v _ reduces_S16x32768_S16 hφ h _).trans ?_
  rw [Ideal.ofBits_def, ofBits_bot]
  refine congrArg (Finset.fold max _ · _) (funext fun k => ?_)
  exact congrArg v (lift16 r k)

/-- The kernel's choice at a row is the pick of the row's values. -/
theorem pickCol_spec (v : FVec Ideal S16x32768 .f32) (r : Fin 16) : IsPick (fun n => v (at16 r n)) (pickCol v (row16 r)) := by
  have e := (ValueIdx.shapeCast_a_a1_apply (multiReductionI .minsi [1] S16
    (select (cmpf .oeq v (broadcastTo S16x32768 (shapeCast S16x1 (multiReduction .maximumf [1] S16 v 0xFF800000#32 reduces_S16x32768_S16 (.inl rfl) rfl) shapeCasts_S16_S16x1) broadcasts_S16x1_S16x32768))
      Cert.KernelIdeal.Scatter.colNos (broadcast S16x32768 32768#32)) 2147483647#32 reduces_S16x32768_S16 rfl) shapeCasts_S16_S16x1 r 0).trans (row_min _ _ r)
  have e' : pickCol v (row16 r) = _ := e
  rw [e']
  refine pick_of_folds _ _ _ (row_max v (.inl rfl) rfl r) fun n => ?_
  have hb : broadcastTo S16x32768 (shapeCast S16x1 (multiReduction .maximumf [1] S16 v 0xFF800000#32 reduces_S16x32768_S16 (.inl rfl) rfl) shapeCasts_S16_S16x1) broadcasts_S16x1_S16x32768 (at16 r n)
      = multiReduction .maximumf [1] S16 v 0xFF800000#32 reduces_S16x32768_S16 (.inl rfl) rfl (ValueIdx.ix1 r) := by
    refine Eq.trans ?_ (ValueIdx.shapeCast_a_a1_apply _ shapeCasts_S16_S16x1 r 0)
    refine congrArg (shapeCast S16x1 _ shapeCasts_S16_S16x1) (funext fun a => ?_)
    fin_cases a <;> rfl
  show Scalar.select (Ideal.cmp .oeq (v (at16 r n)) _) (BitVec.ofNat 32 (0 * 32768 + n.val)) 32768#32 = _
  rw [hb]
  unfold Ideal.cmp Scalar.select
  by_cases h : v (at16 r n) = multiReduction .maximumf [1] S16 v 0xFF800000#32 reduces_S16x32768_S16 (.inl rfl) rfl (ValueIdx.ix1 r)
  · rw [if_pos h, Nat.zero_mul, Nat.zero_add]; simp only [h, decide_true]; rfl
  · rw [if_neg h]; simp only [h, decide_false]; rfl

end Kernel

section Reference

open Cert.ReferenceIdeal Cert.ReferenceIdeal.Gen

/-- The reference's arg-max body: the greater value's pair, the smaller number on equal values. -/
theorem reducer_spec (a b : Ideal .f32 × BitVec 32) :
    (b.1 < a.1 → reducer_argmax_f32_i32 a b = a) ∧ (a.1 < b.1 → reducer_argmax_f32_i32 a b = b) ∧
      (a.1 = b.1 → reducer_argmax_f32_i32 a b = if a.2.toInt < b.2.toInt then a else b) := by
  obtain ⟨x, p⟩ := a
  obtain ⟨y, q⟩ := b
  have hform : reducer_argmax_f32_i32 (F := Ideal) (x, p) (y, q) =
      (Scalar.select (IntOp.ori (Ideal.cmp .ogt x y) (Ideal.cmp .une x x)) x y,
        Scalar.select (IntOp.ori (IntOp.ori (Ideal.cmp .ogt x y) (Ideal.cmp .une x x)) (IntOp.andi (Ideal.cmp .oeq x y) (IntOp.cmpi .slt p q))) p q) := rfl
  rw [hform]
  have hs : IntOp.cmpi .slt p q = BitVec.ofBool (decide (p.toInt < q.toInt)) := rfl
  rw [hs]
  unfold Ideal.cmp Scalar.select IntOp.ori IntOp.andi
  refine ⟨fun h => ?_, fun h => ?_, fun h => ?_⟩
  · have h' : y < x := h
    simp [h', h'.ne']
  · have h' : x < y := h
    simp [h'.ne, not_lt.mpr h'.le]
  · have h' : x = y := h
    subst h'
    by_cases hl : p.toInt < q.toInt <;> simp [hl]

/-- Folding the arg-max body over a list: the result is the start or a member, no member is greater, and on equal
    values none has a smaller number. -/
theorem foldl_spec (l : List (Ideal .f32 × BitVec 32)) (z : Ideal .f32 × BitVec 32) :
    (l.foldl reducer_argmax_f32_i32 z = z ∨ l.foldl reducer_argmax_f32_i32 z ∈ l) ∧
      ∀ q, (q = z ∨ q ∈ l) → q.1 ≤ (l.foldl reducer_argmax_f32_i32 z).1 ∧
        (q.1 = (l.foldl reducer_argmax_f32_i32 z).1 → (l.foldl reducer_argmax_f32_i32 z).2.toInt ≤ q.2.toInt) := by
  induction l generalizing z with
  | nil => exact ⟨.inl rfl, fun q hq => by rcases hq with rfl | hq; exact ⟨le_refl _, fun _ => le_refl _⟩; simp at hq⟩
  | cons b l ih =>
    rw [List.foldl_cons]
    obtain ⟨hgt, hlt, heq⟩ := reducer_spec z b
    obtain ⟨h1, h2⟩ := ih (reducer_argmax_f32_i32 z b)
    have hw := h2 _ (.inl rfl)
    generalize l.foldl reducer_argmax_f32_i32 (reducer_argmax_f32_i32 z b) = r at h1 h2 hw ⊢
    have hzb : (reducer_argmax_f32_i32 z b = z ∨ reducer_argmax_f32_i32 z b = b) ∧
        (∀ q, (q = z ∨ q = b) → q.1 ≤ (reducer_argmax_f32_i32 z b).1 ∧ (q.1 = (reducer_argmax_f32_i32 z b).1 → (reducer_argmax_f32_i32 z b).2.toInt ≤ q.2.toInt)) := by
      rcases lt_trichotomy z.1 b.1 with h | h | h
      · rw [hlt h]; refine ⟨.inr rfl, fun q hq => ?_⟩
        rcases hq with rfl | rfl
        · exact ⟨h.le, fun e => absurd e h.ne⟩
        · exact ⟨le_refl _, fun _ => le_refl _⟩
      · rw [heq h]
        by_cases hl : z.2.toInt < b.2.toInt
        · rw [if_pos hl]; refine ⟨.inl rfl, fun q hq => ?_⟩
          rcases hq with rfl | rfl
          · exact ⟨le_refl _, fun _ => le_refl _⟩
          · exact ⟨h.ge, fun _ => hl.le⟩
        · rw [if_neg hl]; refine ⟨.inr rfl, fun q hq => ?_⟩
          rcases hq with rfl | rfl
          · exact ⟨h.le, fun _ => not_lt.mp hl⟩
          · exact ⟨le_refl _, fun _ => le_refl _⟩
      · rw [hgt h]; refine ⟨.inl rfl, fun q hq => ?_⟩
        rcases hq with rfl | rfl
        · exact ⟨le_refl _, fun _ => le_refl _⟩
        · exact ⟨h.le, fun e => absurd e h.ne⟩
    obtain ⟨hz1, hz2⟩ := hzb
    refine ⟨?_, fun q hq => ?_⟩
    · rcases h1 with h1 | h1
      · rcases hz1 with e | e
        · exact .inl (h1.trans e)
        · exact .inr (by rw [h1, e]; exact List.mem_cons_self)
      · exact .inr (List.mem_cons_of_mem _ h1)
    · have key : (q = z ∨ q = b) → q.1 ≤ r.1 ∧ (q.1 = r.1 → r.2.toInt ≤ q.2.toInt) := fun hq => by
        obtain ⟨ha, hb⟩ := hz2 q hq
        refine ⟨ha.trans hw.1, fun e => ?_⟩
        have e1 : q.1 = (reducer_argmax_f32_i32 z b).1 := le_antisymm ha (hw.1.trans e.ge)
        exact (hw.2 (e1.symm.trans e)).trans (hb e1)
      rcases hq with hq | hq
      · exact key (.inl hq)
      · rcases List.mem_cons.mp hq with hq | hq
        · exact key (.inr hq)
        · exact h2 q (.inr hq)

/-- The index of the logits at a row and a column. -/
def at64 (b : Fin 64) (n : Fin 32768) : S64x32768.Idx := ValueIdx.ix2 b n

theorem reduces64 : S64x32768.Reduces [1] S64 := by decide

theorem lift64 (b : Fin 64) (k : Fin 32768) : reduces64.lift (ValueIdx.ix1 b) k = at64 b k := by
  funext a
  fin_cases a <;> rfl

/-- The members of a row's list are its values with their column numbers. -/
theorem mem_row (x : FVec Ideal S64x32768 .f32) (b : Fin 64) (q : Ideal .f32 × BitVec 32) :
    q ∈ Host.argReduceFiber x (iotaInDim S64x32768 32 1) reducesTo_S64x32768_S64_d1 (ValueIdx.ix1 b) ↔ ∃ n : Fin 32768, q = (x (at64 b n), BitVec.ofNat 32 n.val) := by
  unfold Host.argReduceFiber
  rw [List.mem_map]
  constructor
  · rintro ⟨n, hn, rfl⟩
    have hd := (List.mem_filter.mp hn).2
    have hd' : reduces64.drop (S64x32768.rowMajor.symm n) = ValueIdx.ix1 b := by
      rw [← Shape.ReducesTo.drop_eq_drop reducesTo_S64x32768_S64_d1 reduces64]
      exact of_decide_eq_true hd
    have hm : S64x32768.rowMajor.symm n ∈ (Finset.univ.filter fun i => reduces64.drop i = ValueIdx.ix1 b) := Finset.mem_filter.mpr ⟨Finset.mem_univ _, hd'⟩
    rw [reduces64.filter_drop_eq_image_lift] at hm
    obtain ⟨k, -, hk⟩ := Finset.mem_image.mp hm
    have hk' : S64x32768.rowMajor.symm n = at64 b k := hk.symm.trans (lift64 b k)
    rw [hk']
    exact ⟨k, rfl⟩
  · rintro ⟨n, rfl⟩
    refine ⟨S64x32768.rowMajor (at64 b n), List.mem_filter.mpr ⟨List.mem_finRange _, ?_⟩, ?_⟩
    · rw [Equiv.symm_apply_apply, decide_eq_true_eq, Shape.ReducesTo.drop_eq_drop reducesTo_S64x32768_S64_d1 reduces64, ← lift64]
      exact Shape.Reduces.drop_lift reduces64 _ _
    · rw [Equiv.symm_apply_apply]; rfl

/-- The reference's arg-max at a row is the pick of the row's values. -/
theorem argmax_spec (x : FVec Ideal S64x32768 .f32) (b : Fin 64) (hu : 0 < S_.numel) :
    IsPick (fun n => x (at64 b n)) (Host.argReduce reducer_argmax_f32_i32 x (iotaInDim S64x32768 32 1) (constant S_ .f32 0xFF800000#32) (constantI S_ 32 0#32) reducesTo_S64x32768_S64_d1 hu (ValueIdx.ix1 b)).2 := by
  rw [Ideal.argReduce_eq_reduce2, Host.reduce2_eq_foldl_fiber]
  have hz : ((constant S_ .f32 0xFF800000#32 : FVec Ideal S_ .f32) (Shape.Idx.first hu), (constantI S_ 32 0#32) (Shape.Idx.first hu)) = ((⊥ : EReal), 0#32) :=
    Prod.ext ofBits_bot rfl
  rw [hz]
  obtain ⟨h1, h2⟩ := foldl_spec (Host.argReduceFiber x (iotaInDim S64x32768 32 1) reducesTo_S64x32768_S64_d1 (ValueIdx.ix1 b)) ((⊥ : EReal), 0#32)
  generalize (Host.argReduceFiber x (iotaInDim S64x32768 32 1) reducesTo_S64x32768_S64_d1 (ValueIdx.ix1 b)).foldl reducer_argmax_f32_i32 ((⊥ : EReal), 0#32) = r at h1 h2 ⊢
  have hk : ∃ k : Fin 32768, r = (x (at64 b k), BitVec.ofNat 32 k.val) := by
    rcases h1 with h1 | h1
    · have h0 := (h2 _ (.inr ((mem_row x b _).mpr ⟨0, rfl⟩))).1
      rw [h1] at h0
      refine ⟨0, h1.trans (Prod.ext (le_antisymm bot_le h0) rfl)⟩
    · exact (mem_row x b r).mp h1
  obtain ⟨k, rfl⟩ := hk
  refine ⟨k, rfl, fun n => (h2 _ (.inr ((mem_row x b _).mpr ⟨n, rfl⟩))).1, fun n hn => ?_⟩
  have := (h2 _ (.inr ((mem_row x b _).mpr ⟨n, rfl⟩))).2 hn
  rw [toInt_col _ k.isLt.le, toInt_col _ n.isLt.le] at this
  exact_mod_cast this

end Reference

end Cert.Pick

end
-- ==== Proof.Values.lean ====
/-
  The values the column is chosen by, over the extended reals: a logit brought into float32's finite range plus the
  noise of its counter. Both programs compute them, each in its own spelling, and so both choose the same column.
-/
module

public import proofs.«01_k».proof.Proof.Words
public import proofs.«01_k».proof.Proof.Pick

@[expose] public section

noncomputable section

namespace Cert.Values

open Idealize.ShloMosaic Idealize.ShloMosaic.TcCoe Cert.Words Cert.Pick

/-- The smallest positive normal float32. -/
def tiny : EReal := Ideal.ofBits .f32 0x00800000#32
/-- One. -/
def one : EReal := Ideal.ofBits .f32 0x3F800000#32
/-- The greatest finite float32. -/
def big : EReal := Ideal.ofBits .f32 0x7F7FFFFF#32
/-- The least finite float32. -/
def small : EReal := Ideal.ofBits .f32 0xFF7FFFFF#32

/-- The uniform number of a random word: its high 23 bits as a fraction, moved into `[tiny, 1)`. -/
def uniform (w : BitVec 32) : EReal := max tiny ((Ideal.ofBits .f32 ((w >>> 9#32) ||| 1065353216#32) - one) * (one - tiny) + tiny)

/-- The noise of a random word. -/
def noise (w : BitVec 32) : EReal := -(Ideal.log (-(Ideal.log (uniform w))))

/-- A logit brought into float32's finite range. -/
def clip (l : EReal) : EReal := min big (max small l)

/-- The logit is a number float32 can hold or an infinity. -/
def Held (l : EReal) : Prop := max l (-l) ≤ big ∨ max l (-l) = ⊤

theorem ofBits_top : Ideal.ofBits .f32 0x7F800000#32 = ⊤ := by simp [Ideal.ofBits, Ideal.ieee]
theorem small_eq : small = -big := by
  unfold small big
  simp [Ideal.ofBits, Ideal.ieee]
theorem big_real : ∃ r : ℝ, 0 ≤ r ∧ big = (r : EReal) := by
  unfold big
  simp [Ideal.ofBits, Ideal.ieee]
  refine ⟨16777215 * 2 ^ 104, by positivity, ?_⟩
  rw [EReal.coe_mul, EReal.coe_pow]
theorem zero_bits (x : EReal) : Ideal.ofBits .f32 0x00000000#32 - x = -x := by
  rw [Ideal.ofBits_zero_f32, sub_eq_add_neg, zero_add]

section Kernel

open Cert.KernelIdeal Cert.KernelIdeal.Gen

/-- The values of a block. -/
def blockVals (i : grid0.Coords) (x : FVec Ideal S16x32768 .f32) : FVec Ideal S16x32768 .f32 := fun y => clip (x y) + noise (bits (blockCount i y))

/-- The vector unit's spelling of a value. -/
def vecVal {F : FTy → Type} [FloatOps F] (l : F .f32) (a b : BitVec 32) : F .f32 :=
  FloatOps.addf (FloatOps.minimumf (FloatOps.ofBits .f32 0x7F7FFFFF#32) (FloatOps.maximumf (FloatOps.ofBits .f32 0xFF7FFFFF#32) (Scalar.select (FloatOps.cmpf .one l l) (FloatOps.ofBits .f32 0x00000000#32) l)))
    (FloatOps.subf (FloatOps.ofBits .f32 0x00000000#32) (FloatOps.log (FloatOps.subf (FloatOps.ofBits .f32 0x00000000#32) (FloatOps.log
      (FloatOps.maximumf (FloatOps.ofBits .f32 0x00800000#32)
        (FloatOps.addf (FloatOps.mulf (FloatOps.subf (FloatOps.ofBits .f32 (IntOp.ori (IntOp.shrui .vector (IntOp.xori b (IntOp.addi a 5#32)) 9#32) 1065353216#32)) (FloatOps.ofBits .f32 0x3F800000#32))
          (Scalar.subf (FloatOps.ofBits .f32 0x3F800000#32) (FloatOps.ofBits .f32 0x00800000#32))) (FloatOps.ofBits .f32 0x00800000#32)))))))

/-- Over the extended reals it is the value. -/
theorem vecVal_eq (l : EReal) (a b : BitVec 32) : vecVal (F := Ideal) l a b = clip l + noise (b ^^^ (a + 5#32)) := by
  have hs : Scalar.select (Ideal.cmp .one l l) (Ideal.ofBits .f32 0x00000000#32) l = l := by
    unfold Ideal.cmp Scalar.select; simp
  unfold vecVal
  rw [shr_at _ _ _ (by decide)]
  simp only [Ideal.ofBits_def, Ideal.addf_def, Ideal.subf_def, Ideal.mulf_def, Ideal.maximumf_def, Ideal.minimumf_def, Ideal.scalar_subf_def, Ideal.cmpf_def, zero_bits, hs]
  unfold clip noise uniform tiny one big small
  rfl

/-- The block's values, element by element, in the kernel's spelling. -/
theorem vecVal_at {F : FTy → Type} [FloatOps F] (x : FVec F S16x32768 .f32) (w1 w2 : IVec S16x32768 32) (y : S16x32768.Idx) :
    addf (k0_pay2 x) (subf (broadcast S16x32768 (FloatOps.ofBits .f32 0x00000000#32)) (log (subf (broadcast S16x32768 (FloatOps.ofBits .f32 0x00000000#32)) (log
      (maximumf (broadcast S16x32768 (FloatOps.ofBits .f32 0x00800000#32))
        (addf (mulf (subf (bitcastToFloat .f32 (ori (shrui (xori w2 (addi w1 (broadcast S16x32768 5#32))) (broadcast S16x32768 9#32)) (broadcast S16x32768 1065353216#32))) (broadcast S16x32768 (FloatOps.ofBits .f32 0x3F800000#32)))
          (broadcast S16x32768 (Scalar.subf (FloatOps.ofBits .f32 0x3F800000#32) (FloatOps.ofBits .f32 0x00800000#32)))) (broadcast S16x32768 (FloatOps.ofBits .f32 0x00800000#32)))))))) y =
      vecVal (x y) (w1 y) (w2 y) := rfl

/-- The kernel chooses by them. -/
theorem choice_eq (i : grid0.Coords) (x : FVec Ideal S16x32768 .f32) : Cert.KernelIdeal.Scatter.choice (F := Ideal) i x = pickCol (blockVals i x) := by
  unfold Cert.KernelIdeal.Scatter.choice
  refine (congrArg pickCol (funext fun y => (vecVal_at (F := Ideal) x (Cert.KernelIdeal.Scatter.words i).1 (Cert.KernelIdeal.Scatter.words i).2 y).trans ?_) : _ = pickCol (blockVals i x))
  obtain ⟨h1, h2⟩ := words_at i y
  rw [vecVal_eq, h1, h2]
  unfold blockVals bits
  with_reducible rfl

end Kernel

section Reference

open Cert.ReferenceIdeal Cert.ReferenceIdeal.Gen Cert.ReferenceIdeal.Value

/-- The reference's way to bring a logit into the finite range is the kernel's, of a logit float32 can hold. -/
theorem clip_ref (l : EReal) (h : Held l) :
    (if (if l = ⊤ then big else l) = ⊥ then small else (if l = ⊤ then big else l)) = clip l := by
  obtain ⟨r, hr, hb⟩ := big_real
  have hbot : big ≠ ⊥ := by rw [hb]; exact EReal.coe_ne_bot r
  have hsb : small ≤ big := by
    rw [small_eq, hb, ← EReal.coe_neg, EReal.coe_le_coe_iff]; linarith
  unfold clip
  by_cases ht : l = ⊤
  · rw [if_pos ht, if_neg hbot, ht, max_eq_right le_top, min_eq_left le_top]
  · rw [if_neg ht]
    by_cases hl : l = ⊥
    · rw [if_pos hl, hl, max_eq_left bot_le, min_eq_right hsb]
    · rw [if_neg hl]
      have hle : max l (-l) ≤ big := by
        rcases h with h | h
        · exact h
        · rcases max_choice l (-l) with e | e
          · exact absurd (e.symm.trans h) ht
          · exact absurd (EReal.neg_eq_top_iff.mp (e.symm.trans h)) hl
      have h1 : l ≤ big := (le_max_left _ _).trans hle
      have h2 : small ≤ l := by rw [small_eq]; exact EReal.neg_le.mp ((le_max_right _ _).trans hle)
      rw [max_eq_right h2, min_eq_right h1]

/-- The host's spelling of a value. -/
def hostVal {F : FTy → Type} [FloatOps F] (l : F .f32) (w : BitVec 32) : F .f32 :=
  FloatOps.addf (FloatOps.hostNegf (FloatOps.hostUnary .log (FloatOps.hostNegf (FloatOps.hostUnary .log (FloatOps.maximumf (FloatOps.ofBits .f32 0x00800000#32)
    (FloatOps.addf (FloatOps.mulf (FloatOps.subf (FloatOps.ofBits .f32 (IntOp.ori (IntOp.shrui .host w 9#32) 1065353216#32)) (FloatOps.ofBits .f32 0x3F800000#32))
      (FloatOps.subf (FloatOps.ofBits .f32 0x3F800000#32) (FloatOps.ofBits .f32 0x00800000#32))) (FloatOps.ofBits .f32 0x00800000#32)))))))
    (let a := Scalar.select (FloatOps.cmpf .une l l) (FloatOps.ofBits .f32 0x00000000#32) l
     let b := Scalar.select (FloatOps.cmpf .oeq a (FloatOps.ofBits .f32 0x7F800000#32)) (FloatOps.ofBits .f32 0x7F7FFFFF#32) a
     Scalar.select (FloatOps.cmpf .oeq b (FloatOps.ofBits .f32 0xFF800000#32)) (FloatOps.ofBits .f32 0xFF7FFFFF#32) b)

/-- Over the extended reals it is the value, of a logit float32 can hold. -/
theorem hostVal_eq (l : EReal) (h : Held l) (w : BitVec 32) : hostVal (F := Ideal) l w = clip l + noise w := by
  have c1 : Scalar.select (Ideal.cmp .une l l) (Ideal.ofBits .f32 0x00000000#32) l = l := by
    unfold Ideal.cmp Scalar.select; simp
  have c2 : Scalar.select (Ideal.cmp .oeq l ⊤) (Ideal.ofBits .f32 0x7F7FFFFF#32) l = if l = ⊤ then big else l := by
    unfold Ideal.cmp Scalar.select big
    by_cases h : l = ⊤ <;> simp [h]
  have c3 : Scalar.select (Ideal.cmp .oeq (if l = ⊤ then big else l) ⊥) (Ideal.ofBits .f32 0xFF7FFFFF#32) (if l = ⊤ then big else l) = clip l := by
    rw [← clip_ref l h]
    generalize (if l = ⊤ then big else l) = k
    unfold Ideal.cmp Scalar.select small
    by_cases h : k = ⊥ <;> simp [h]
  unfold hostVal
  rw [shr_at _ _ _ (by decide)]
  simp only [Ideal.ofBits_def, Ideal.addf_def, Ideal.subf_def, Ideal.mulf_def, Ideal.maximumf_def, Ideal.cmpf_def, Ideal.hostUnary_log_def, Ideal.hostNegf_def, c1, ofBits_top, ofBits_bot, c2, c3]
  unfold noise uniform tiny one
  rw [add_comm]
  rfl

/-- The reference's values, element by element, in its own spelling. -/
theorem hostVal_at {F : FTy → Type} [FloatOps F] (V : Valuation τ sig (Elt F)) (y : S64x32768.Idx) :
    (res_main_v9 V : FVec F S64x32768 .f32) y = hostVal ((V (Proc.devRef .tc main_arg0) : FVec F S64x32768 .f32) y) (IntOp.xori
      (IntOp.addi ((res_main_call1_call0_call0_v163 V : IVec S64x32768 32) y) ((res_main_call1_call0_call0_v1 V : IVec S_ 32) ValueIdx.ix0))
      (IntOp.addi (IntOp.addi (IntOp.xori ((res_main_call1_call0_call0_v163 V : IVec S64x32768 32) y) (IntOp.ori (IntOp.shli .host ((res_main_call1_call0_call0_v162 V : IVec S64x32768 32) y) 6#32) (IntOp.shrui .host ((res_main_call1_call0_call0_v162 V : IVec S64x32768 32) y) 26#32)))
        ((res_main_call1_call0_v4 V : IVec S_ 32) ValueIdx.ix0)) 5#32)) := by
  have e : ∀ (x : IVec S_ 32), broadcastInDim S64x32768 ![] bcast_S_S64x32768 x y = x ValueIdx.ix0 := fun x => congrArg x (funext fun a => a.elim0)
  rw [← e (res_main_call1_call0_call0_v1 V), ← e (res_main_call1_call0_v4 V)]
  rfl

/-- The reference's values. -/
theorem vals_eq (V : Valuation τ sig (Elt Ideal)) (y : S64x32768.Idx) (hy : Held ((V (Proc.devRef .tc main_arg0) : FVec Ideal S64x32768 .f32) y)) :
    (res_main_v9 V : FVec Ideal S64x32768 .f32) y = clip ((V (Proc.devRef .tc main_arg0) : FVec Ideal S64x32768 .f32) y) + noise (bits (count y)) := by
  rw [hostVal_at, r163, r162, key_mix, key_hi, spin_at _ _ _ _ _ (by decide) (by decide), hostVal_eq _ hy]
  have hz : IntOp.addi (spin (sum19 (count y)) (mix19 (count y)) 6#32 26#32) 0#32 = last (count y) := BitVec.add_zero _
  rw [hz]
  unfold bits IntOp.xori IntOp.addi
  with_reducible rfl

end Reference

end Cert.Values

end
-- ==== Proof.Rows.lean ====
/-
  The rows the first region leaves: row `b` of the array is the result's row for the column picked among batch row `b`'s
  values, and so each lies in its own batch row's block of one half of the result.
-/
module

public import proofs.«01_k».proof.Proof.KernelRun
public import proofs.«01_k».proof.Proof.Values
public import Idealize.ShloMosaic.Lib.Pipeline.ValueKit

@[expose] public section

noncomputable section

namespace Cert.KernelIdeal.Scatter

open Cert.KernelIdeal Cert.KernelIdeal.Gen
open Idealize.ShloMosaic Idealize.ShloMosaic.TcCoe
open Idealize.ShloMosaic.Pipeline (Dat Cfg Window)

section AnyFloats

variable {F : FTy → Type} [FloatOps F] (m : (ℓ : Loc nD τ sig) → Buf (Elt F) ℓ) (c : Dev nD)

/-- The grid point that writes row `b`. -/
def point (b : ℕ) (hb : b < 64) : Fin cfg0.N := ⟨b / 16, by show b / 16 < 4; omega⟩

/-- The rows' array as computed from the blocks of logits. -/
def rowsAll : S64x1.Idx → BitVec 32 := fun j =>
  rowBlock (F := F) (grid0.coords (point (j 0).val (j 0).isLt)) (logitBlock (V1 m) c (point (j 0).val (j 0).isLt)) (ValueIdx.ix2 ⟨(j 0).val % 16, Nat.mod_lt _ (by decide)⟩ 0)

theorem index_rows : ∀ t : Fin cfg0.N, (cfg0.win 1).index t = ![t.val, 0] := by decide +kernel
theorem index_logits : ∀ t : Fin cfg0.N, (cfg0.win 0).index t = ![t.val, 0] := by decide +kernel
theorem coords_val : ∀ t : Fin cfg0.N, (grid0.coords t 0).val = t.val := by decide +kernel

/-- Its element written at point `t`, row `r` of the block. -/
theorem rowsAll_at (t : Fin cfg0.N) (r : Fin 16) (j : S64x1.Idx) (h : (j 0).val = t.val * 16 + r.val) :
    rowsAll m c j = rowBlock (F := F) (grid0.coords t) (logitBlock (V1 m) c t) (ValueIdx.ix2 r 0) := by
  have ht : point (j 0).val (j 0).isLt = t := Fin.ext (by show (j 0).val / 16 = t.val; have := r.isLt; omega)
  have hr : (⟨(j 0).val % 16, Nat.mod_lt _ (by decide)⟩ : Fin 16) = r := Fin.ext (by show (j 0).val % 16 = r.val; have := r.isLt; omega)
  unfold rowsAll
  rw [ht, hr]

/-- The host's reshape leaves the logits alone. -/
theorem V1_logits : V1 m c main_arg0 = m ((c : Thread nD τ).loc main_arg0) :=
  (V1_of m c main_arg0 (by decide)).trans rfl

/-- The first region leaves it. -/
theorem rowsOut_eq : rowsOut m c = rowsAll m c := by
  unfold rowsOut
  refine (dat0 (V1 m) c).arrAt_eq_of_covers 1 _ (by decide +kernel) fun t hf y => ?_
  blk_simp
  rw [after_rows]
  have e0 : (((cfg0.win 1).blk t).view.emb y 0 : ℕ) = t.val * 16 + (y 0).val := by
    refine ((cfg0.win 1).rect_emb_val t y 0).trans ?_
    rw [index_rows]; rfl
  refine Eq.trans ?_ (rowsAll_at m c t (y 0) _ e0).symm
  refine congrArg (rowBlock (F := F) _ _) (funext fun a => ?_)
  fin_cases a
  · rfl
  · exact Fin.ext (Nat.lt_one_iff.mp (y 1).isLt)

/-- A block of logits reads the logits. -/
theorem logitBlock_at (t : Fin cfg0.N) (r : Fin 16) (n : Fin 32768) (hb : t.val * 16 + r.val < 64) :
    logitBlock (V1 m) c t (ValueIdx.ix2 r n) = m ((c : Thread nD τ).loc main_arg0) (ValueIdx.ix2 (n0 := 64) ⟨t.val * 16 + r.val, hb⟩ n) := by
  unfold logitBlock
  blk_simp
  refine (congrFun (V1_logits m c) _).trans (congrArg (m ((c : Thread nD τ).loc main_arg0)) (funext fun a => Fin.ext ?_))
  have e : ∀ a, (((cfg0.win 0).blk t).view.emb (ValueIdx.ix2 r n) a : ℕ) = _ := fun a => (cfg0.win 0).rect_emb_val t (ValueIdx.ix2 r n) a
  refine (e a).trans ?_
  rw [index_logits]
  fin_cases a
  · rfl
  · show 0 * 32768 + n.val = n.val
    omega

end AnyFloats

end Cert.KernelIdeal.Scatter

end
-- ==== Proof.Picked.lean ====
/-
  What the second region reads: the column number from the launch memory, and for each batch row the result's row of the
  column picked among that batch row's values.
-/
module

public import proofs.«01_k».proof.Proof.Rows

@[expose] public section

noncomputable section

namespace Cert.KernelIdeal.Scatter

open Cert.KernelIdeal Cert.KernelIdeal.Gen
open Idealize.ShloMosaic Idealize.ShloMosaic.TcCoe
open Idealize.ShloMosaic.Pipeline (Dat Cfg Window)

section AnyFloats

variable {F : FTy → Type} [FloatOps F] (m : (ℓ : Loc nD τ sig) → Buf (Elt F) ℓ) (c : Dev nD)

/-- The second region stages the rows' array as the first left it. -/
theorem rowsIn_eq : rowsIn (W2 m) c = rowsOut m c := by
  funext y
  unfold rowsIn
  have hself : W2 m c (Proc.devRef .tc main_v1) = (rowsOut m c : Buf (Elt F) ((c : Thread nD τ).loc main_v1)) := by
    unfold W2; rw [Function.update_self]
  refine (congrFun hself (((cfg1.win 1).blk t1_0).view.emb y)).trans (congrArg (rowsOut m c) (funext fun a => Fin.ext ?_))
  refine ((cfg1.win 1).rect_emb_val t1_0 y a).trans ?_
  have h : (cfg1.win 1).index t1_0 a = 0 := by revert a; decide +kernel
  rw [h, Nat.zero_mul, Nat.zero_add]

/-- And the column number as the launch gave it. -/
theorem colIn_eq : colIn (W2 m) c at1 = (m ((c : Thread nD τ).loc main_arg3) ValueIdx.ix0 : BitVec 32) := by
  unfold colIn
  have hne : W2 m c (Proc.devRef .tc main_v0) = V1 m c (Proc.devRef .tc main_v0) := by
    unfold W2
    rw [Function.update_of_ne (StableHlo.devRef_ne_of_ne (by decide) : (Proc.devRef .tc main_v0 : DevRef τ sig) ≠ Proc.devRef .tc main_v1)]
  refine (congrFun hne (((cfg1.win 0).blk t1_0).view.emb at1)).trans ?_
  unfold V1 hostOps0
  rw [StableHlo.after_cons, StableHlo.after_nil, StableHlo.reshape_result]
  exact congrArg (m ((c : Thread nD τ).loc main_arg3)) (funext fun a => a.elim0)

/-- A row's number from its parts: the block of its batch row, in the left half below column 16384 and in the right half
    from there on. -/
theorem rowBlock_at (i : grid0.Coords) (x : Vec F S16x32768 .f32) (r : Fin 16) :
    rowBlock (F := F) i x (ValueIdx.ix2 r 0) =
      Scalar.select (IntOp.cmpi .slt (choice (F := F) i x (ValueIdx.ix2 r 0)) 16384#32)
        (IntOp.addi (IntOp.muli (IntOp.addi (IntOp.muli (BitVec.ofNat 32 (i 0).val) 16#32) (BitVec.ofNat 32 (0 * 16 + r.val))) 16384#32) (choice (F := F) i x (ValueIdx.ix2 r 0)))
        (IntOp.addi (IntOp.muli (IntOp.addi 64#32 (IntOp.addi (IntOp.muli (BitVec.ofNat 32 (i 0).val) 16#32) (BitVec.ofNat 32 (0 * 16 + r.val)))) 16384#32)
          (IntOp.subi (choice (F := F) i x (ValueIdx.ix2 r 0)) 16384#32)) := rfl

/-- The column picked for batch row `b`. -/
def colOf (b : ℕ) (hb : b < 64) : BitVec 32 :=
  choice (F := F) (grid0.coords (point b hb)) (logitBlock (V1 m) c (point b hb)) (ValueIdx.ix2 ⟨b % 16, Nat.mod_lt _ (by decide)⟩ 0)

end AnyFloats

/-- The result's row of column `c` of batch row `b`. -/
def rowWord (b : ℕ) (c : BitVec 32) : BitVec 32 :=
  if c.toNat < 16384 then BitVec.ofNat 32 (b * 16384 + c.toNat) else BitVec.ofNat 32 ((64 + b) * 16384 + (c.toNat - 16384))

theorem rowWord_toNat (b : ℕ) (hb : b < 64) (c : BitVec 32) (hc : c.toNat < 32768) :
    (rowWord b c).toNat = if c.toNat < 16384 then b * 16384 + c.toNat else (64 + b) * 16384 + (c.toNat - 16384) := by
  unfold rowWord
  split <;> rw [BitVec.toNat_ofNat] <;> omega

theorem slt_half (c : BitVec 32) (hc : c.toNat < 32768) : IntOp.cmpi .slt c 16384#32 = if c.toNat < 16384 then 1#1 else 0#1 := by
  have h : c.toInt = c.toNat := BitVec.toInt_eq_toNat_of_lt (by omega)
  have h2 : BitVec.slt c 16384#32 = decide (c.toNat < 16384) := by
    rw [BitVec.slt, h]
    have : (16384#32).toInt = 16384 := by decide
    rw [this]
    exact decide_eq_decide.mpr (by omega)
  show BitVec.ofBool (BitVec.slt c 16384#32) = _
  rw [h2]
  by_cases hlt : c.toNat < 16384 <;> simp [hlt]

/-- The kernel's arithmetic on the row number. -/
theorem select_rowWord (i r : ℕ) (hi : i < 4) (hr : r < 16) (a : BitVec 32) (ha : a.toNat < 32768) :
    Scalar.select (IntOp.cmpi .slt a 16384#32)
        (IntOp.addi (IntOp.muli (IntOp.addi (IntOp.muli (BitVec.ofNat 32 i) 16#32) (BitVec.ofNat 32 (0 * 16 + r))) 16384#32) a)
        (IntOp.addi (IntOp.muli (IntOp.addi 64#32 (IntOp.addi (IntOp.muli (BitVec.ofNat 32 i) 16#32) (BitVec.ofNat 32 (0 * 16 + r)))) 16384#32)
          (IntOp.subi a 16384#32)) = rowWord (i * 16 + r) a := by
  rw [slt_half a ha]
  refine BitVec.eq_of_toNat_eq ?_
  rw [rowWord_toNat _ (by omega) _ ha]
  by_cases hlt : a.toNat < 16384
  · rw [if_pos hlt, if_pos hlt]
    show (((BitVec.ofNat 32 i * 16#32 + BitVec.ofNat 32 (0 * 16 + r)) * 16384#32) + a).toNat = _
    simp only [BitVec.toNat_add, BitVec.toNat_mul, BitVec.toNat_ofNat]
    omega
  · rw [if_neg hlt, if_neg hlt]
    show ((64#32 + (BitVec.ofNat 32 i * 16#32 + BitVec.ofNat 32 (0 * 16 + r))) * 16384#32 + (a - 16384#32)).toNat = _
    simp only [BitVec.toNat_add, BitVec.toNat_mul, BitVec.toNat_ofNat, BitVec.toNat_sub]
    omega

open Cert.Words Cert.Pick Cert.Values

variable (m : (ℓ : Loc nD τ sig) → Buf (Elt Ideal) ℓ) (c : Dev nD)

/-- The values batch row `b` picks from. -/
def rowVals (b : ℕ) (hb : b < 64) : Fin 32768 → EReal := fun n =>
  clip ((m ((c : Thread nD τ).loc main_arg0) : S64x32768.Idx → EReal) (ValueIdx.ix2 ⟨b, hb⟩ n)) + noise (bits (BitVec.ofNat 32 (b * 32768 + n.val)))

/-- The column picked is the first of the greatest. -/
theorem colOf_spec (b : ℕ) (hb : b < 64) : IsPick (rowVals m c b hb) (colOf m c b hb) := by
  unfold colOf
  rw [choice_eq]
  have h := pickCol_spec (blockVals (grid0.coords (point b hb)) (logitBlock (V1 m) c (point b hb))) ⟨b % 16, Nat.mod_lt _ (by decide)⟩
  refine (congrArg (fun v => IsPick v _) (funext fun n => ?_)).mp h
  unfold blockVals rowVals at16 blockCount
  have hq : (point b hb).val * 16 + b % 16 = b := by show b / 16 * 16 + b % 16 = b; omega
  have e := logitBlock_at m c (point b hb) ⟨b % 16, Nat.mod_lt _ (by decide)⟩ n (by show (point b hb).val * 16 + b % 16 < 64; omega)
  rw [e, coords_val]
  have e2 : (⟨(point b hb).val * 16 + b % 16, by omega⟩ : Fin 64) = ⟨b, hb⟩ := Fin.ext hq
  have e2' : (ValueIdx.ix2 (⟨(point b hb).val * 16 + b % 16, by omega⟩ : Fin 64) n : S64x32768.Idx) = ValueIdx.ix2 ⟨b, hb⟩ n := congrArg (fun k => ValueIdx.ix2 k n) e2
  refine congrArg₂ (· + ·) (congrArg (fun y : S64x32768.Idx => clip ((m ((c : Thread nD τ).loc main_arg0) : S64x32768.Idx → EReal) y)) e2') ?_
  show noise (bits (BitVec.ofNat 32 (((point b hb).val * 16 + b % 16) * 32768 + n.val))) = _
  rw [hq]

/-- The rows' array at batch row `b`. -/
theorem rowsOut_at (b : ℕ) (hb : b < 64) : rowsOut m c (at64 b hb) = rowWord b (colOf m c b hb) := by
  rw [rowsOut_eq]
  have hq : (point b hb).val * 16 + b % 16 = b := by show b / 16 * 16 + b % 16 = b; omega
  rw [rowsAll_at m c (point b hb) ⟨b % 16, Nat.mod_lt _ (by decide)⟩ (at64 b hb) (by show b = (point b hb).val * 16 + b % 16; omega), rowBlock_at, coords_val]
  refine (select_rowWord (point b hb).val (b % 16) (point b hb).isLt (Nat.mod_lt _ (by decide)) _ (colOf_spec m c b hb).lt).trans ?_
  rw [hq]

/-- Each lies in its own batch row's block. -/
theorem rows_ok : RowsOk (rowsIn (W2 m) c) := by
  rw [rowsIn_eq]
  intro i hi
  have hlt := (colOf_spec m c i hi).lt
  rw [rowsOut_at, rowWord_toNat i hi _ hlt]
  split <;> constructor <;> omega

end Cert.KernelIdeal.Scatter
-- ==== Proof.OneHot.lean ====
/-
  The kernel's result, read at a row and a column: one where the row is the row picked for its batch row and the column is
  the named one, zero elsewhere.
-/
module

public import proofs.«01_k».proof.Proof.Picked

@[expose] public section

noncomputable section

namespace Cert.KernelIdeal.Scatter

open Cert.KernelIdeal Cert.KernelIdeal.Gen
open Idealize.ShloMosaic Idealize.ShloMosaic.TcCoe
open Cert.Words Cert.Values

/-- A tile's element, over any floats. -/
theorem tile_at {F : FTy → Type} [FloatOps F] (d R : BitVec 32) (y : S8x128.Idx) :
    k1_pay2 (F := F) d R y = FloatOps.sitofp .f32 (BitVec.setWidth 32 (IntOp.andi (IntOp.cmpi .eq (BitVec.ofNat 32 (0 * 8 + (y 0).val)) (IntOp.andi d 7#32))
      (IntOp.cmpi .eq (BitVec.ofNat 32 (0 * 128 + (y 1).val)) (IntOp.andi R 127#32)))) := by
  unfold k1_pay2
  rw [shapeCast_self]
  rfl

/-- A word's low bits are its remainder. -/
theorem and_low (k : ℕ) (hk : k ≤ 8) (x : BitVec 32) : (x &&& BitVec.ofNat 32 (2 ^ k - 1)).toNat = x.toNat % 2 ^ k := by
  rw [BitVec.toNat_and, BitVec.toNat_ofNat]
  have h1 : 2 ^ k ≤ 2 ^ 8 := Nat.pow_le_pow_right (by decide) hk
  have : (2 ^ k - 1) % 2 ^ 32 = 2 ^ k - 1 := Nat.mod_eq_of_lt (by omega)
  rw [this, Nat.and_two_pow_sub_one_eq_mod]

/-- A tile's element over the extended reals: one at the row's and the column's places in the tile. -/
theorem tile_ideal (d R : BitVec 32) (y : S8x128.Idx) :
    (k1_pay2 (F := Ideal) d R y : EReal) = if (y 0).val = d.toNat % 8 ∧ (y 1).val = R.toNat % 128 then 1 else 0 := by
  rw [tile_at]
  have h0 : (y 0).val < 8 := (y 0).isLt
  have h1 : (y 1).val < 128 := (y 1).isLt
  have e0 : (BitVec.ofNat 32 (0 * 8 + (y 0).val) == (d &&& 7#32)) = decide ((y 0).val = d.toNat % 8) := by
    rw [beq_eq_decide, decide_eq_decide, ← BitVec.toNat_inj, show (7#32 : BitVec 32) = BitVec.ofNat 32 (2 ^ 3 - 1) from rfl, and_low 3 (by decide), BitVec.toNat_ofNat]
    omega
  have e1 : (BitVec.ofNat 32 (0 * 128 + (y 1).val) == (R &&& 127#32)) = decide ((y 1).val = R.toNat % 128) := by
    rw [beq_eq_decide, decide_eq_decide, ← BitVec.toNat_inj, show (127#32 : BitVec 32) = BitVec.ofNat 32 (2 ^ 7 - 1) from rfl, and_low 7 (by decide), BitVec.toNat_ofNat]
    omega
  have hw : BitVec.setWidth 32 (IntOp.andi (IntOp.cmpi .eq (BitVec.ofNat 32 (0 * 8 + (y 0).val)) (IntOp.andi d 7#32))
      (IntOp.cmpi .eq (BitVec.ofNat 32 (0 * 128 + (y 1).val)) (IntOp.andi R 127#32))) =
      if (y 0).val = d.toNat % 8 ∧ (y 1).val = R.toNat % 128 then 1#32 else 0#32 := by
    show BitVec.setWidth 32 (BitVec.ofBool (BitVec.ofNat 32 (0 * 8 + (y 0).val) == (d &&& 7#32)) &&& BitVec.ofBool (BitVec.ofNat 32 (0 * 128 + (y 1).val) == (R &&& 127#32))) = _
    rw [e0, e1]
    by_cases p : (y 0).val = d.toNat % 8 <;> by_cases q : (y 1).val = R.toNat % 128 <;> simp [p, q]
  rw [hw]
  split
  · show (((1#32 : BitVec 32).toInt : ℝ) : EReal) = 1
    simp
  · show (((0#32 : BitVec 32).toInt : ℝ) : EReal) = 0
    simp

/-- The filled array over the extended reals. -/
theorem filled_ideal (d : BitVec 32) (rows : S64x1.Idx → BitVec 32) (y : S32x2097152.Idx) :
    (filled (F := Ideal) d rows y : EReal) =
      if (y 0).val = d.toNat ∧ (y 1).val = (rows (at64 ((y 1).val / 16384 % 64) (Nat.mod_lt _ (by decide)))).toNat then 1 else 0 := by
  unfold filled
  split
  · rename_i h
    rw [tile_ideal]
    refine if_congr ?_ rfl rfl
    show (y 0).val % 8 = _ ∧ (y 1).val % 128 = _ ↔ _
    omega
  · rename_i h
    rw [if_neg (fun h' => h ⟨by rw [h'.1], by rw [← h'.2]⟩)]
    exact Ideal.ofBits_zero_f32

variable (m : (ℓ : Loc nD τ sig) → Buf (Elt Ideal) ℓ) (c : Dev nD)

/-- The column number of the launch. -/
def named : BitVec 32 := (m ((c : Thread nD τ).loc main_arg3) : S_.Idx → BitVec 32) ValueIdx.ix0

/-- One at the picked row and the named column, zero elsewhere. -/
def oneHot (y : S2097152x32.Idx) : EReal :=
  if (y 1).val = (named m c).toNat ∧ (y 0).val = (rowWord ((y 0).val / 16384 % 64) (colOf m c ((y 0).val / 16384 % 64) (Nat.mod_lt _ (by decide)))).toNat then 1 else 0

/-- The result at a row and a column. -/
theorem result_eq : (V4 m (outs m) c main_v3 : FVec Ideal S2097152x32 .f32) = oneHot m c := by
  unfold V4 hostOps2
  rw [StableHlo.after_cons, StableHlo.after_nil, StableHlo.unary_result, V3_eq, Function.update_self]
  funext y
  refine (transpose_apply _ _ transposes_S32x2097152_S2097152x32_1_0 y (ValueIdx.ix2 (y 1) (y 0)) fun b => by fin_cases b <;> rfl).trans ?_
  unfold resultOut oneHot
  rw [filled_ideal, rowsIn_eq, colIn_eq, ← rowsOut_at]
  rfl

end Cert.KernelIdeal.Scatter
-- ==== Proof.Frames.lean ====
/-
  What the preconditions say of the arguments, and the kernel's runs under them: the arguments unchanged, every counter at
  zero, and the result one at the picked rows in the named column.
-/
module

public import proofs.«01_k».proof.Proof.OneHot
public import proofs.«01_k».proof.Proof.Gen.Pre_names_column
public import proofs.«01_k».proof.Proof.Gen.Pre_zero_latents
public import proofs.«01_k».proof.Defs

@[expose] public section

noncomputable section

namespace Cert.KernelIdeal.Scatter

open Cert.KernelIdeal Cert.KernelIdeal.Gen
open Idealize.ShloMosaic Idealize.ShloMosaic.TcCoe Idealize.SL.Sem
open Cert.Words Cert.Values

/-- A word between 0 and 31, as the preconditions say it. -/
theorem col_lt (d : BitVec 32) (h : IntOp.andi (IntOp.cmpi .sge d 0#32) (IntOp.cmpi .slt d 32#32) = 1#1) : d.toNat < 32 := by
  have h' : BitVec.ofBool (BitVec.sle 0#32 d) &&& BitVec.ofBool (BitVec.slt d 32#32) = 1#1 := h
  have h0 : BitVec.sle 0#32 d = true := by
    cases hs : BitVec.sle 0#32 d
    · rw [hs] at h'; simp at h'
    · rfl
  have h1 : BitVec.slt d 32#32 = true := by
    cases hs : BitVec.slt d 32#32
    · rw [hs] at h'; simp at h'
    · rfl
  rw [BitVec.sle, decide_eq_true_iff] at h0
  rw [BitVec.slt, decide_eq_true_iff] at h1
  have e0 : (0#32 : BitVec 32).toInt = 0 := by decide
  have e1 : (32#32 : BitVec 32).toInt = 32 := by decide
  rw [e0] at h0
  rw [e1] at h1
  rw [BitVec.toInt_eq_toNat_cond] at h0 h1
  split at h0 <;> split at h1 <;> omega

/-- A float that a precondition compares equal to zero is zero. -/
theorem zero_of_oeq (x : EReal) (h : Ideal.cmp .oeq x (Ideal.ofBits .f32 0x00000000#32) = 1#1) : x = 0 := by
  rw [Ideal.ofBits_zero_f32] at h
  unfold Ideal.cmp at h
  by_contra hne
  simp [hne] at h

/-- A logit whose size a precondition finds at most the greatest float, or infinite. -/
theorem held_of_or (x : EReal) (h : IntOp.ori (Ideal.cmp .ole (max x (-x)) (Ideal.ofBits .f32 0x7F7FFFFF#32)) (Ideal.cmp .oeq (max x (-x)) (Ideal.ofBits .f32 0x7F800000#32)) = 1#1) : Held x := by
  rw [ofBits_top] at h
  unfold Held big
  by_contra hne
  rw [not_or] at hne
  unfold Ideal.cmp at h
  simp [hne.1, hne.2, IntOp.ori] at h

variable (m : (ℓ : Loc nD τ sig) → Buf (Elt Ideal) ℓ) (ρ : Dev nD → PrngReg)

/-- The column's precondition bounds it. -/
theorem named_lt_of_column (h : Cert.Pre_KernelIdeal m) (c : Dev nD) : (named m c).toNat < 32 :=
  col_lt _ (congrFun (h c) ValueIdx.ix0)

/-- The fuller precondition bounds it too. -/
theorem named_lt (h : Cert.Pre_KernelIdeal_zero_latents m) (c : Dev nD) : (named m c).toNat < 32 :=
  col_lt _ (congrFun (h c).2.2.2 ValueIdx.ix0)

/-- Its latents are zero. -/
theorem left_zero (h : Cert.Pre_KernelIdeal_zero_latents m) (c : Dev nD) (y : S1048576x32.Idx) :
    (m ((c : Thread nD τ).loc main_arg1) : S1048576x32.Idx → EReal) y = (0 : EReal) := zero_of_oeq _ (congrFun (h c).2.1 y)
theorem right_zero (h : Cert.Pre_KernelIdeal_zero_latents m) (c : Dev nD) (y : S1048576x32.Idx) :
    (m ((c : Thread nD τ).loc main_arg2) : S1048576x32.Idx → EReal) y = (0 : EReal) := zero_of_oeq _ (congrFun (h c).2.2.1 y)

/-- Its logits are numbers float32 can hold, or infinities. -/
theorem logits_held (h : Cert.Pre_KernelIdeal_zero_latents m) (c : Dev nD) (y : S64x32768.Idx) :
    Held ((m ((c : Thread nD τ).loc main_arg0) : S64x32768.Idx → EReal) y) := held_of_or _ (congrFun (h c).1 y)

/-- The kernel's run, its column in range. -/
theorem run_named (hd : ∀ c, (named m c).toNat < 32) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v3) = V4 m (outs m) c main_v3) ∧ r.2.sem = fun _ => 0) :=
  run m ρ (fun c => by rw [colIn_eq]; exact hd c) fun c => rows_ok m c

/-- The kernel ends with its arguments unchanged and every counter at zero. -/
theorem frame_column : Cert.quiescent_KernelIdeal := fun m ρ h => (θ_run _ _ _).mono
  (fun r h => ⟨fun c => ⟨(h.1 c).1, (h.1 c).2.1, (h.1 c).2.2.1, (h.1 c).2.2.2.1⟩, h.2⟩) (run_named m ρ (named_lt_of_column m h))

/-- So it does under the fuller precondition. -/
theorem frame_latents : Cert.quiescent_KernelIdeal_pre_zero_latents := fun m ρ h => (θ_run _ _ _).mono
  (fun r h => ⟨fun c => ⟨(h.1 c).1, (h.1 c).2.1, (h.1 c).2.2.1, (h.1 c).2.2.2.1⟩, h.2⟩) (run_named m ρ (named_lt m h))

end Cert.KernelIdeal.Scatter
-- ==== Proof.RefVals.lean ====
/-
  The reference's run, part 2 of 3: what each stretch of operations leaves in the arrays read later.
-/
module

public import proofs.«01_k».proof.Proof.RefOps

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]
/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_call1_call0_v2, main_call1_call0_v3, main_call1_call0_v4, main_call1_call0_v5, main_call1_call0_v6, main_call1_call0_v7, main_call1_call0_v8, main_call1_call0_c, main_call1_call0_v9, main_call1_call0_v10, main_call1_call0_c_0, main_call1_call0_v11, main_call1_call0_v12, main_call1_call0_v13, main_call1_call0_c_1, main_call1_call0_v14, main_call1_call0_v15, main_call1_call0_v16, main_call1_call0_v17, main_call1_call0_call0_v0, main_call1_call0_call0_c, main_call1_call0_call0_v1, main_call1_call0_call0_v2, main_call1_call0_call0_v3, main_call1_call0_call0_v4, main_call1_call0_call0_v5, main_call1_call0_call0_v6, main_call1_call0_call0_c_0, main_call1_call0_call0_v7, main_call1_call0_call0_v8]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
theorem val0_2_main_arg3 (V0 : Valuation τ sig (Elt F)) : val0_2 V0 (no_index (Proc.devRef .tc main_arg3)) = V0 (Proc.devRef .tc main_arg3) :=
  (val0_2_keep V0 main_arg3 (by decide)).trans (val0_1_main_arg3 V0)
theorem val0_2_main_v0 (V0 : Valuation τ sig (Elt F)) : val0_2 V0 (no_index (Proc.devRef .tc main_v0)) = select (cmpf .oeq (res_main_call0_v4 V0) (broadcastInDim S64x32768 ![] bcast_S_S64x32768 (constant S_ .f32 0xFF800000#32))) (broadcastInDim S64x32768 ![] bcast_S_S64x32768 (constant S_ .f32 0xFF7FFFFF#32)) (res_main_call0_v4 V0) :=
  (val0_2_keep V0 main_v0 (by decide)).trans (val0_1_main_v0 V0)
theorem val0_2_main_call1_call0_v1 (V0 : Valuation τ sig (Elt F)) : val0_2 V0 (no_index (Proc.devRef .tc main_call1_call0_v1)) = res_main_call1_call0_v1 V0 :=
  (val0_2_keep V0 main_call1_call0_v1 (by decide)).trans (val0_1_main_call1_call0_v1 V0)
set_option maxRecDepth 8192 in
set_option maxHeartbeats 2000000 in
theorem val0_2_main_call1_call0_v2 (V0 : Valuation τ sig (Elt F)) : val0_2 V0 (no_index (Proc.devRef .tc main_call1_call0_v2)) = broadcastInDim S1x1 ![] bcast_S_S1x1 (id (constant S_ .f32 0x3F800000#32)) := by
  unfold val0_2
  simp only [ops_part0_1, TRef.binary, TRef.nullary, TRef.reshape, TRef.unary, TRef.toBuf, TRef.ofBuf, cast_eq]
  after_results_simp
  simp only [val0_1_main_call1_call0_v0] <;> rfl
set_option maxRecDepth 8192 in
set_option maxHeartbeats 2000000 in
theorem val0_2_main_call1_call0_v4 (V0 : Valuation τ sig (Elt F)) : val0_2 V0 (no_index (Proc.devRef .tc main_call1_call0_v4)) = res_main_call1_call0_v4 V0 := by
  unfold val0_2
  simp only [ops_part0_1, TRef.binary, TRef.nullary, TRef.reshape, TRef.unary, TRef.toBuf, TRef.ofBuf, cast_eq]
  after_results_simp
  simp only [val0_1_main_v7] <;> rfl
set_option maxRecDepth 8192 in
set_option maxHeartbeats 2000000 in
theorem val0_2_main_call1_call0_v6 (V0 : Valuation τ sig (Elt F)) : val0_2 V0 (no_index (Proc.devRef .tc main_call1_call0_v6)) = res_main_call1_call0_v6 V0 := by
  unfold val0_2
  simp only [ops_part0_1, TRef.binary, TRef.nullary, TRef.reshape, TRef.unary, TRef.toBuf, TRef.ofBuf, cast_eq]
  after_results_simp
  simp only [val0_1_main_v7] <;> rfl
set_option maxRecDepth 8192 in
set_option maxHeartbeats 2000000 in
theorem val0_2_main_call1_call0_call0_v1 (V0 : Valuation τ sig (Elt F)) : val0_2 V0 (no_index (Proc.devRef .tc main_call1_call0_call0_v1)) = res_main_call1_call0_call0_v1 V0 := by
  unfold val0_2
  simp only [ops_part0_1, TRef.binary, TRef.nullary, TRef.reshape, TRef.unary, TRef.toBuf, TRef.ofBuf, cast_eq]
  after_results_simp
  simp only [val0_1_main_v7] <;> rfl
set_option maxRecDepth 8192 in
set_option maxHeartbeats 2000000 in
theorem val0_2_main_call1_call0_call0_v5 (V0 : Valuation τ sig (Elt F)) : val0_2 V0 (no_index (Proc.devRef .tc main_call1_call0_call0_v5)) = res_main_call1_call0_call0_v5 V0 := by
  unfold val0_2
  simp only [ops_part0_1, TRef.binary, TRef.nullary, TRef.reshape, TRef.unary, TRef.toBuf, TRef.ofBuf, cast_eq]
  after_results_simp
  simp only [val0_1_main_v7] <;> rfl
set_option maxRecDepth 8192 in
set_option maxHeartbeats 2000000 in
theorem val0_2_main_call1_call0_call0_v6 (V0 : Valuation τ sig (Elt F)) : val0_2 V0 (no_index (Proc.devRef .tc main_call1_call0_call0_v6)) = res_main_call1_call0_call0_v6 V0 := by
  unfold val0_2
  simp only [ops_part0_1, TRef.binary, TRef.nullary, TRef.reshape, TRef.unary, TRef.toBuf, TRef.ofBuf, cast_eq]
  after_results_simp
  simp only [val0_1_main_v7] <;> rfl
set_option maxRecDepth 8192 in
set_option maxHeartbeats 2000000 in
theorem val0_2_main_call1_call0_call0_v8 (V0 : Valuation τ sig (Elt F)) : val0_2 V0 (no_index (Proc.devRef .tc main_call1_call0_call0_v8)) = Host.shli (res_main_call1_call0_call0_v5 V0) (broadcastInDim S64x32768 ![] bcast_S_S64x32768 (constantI S_ 32 13#32)) := by
  unfold val0_2
  simp only [ops_part0_1, TRef.binary, TRef.nullary, TRef.reshape, TRef.unary, TRef.toBuf, TRef.ofBuf, cast_eq]
  after_results_simp
  simp only [val0_1_main_v7] <;> rfl

/-- The device's buffer contents after @main's first 90 operations. -/
def val0_3 (V0 : Valuation τ sig (Elt F)) : Valuation τ sig (Elt F) := after ops_part0_2 (val0_2 V0)
/-- The buffers that window `ops_part0_2`'s operations write. -/
abbrev ops_part0_2_W : List (Ref sig .tc) := [main_call1_call0_call0_c_1, main_call1_call0_call0_v9, main_call1_call0_call0_v10, main_call1_call0_call0_v11, main_call1_call0_call0_v12, main_call1_call0_call0_v13, main_call1_call0_call0_c_2, main_call1_call0_call0_v14, main_call1_call0_call0_v15, main_call1_call0_call0_c_3, main_call1_call0_call0_v16, main_call1_call0_call0_v17, main_call1_call0_call0_v18, main_call1_call0_call0_v19, main_call1_call0_call0_v20, main_call1_call0_call0_c_4, main_call1_call0_call0_v21, main_call1_call0_call0_v22, main_call1_call0_call0_c_5, main_call1_call0_call0_v23, main_call1_call0_call0_v24, main_call1_call0_call0_v25, main_call1_call0_call0_v26, main_call1_call0_call0_v27, main_call1_call0_call0_c_6, main_call1_call0_call0_v28, main_call1_call0_call0_v29, main_call1_call0_call0_c_7, main_call1_call0_call0_v30, main_call1_call0_call0_v31]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_2` does not write keeps its contents through it. -/
theorem val0_3_keep (V0 : Valuation τ sig (Elt F)) (r : Ref sig .tc) (h : r ∉ ops_part0_2_W) :
    val0_3 V0 (Proc.devRef .tc r) = val0_2 V0 (Proc.devRef .tc r) :=
  after_of_writes_sub ops_part0_2 _ ops_part0_2_writes h
theorem val0_3_main_arg0 (V0 : Valuation τ sig (Elt F)) : val0_3 V0 (no_index (Proc.devRef .tc main_arg0)) = V0 (Proc.devRef .tc main_arg0) :=
  (val0_3_keep V0 main_arg0 (by decide)).trans (val0_2_main_arg0 V0)
theorem val0_3_main_arg1 (V0 : Valuation τ sig (Elt F)) : val0_3 V0 (no_index (Proc.devRef .tc main_arg1)) = V0 (Proc.devRef .tc main_arg1) :=
  (val0_3_keep V0 main_arg1 (by decide)).trans (val0_2_main_arg1 V0)
theorem val0_3_main_arg2 (V0 : Valuation τ sig (Elt F)) : val0_3 V0 (no_index (Proc.devRef .tc main_arg2)) = V0 (Proc.devRef .tc main_arg2) :=
  (val0_3_keep V0 main_arg2 (by decide)).trans (val0_2_main_arg2 V0)
theorem val0_3_main_arg3 (V0 : Valuation τ sig (Elt F)) : val0_3 V0 (no_index (Proc.devRef .tc main_arg3)) = V0 (Proc.devRef .tc main_arg3) :=
  (val0_3_keep V0 main_arg3 (by decide)).trans (val0_2_main_arg3 V0)
theorem val0_3_main_v0 (V0 : Valuation τ sig (Elt F)) : val0_3 V0 (no_index (Proc.devRef .tc main_v0)) = select (cmpf .oeq (res_main_call0_v4 V0) (broadcastInDim S64x32768 ![] bcast_S_S64x32768 (constant S_ .f32 0xFF800000#32))) (broadcastInDim S64x32768 ![] bcast_S_S64x32768 (constant S_ .f32 0xFF7FFFFF#32)) (res_main_call0_v4 V0) :=
  (val0_3_keep V0 main_v0 (by decide)).trans (val0_2_main_v0 V0)
theorem val0_3_main_call1_call0_v1 (V0 : Valuation τ sig (Elt F)) : val0_3 V0 (no_index (Proc.devRef .tc main_call1_call0_v1)) = res_main_call1_call0_v1 V0 :=
  (val0_3_keep V0 main_call1_call0_v1 (by decide)).trans (val0_2_main_call1_call0_v1 V0)
theorem val0_3_main_call1_call0_v2 (V0 : Valuation τ sig (Elt F)) : val0_3 V0 (no_index (Proc.devRef .tc main_call1_call0_v2)) = broadcastInDim S1x1 ![] bcast_S_S1x1 (id (constant S_ .f32 0x3F800000#32)) :=
  (val0_3_keep V0 main_call1_call0_v2 (by decide)).trans (val0_2_main_call1_call0_v2 V0)
theorem val0_3_main_call1_call0_v4 (V0 : Valuation τ sig (Elt F)) : val0_3 V0 (no_index (Proc.devRef .tc main_call1_call0_v4)) = res_main_call1_call0_v4 V0 :=
  (val0_3_keep V0 main_call1_call0_v4 (by decide)).trans (val0_2_main_call1_call0_v4 V0)
theorem val0_3_main_call1_call0_v6 (V0 : Valuation τ sig (Elt F)) : val0_3 V0 (no_index (Proc.devRef .tc main_call1_call0_v6)) = res_main_call1_call0_v6 V0 :=
  (val0_3_keep V0 main_call1_call0_v6 (by decide)).trans (val0_2_main_call1_call0_v6 V0)
theorem val0_3_main_call1_call0_call0_v1 (V0 : Valuation τ sig (Elt F)) : val0_3 V0 (no_index (Proc.devRef .tc main_call1_call0_call0_v1)) = res_main_call1_call0_call0_v1 V0 :=
  (val0_3_keep V0 main_call1_call0_call0_v1 (by decide)).trans (val0_2_main_call1_call0_call0_v1 V0)
set_option maxRecDepth 8192 in
set_option maxHeartbeats 2000000 in
theorem val0_3_main_call1_call0_call0_v27 (V0 : Valuation τ sig (Elt F)) : val0_3 V0 (no_index (Proc.devRef .tc main_call1_call0_call0_v27)) = res_main_call1_call0_call0_v27 V0 := by
  unfold val0_3
  simp only [ops_part0_2, TRef.binary, TRef.nullary, TRef.unary, TRef.toBuf, TRef.ofBuf, cast_eq]
  after_results_simp
  simp only [val0_2_main_call1_call0_call0_v5, val0_2_main_call1_call0_call0_v8, val0_2_main_call1_call0_call0_v6] <;> rfl
set_option maxRecDepth 8192 in
set_option maxHeartbeats 2000000 in
theorem val0_3_main_call1_call0_call0_v29 (V0 : Valuation τ sig (Elt F)) : val0_3 V0 (no_index (Proc.devRef .tc main_call1_call0_call0_v29)) = Host.shli (res_main_call1_call0_call0_v26 V0) (broadcastInDim S64x32768 ![] bcast_S_S64x32768 (constantI S_ 32 6#32)) := by
  unfold val0_3
  simp only [ops_part0_2, TRef.binary, TRef.nullary, TRef.unary, TRef.toBuf, TRef.ofBuf, cast_eq]
  after_results_simp
  simp only [val0_2_main_call1_call0_call0_v5, val0_2_main_call1_call0_call0_v8, val0_2_main_call1_call0_call0_v6] <;> rfl
set_option maxRecDepth 8192 in
set_option maxHeartbeats 2000000 in
theorem val0_3_main_call1_call0_call0_v31 (V0 : Valuation τ sig (Elt F)) : val0_3 V0 (no_index (Proc.devRef .tc main_call1_call0_call0_v31)) = Host.shrui (res_main_call1_call0_call0_v26 V0) (broadcastInDim S64x32768 ![] bcast_S_S64x32768 (constantI S_ 32 26#32)) := by
  unfold val0_3
  simp only [ops_part0_2, TRef.binary, TRef.nullary, TRef.unary, TRef.toBuf, TRef.ofBuf, cast_eq]
  after_results_simp
  simp only [val0_2_main_call1_call0_call0_v5, val0_2_main_call1_call0_call0_v8, val0_2_main_call1_call0_call0_v6] <;> rfl

/-- The device's buffer contents after @main's first 120 operations. -/
def val0_4 (V0 : Valuation τ sig (Elt F)) : Valuation τ sig (Elt F) := after ops_part0_3 (val0_3 V0)
/-- The buffers that window `ops_part0_3`'s operations write. -/
abbrev ops_part0_3_W : List (Ref sig .tc) := [main_call1_call0_call0_v32, main_call1_call0_call0_v33, main_call1_call0_call0_v34, main_call1_call0_call0_v35, main_call1_call0_call0_v36, main_call1_call0_call0_v37, main_call1_call0_call0_c_8, main_call1_call0_call0_v38, main_call1_call0_call0_v39, main_call1_call0_call0_v40, main_call1_call0_call0_c_9, main_call1_call0_call0_v41, main_call1_call0_call0_v42, main_call1_call0_call0_c_10, main_call1_call0_call0_v43, main_call1_call0_call0_v44, main_call1_call0_call0_v45, main_call1_call0_call0_v46, main_call1_call0_call0_v47, main_call1_call0_call0_c_11, main_call1_call0_call0_v48, main_call1_call0_call0_v49, main_call1_call0_call0_c_12, main_call1_call0_call0_v50, main_call1_call0_call0_v51, main_call1_call0_call0_v52, main_call1_call0_call0_v53, main_call1_call0_call0_v54, main_call1_call0_call0_c_13, main_call1_call0_call0_v55]
set_option maxRecDepth 8192 in
theorem ops_part0_3_writes : (ops_part0_3 : List (HloOp τ sig (Elt F))).Forall fun op => op.writes ⊆ (ops_part0_3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_3` does not write keeps its contents through it. -/
theorem val0_4_keep (V0 : Valuation τ sig (Elt F)) (r : Ref sig .tc) (h : r ∉ ops_part0_3_W) :
    val0_4 V0 (Proc.devRef .tc r) = val0_3 V0 (Proc.devRef .tc r) :=
  after_of_writes_sub ops_part0_3 _ ops_part0_3_writes h
theorem val0_4_main_arg0 (V0 : Valuation τ sig (Elt F)) : val0_4 V0 (no_index (Proc.devRef .tc main_arg0)) = V0 (Proc.devRef .tc main_arg0) :=
  (val0_4_keep V0 main_arg0 (by decide)).trans (val0_3_main_arg0 V0)
theorem val0_4_main_arg1 (V0 : Valuation τ sig (Elt F)) : val0_4 V0 (no_index (Proc.devRef .tc main_arg1)) = V0 (Proc.devRef .tc main_arg1) :=
  (val0_4_keep V0 main_arg1 (by decide)).trans (val0_3_main_arg1 V0)
theorem val0_4_main_arg2 (V0 : Valuation τ sig (Elt F)) : val0_4 V0 (no_index (Proc.devRef .tc main_arg2)) = V0 (Proc.devRef .tc main_arg2) :=
  (val0_4_keep V0 main_arg2 (by decide)).trans (val0_3_main_arg2 V0)
theorem val0_4_main_arg3 (V0 : Valuation τ sig (Elt F)) : val0_4 V0 (no_index (Proc.devRef .tc main_arg3)) = V0 (Proc.devRef .tc main_arg3) :=
  (val0_4_keep V0 main_arg3 (by decide)).trans (val0_3_main_arg3 V0)
theorem val0_4_main_v0 (V0 : Valuation τ sig (Elt F)) : val0_4 V0 (no_index (Proc.devRef .tc main_v0)) = select (cmpf .oeq (res_main_call0_v4 V0) (broadcastInDim S64x32768 ![] bcast_S_S64x32768 (constant S_ .f32 0xFF800000#32))) (broadcastInDim S64x32768 ![] bcast_S_S64x32768 (constant S_ .f32 0xFF7FFFFF#32)) (res_main_call0_v4 V0) :=
  (val0_4_keep V0 main_v0 (by decide)).trans (val0_3_main_v0 V0)
theorem val0_4_main_call1_call0_v1 (V0 : Valuation τ sig (Elt F)) : val0_4 V0 (no_index (Proc.devRef .tc main_call1_call0_v1)) = res_main_call1_call0_v1 V0 :=
  (val0_4_keep V0 main_call1_call0_v1 (by decide)).trans (val0_3_main_call1_call0_v1 V0)
theorem val0_4_main_call1_call0_v2 (V0 : Valuation τ sig (Elt F)) : val0_4 V0 (no_index (Proc.devRef .tc main_call1_call0_v2)) = broadcastInDim S1x1 ![] bcast_S_S1x1 (id (constant S_ .f32 0x3F800000#32)) :=
  (val0_4_keep V0 main_call1_call0_v2 (by decide)).trans (val0_3_main_call1_call0_v2 V0)
theorem val0_4_main_call1_call0_v4 (V0 : Valuation τ sig (Elt F)) : val0_4 V0 (no_index (Proc.devRef .tc main_call1_call0_v4)) = res_main_call1_call0_v4 V0 :=
  (val0_4_keep V0 main_call1_call0_v4 (by decide)).trans (val0_3_main_call1_call0_v4 V0)
theorem val0_4_main_call1_call0_v6 (V0 : Valuation τ sig (Elt F)) : val0_4 V0 (no_index (Proc.devRef .tc main_call1_call0_v6)) = res_main_call1_call0_v6 V0 :=
  (val0_4_keep V0 main_call1_call0_v6 (by decide)).trans (val0_3_main_call1_call0_v6 V0)
theorem val0_4_main_call1_call0_call0_v1 (V0 : Valuation τ sig (Elt F)) : val0_4 V0 (no_index (Proc.devRef .tc main_call1_call0_call0_v1)) = res_main_call1_call0_call0_v1 V0 :=
  (val0_4_keep V0 main_call1_call0_call0_v1 (by decide)).trans (val0_3_main_call1_call0_call0_v1 V0)
set_option maxRecDepth 8192 in
set_option maxHeartbeats 2000000 in
theorem val0_4_main_call1_call0_call0_v53 (V0 : Valuation τ sig (Elt F)) : val0_4 V0 (no_index (Proc.devRef .tc main_call1_call0_call0_v53)) = res_main_call1_call0_call0_v53 V0 := by
  unfold val0_4
  simp only [ops_part0_3, TRef.binary, TRef.nullary, TRef.unary, TRef.toBuf, TRef.ofBuf, cast_eq]
  after_results_simp
  simp only [val0_3_main_call1_call0_call0_v1, val0_3_main_call1_call0_call0_v31, val0_3_main_call1_call0_call0_v29, val0_3_main_call1_call0_call0_v27, val0_3_main_call1_call0_v6] <;> rfl
set_option maxRecDepth 8192 in
set_option maxHeartbeats 2000000 in
theorem val0_4_main_call1_call0_call0_v54 (V0 : Valuation τ sig (Elt F)) : val0_4 V0 (no_index (Proc.devRef .tc main_call1_call0_call0_v54)) = res_main_call1_call0_call0_v54 V0 := by
  unfold val0_4
  simp only [ops_part0_3, TRef.binary, TRef.nullary, TRef.unary, TRef.toBuf, TRef.ofBuf, cast_eq]
  after_results_simp
  simp only [val0_3_main_call1_call0_call0_v1, val0_3_main_call1_call0_call0_v31, val0_3_main_call1_call0_call0_v29, val0_3_main_call1_call0_call0_v27, val0_3_main_call1_call0_v6] <;> rfl
set_option maxRecDepth 8192 in
set_option maxHeartbeats 2000000 in
theorem val0_4_main_call1_call0_call0_v55 (V0 : Valuation τ sig (Elt F)) : val0_4 V0 (no_index (Proc.devRef .tc main_call1_call0_call0_v55)) = broadcastInDim S64x32768 ![] bcast_S_S64x32768 (constantI S_ 32 16#32) := by
  unfold val0_4
  simp only [ops_part0_3, TRef.binary, TRef.nullary, TRef.unary, TRef.toBuf, TRef.ofBuf, cast_eq]
  after_results_simp
  all_goals rfl

/-- The device's buffer contents after @main's first 150 operations. -/
def val0_5 (V0 : Valuation τ sig (Elt F)) : Valuation τ sig (Elt F) := after ops_part0_4 (val0_4 V0)
/-- The buffers that window `ops_part0_4`'s operations write. -/
abbrev ops_part0_4_W : List (Ref sig .tc) := [main_call1_call0_call0_v56, main_call1_call0_call0_c_14, main_call1_call0_call0_v57, main_call1_call0_call0_v58, main_call1_call0_call0_v59, main_call1_call0_call0_v60, main_call1_call0_call0_v61, main_call1_call0_call0_c_15, main_call1_call0_call0_v62, main_call1_call0_call0_v63, main_call1_call0_call0_c_16, main_call1_call0_call0_v64, main_call1_call0_call0_v65, main_call1_call0_call0_v66, main_call1_call0_call0_v67, main_call1_call0_call0_v68, main_call1_call0_call0_v69, main_call1_call0_call0_v70, main_call1_call0_call0_v71, main_call1_call0_call0_c_17, main_call1_call0_call0_v72, main_call1_call0_call0_v73, main_call1_call0_call0_v74, main_call1_call0_call0_c_18, main_call1_call0_call0_v75, main_call1_call0_call0_v76, main_call1_call0_call0_c_19, main_call1_call0_call0_v77, main_call1_call0_call0_v78, main_call1_call0_call0_v79]
set_option maxRecDepth 8192 in
theorem ops_part0_4_writes : (ops_part0_4 : List (HloOp τ sig (Elt F))).Forall fun op => op.writes ⊆ (ops_part0_4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_4` does not write keeps its contents through it. -/
theorem val0_5_keep (V0 : Valuation τ sig (Elt F)) (r : Ref sig .tc) (h : r ∉ ops_part0_4_W) :
    val0_5 V0 (Proc.devRef .tc r) = val0_4 V0 (Proc.devRef .tc r) :=
  after_of_writes_sub ops_part0_4 _ ops_part0_4_writes h
theorem val0_5_main_arg0 (V0 : Valuation τ sig (Elt F)) : val0_5 V0 (no_index (Proc.devRef .tc main_arg0)) = V0 (Proc.devRef .tc main_arg0) :=
  (val0_5_keep V0 main_arg0 (by decide)).trans (val0_4_main_arg0 V0)
theorem val0_5_main_arg1 (V0 : Valuation τ sig (Elt F)) : val0_5 V0 (no_index (Proc.devRef .tc main_arg1)) = V0 (Proc.devRef .tc main_arg1) :=
  (val0_5_keep V0 main_arg1 (by decide)).trans (val0_4_main_arg1 V0)
theorem val0_5_main_arg2 (V0 : Valuation τ sig (Elt F)) : val0_5 V0 (no_index (Proc.devRef .tc main_arg2)) = V0 (Proc.devRef .tc main_arg2) :=
  (val0_5_keep V0 main_arg2 (by decide)).trans (val0_4_main_arg2 V0)
theorem val0_5_main_arg3 (V0 : Valuation τ sig (Elt F)) : val0_5 V0 (no_index (Proc.devRef .tc main_arg3)) = V0 (Proc.devRef .tc main_arg3) :=
  (val0_5_keep V0 main_arg3 (by decide)).trans (val0_4_main_arg3 V0)
theorem val0_5_main_v0 (V0 : Valuation τ sig (Elt F)) : val0_5 V0 (no_index (Proc.devRef .tc main_v0)) = select (cmpf .oeq (res_main_call0_v4 V0) (broadcastInDim S64x32768 ![] bcast_S_S64x32768 (constant S_ .f32 0xFF800000#32))) (broadcastInDim S64x32768 ![] bcast_S_S64x32768 (constant S_ .f32 0xFF7FFFFF#32)) (res_main_call0_v4 V0) :=
  (val0_5_keep V0 main_v0 (by decide)).trans (val0_4_main_v0 V0)
theorem val0_5_main_call1_call0_v1 (V0 : Valuation τ sig (Elt F)) : val0_5 V0 (no_index (Proc.devRef .tc main_call1_call0_v1)) = res_main_call1_call0_v1 V0 :=
  (val0_5_keep V0 main_call1_call0_v1 (by decide)).trans (val0_4_main_call1_call0_v1 V0)
theorem val0_5_main_call1_call0_v2 (V0 : Valuation τ sig (Elt F)) : val0_5 V0 (no_index (Proc.devRef .tc main_call1_call0_v2)) = broadcastInDim S1x1 ![] bcast_S_S1x1 (id (constant S_ .f32 0x3F800000#32)) :=
  (val0_5_keep V0 main_call1_call0_v2 (by decide)).trans (val0_4_main_call1_call0_v2 V0)
theorem val0_5_main_call1_call0_v4 (V0 : Valuation τ sig (Elt F)) : val0_5 V0 (no_index (Proc.devRef .tc main_call1_call0_v4)) = res_main_call1_call0_v4 V0 :=
  (val0_5_keep V0 main_call1_call0_v4 (by decide)).trans (val0_4_main_call1_call0_v4 V0)
theorem val0_5_main_call1_call0_v6 (V0 : Valuation τ sig (Elt F)) : val0_5 V0 (no_index (Proc.devRef .tc main_call1_call0_v6)) = res_main_call1_call0_v6 V0 :=
  (val0_5_keep V0 main_call1_call0_v6 (by decide)).trans (val0_4_main_call1_call0_v6 V0)
theorem val0_5_main_call1_call0_call0_v1 (V0 : Valuation τ sig (Elt F)) : val0_5 V0 (no_index (Proc.devRef .tc main_call1_call0_call0_v1)) = res_main_call1_call0_call0_v1 V0 :=
  (val0_5_keep V0 main_call1_call0_call0_v1 (by decide)).trans (val0_4_main_call1_call0_call0_v1 V0)
set_option maxRecDepth 8192 in
set_option maxHeartbeats 2000000 in
theorem val0_5_main_call1_call0_call0_v74 (V0 : Valuation τ sig (Elt F)) : val0_5 V0 (no_index (Proc.devRef .tc main_call1_call0_call0_v74)) = res_main_call1_call0_call0_v74 V0 := by
  unfold val0_5
  simp only [ops_part0_4, TRef.binary, TRef.nullary, TRef.unary, TRef.toBuf, TRef.ofBuf, cast_eq]
  after_results_simp
  simp only [val0_4_main_call1_call0_v4, val0_4_main_call1_call0_call0_v53, val0_4_main_call1_call0_call0_v55, val0_4_main_call1_call0_call0_v54, val0_4_main_call1_call0_call0_v1] <;> rfl
set_option maxRecDepth 8192 in
set_option maxHeartbeats 2000000 in
theorem val0_5_main_call1_call0_call0_v79 (V0 : Valuation τ sig (Elt F)) : val0_5 V0 (no_index (Proc.devRef .tc main_call1_call0_call0_v79)) = ori (Host.shli (res_main_call1_call0_call0_v73 V0) (broadcastInDim S64x32768 ![] bcast_S_S64x32768 (constantI S_ 32 13#32))) (Host.shrui (res_main_call1_call0_call0_v73 V0) (broadcastInDim S64x32768 ![] bcast_S_S64x32768 (constantI S_ 32 19#32))) := by
  unfold val0_5
  simp only [ops_part0_4, TRef.binary, TRef.nullary, TRef.unary, TRef.toBuf, TRef.ofBuf, cast_eq]
  after_results_simp
  simp only [val0_4_main_call1_call0_v4, val0_4_main_call1_call0_call0_v53, val0_4_main_call1_call0_call0_v55, val0_4_main_call1_call0_call0_v54] <;> rfl

/-- The device's buffer contents after @main's first 180 operations. -/
def val0_6 (V0 : Valuation τ sig (Elt F)) : Valuation τ sig (Elt F) := after ops_part0_5 (val0_5 V0)
/-- The buffers that window `ops_part0_5`'s operations write. -/
abbrev ops_part0_5_W : List (Ref sig .tc) := [main_call1_call0_call0_v80, main_call1_call0_call0_v81, main_call1_call0_call0_c_20, main_call1_call0_call0_v82, main_call1_call0_call0_v83, main_call1_call0_call0_c_21, main_call1_call0_call0_v84, main_call1_call0_call0_v85, main_call1_call0_call0_v86, main_call1_call0_call0_v87, main_call1_call0_call0_v88, main_call1_call0_call0_c_22, main_call1_call0_call0_v89, main_call1_call0_call0_v90, main_call1_call0_call0_c_23, main_call1_call0_call0_v91, main_call1_call0_call0_v92, main_call1_call0_call0_v93, main_call1_call0_call0_v94, main_call1_call0_call0_v95, main_call1_call0_call0_c_24, main_call1_call0_call0_v96, main_call1_call0_call0_v97, main_call1_call0_call0_c_25, main_call1_call0_call0_v98, main_call1_call0_call0_v99, main_call1_call0_call0_v100, main_call1_call0_call0_v101, main_call1_call0_call0_v102, main_call1_call0_call0_v103]
set_option maxRecDepth 8192 in
theorem ops_part0_5_writes : (ops_part0_5 : List (HloOp τ sig (Elt F))).Forall fun op => op.writes ⊆ (ops_part0_5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_5` does not write keeps its contents through it. -/
theorem val0_6_keep (V0 : Valuation τ sig (Elt F)) (r : Ref sig .tc) (h : r ∉ ops_part0_5_W) :
    val0_6 V0 (Proc.devRef .tc r) = val0_5 V0 (Proc.devRef .tc r) :=
  after_of_writes_sub ops_part0_5 _ ops_part0_5_writes h
theorem val0_6_main_arg0 (V0 : Valuation τ sig (Elt F)) : val0_6 V0 (no_index (Proc.devRef .tc main_arg0)) = V0 (Proc.devRef .tc main_arg0) :=
  (val0_6_keep V0 main_arg0 (by decide)).trans (val0_5_main_arg0 V0)
theorem val0_6_main_arg1 (V0 : Valuation τ sig (Elt F)) : val0_6 V0 (no_index (Proc.devRef .tc main_arg1)) = V0 (Proc.devRef .tc main_arg1) :=
  (val0_6_keep V0 main_arg1 (by decide)).trans (val0_5_main_arg1 V0)
theorem val0_6_main_arg2 (V0 : Valuation τ sig (Elt F)) : val0_6 V0 (no_index (Proc.devRef .tc main_arg2)) = V0 (Proc.devRef .tc main_arg2) :=
  (val0_6_keep V0 main_arg2 (by decide)).trans (val0_5_main_arg2 V0)
theorem val0_6_main_arg3 (V0 : Valuation τ sig (Elt F)) : val0_6 V0 (no_index (Proc.devRef .tc main_arg3)) = V0 (Proc.devRef .tc main_arg3) :=
  (val0_6_keep V0 main_arg3 (by decide)).trans (val0_5_main_arg3 V0)
theorem val0_6_main_v0 (V0 : Valuation τ sig (Elt F)) : val0_6 V0 (no_index (Proc.devRef .tc main_v0)) = select (cmpf .oeq (res_main_call0_v4 V0) (broadcastInDim S64x32768 ![] bcast_S_S64x32768 (constant S_ .f32 0xFF800000#32))) (broadcastInDim S64x32768 ![] bcast_S_S64x32768 (constant S_ .f32 0xFF7FFFFF#32)) (res_main_call0_v4 V0) :=
  (val0_6_keep V0 main_v0 (by decide)).trans (val0_5_main_v0 V0)
theorem val0_6_main_call1_call0_v1 (V0 : Valuation τ sig (Elt F)) : val0_6 V0 (no_index (Proc.devRef .tc main_call1_call0_v1)) = res_main_call1_call0_v1 V0 :=
  (val0_6_keep V0 main_call1_call0_v1 (by decide)).trans (val0_5_main_call1_call0_v1 V0)
theorem val0_6_main_call1_call0_v2 (V0 : Valuation τ sig (Elt F)) : val0_6 V0 (no_index (Proc.devRef .tc main_call1_call0_v2)) = broadcastInDim S1x1 ![] bcast_S_S1x1 (id (constant S_ .f32 0x3F800000#32)) :=
  (val0_6_keep V0 main_call1_call0_v2 (by decide)).trans (val0_5_main_call1_call0_v2 V0)
theorem val0_6_main_call1_call0_v4 (V0 : Valuation τ sig (Elt F)) : val0_6 V0 (no_index (Proc.devRef .tc main_call1_call0_v4)) = res_main_call1_call0_v4 V0 :=
  (val0_6_keep V0 main_call1_call0_v4 (by decide)).trans (val0_5_main_call1_call0_v4 V0)
theorem val0_6_main_call1_call0_v6 (V0 : Valuation τ sig (Elt F)) : val0_6 V0 (no_index (Proc.devRef .tc main_call1_call0_v6)) = res_main_call1_call0_v6 V0 :=
  (val0_6_keep V0 main_call1_call0_v6 (by decide)).trans (val0_5_main_call1_call0_v6 V0)
theorem val0_6_main_call1_call0_call0_v1 (V0 : Valuation τ sig (Elt F)) : val0_6 V0 (no_index (Proc.devRef .tc main_call1_call0_call0_v1)) = res_main_call1_call0_call0_v1 V0 :=
  (val0_6_keep V0 main_call1_call0_call0_v1 (by decide)).trans (val0_5_main_call1_call0_call0_v1 V0)
set_option maxRecDepth 8192 in
set_option maxHeartbeats 2000000 in
theorem val0_6_main_call1_call0_call0_v101 (V0 : Valuation τ sig (Elt F)) : val0_6 V0 (no_index (Proc.devRef .tc main_call1_call0_call0_v101)) = xori (res_main_call1_call0_call0_v95 V0) (ori (Host.shli (res_main_call1_call0_call0_v94 V0) (broadcastInDim S64x32768 ![] bcast_S_S64x32768 (constantI S_ 32 6#32))) (Host.shrui (res_main_call1_call0_call0_v94 V0) (broadcastInDim S64x32768 ![] bcast_S_S64x32768 (constantI S_ 32 26#32)))) := by
  unfold val0_6
  simp only [ops_part0_5, TRef.binary, TRef.nullary, TRef.unary, TRef.toBuf, TRef.ofBuf, cast_eq]
  after_results_simp
  simp only [val0_5_main_call1_call0_call0_v79, val0_5_main_call1_call0_call0_v74] <;> rfl
set_option maxRecDepth 8192 in
set_option maxHeartbeats 2000000 in
theorem val0_6_main_call1_call0_call0_v103 (V0 : Valuation τ sig (Elt F)) : val0_6 V0 (no_index (Proc.devRef .tc main_call1_call0_call0_v103)) = addi (res_main_call1_call0_call0_v95 V0) (broadcastInDim S64x32768 ![] bcast_S_S64x32768 (res_main_call1_call0_v4 V0)) := by
  unfold val0_6
  simp only [ops_part0_5, TRef.binary, TRef.nullary, TRef.unary, TRef.toBuf, TRef.ofBuf, cast_eq]
  after_results_simp
  simp only [val0_5_main_call1_call0_v4, val0_5_main_call1_call0_call0_v79, val0_5_main_call1_call0_call0_v74] <;> rfl

/-- The device's buffer contents after @main's first 210 operations. -/
def val0_7 (V0 : Valuation τ sig (Elt F)) : Valuation τ sig (Elt F) := after ops_part0_6 (val0_6 V0)
/-- The buffers that window `ops_part0_6`'s operations write. -/
abbrev ops_part0_6_W : List (Ref sig .tc) := [main_call1_call0_call0_v104, main_call1_call0_call0_v105, main_call1_call0_call0_c_26, main_call1_call0_call0_v106, main_call1_call0_call0_v107, main_call1_call0_call0_v108, main_call1_call0_call0_c_27, main_call1_call0_call0_v109, main_call1_call0_call0_v110, main_call1_call0_call0_c_28, main_call1_call0_call0_v111, main_call1_call0_call0_v112, main_call1_call0_call0_v113, main_call1_call0_call0_v114, main_call1_call0_call0_v115, main_call1_call0_call0_c_29, main_call1_call0_call0_v116, main_call1_call0_call0_v117, main_call1_call0_call0_c_30, main_call1_call0_call0_v118, main_call1_call0_call0_v119, main_call1_call0_call0_v120, main_call1_call0_call0_v121, main_call1_call0_call0_v122, main_call1_call0_call0_c_31, main_call1_call0_call0_v123, main_call1_call0_call0_v124, main_call1_call0_call0_c_32, main_call1_call0_call0_v125, main_call1_call0_call0_v126]
set_option maxRecDepth 8192 in
theorem ops_part0_6_writes : (ops_part0_6 : List (HloOp τ sig (Elt F))).Forall fun op => op.writes ⊆ (ops_part0_6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_6` does not write keeps its contents through it. -/
theorem val0_7_keep (V0 : Valuation τ sig (Elt F)) (r : Ref sig .tc) (h : r ∉ ops_part0_6_W) :
    val0_7 V0 (Proc.devRef .tc r) = val0_6 V0 (Proc.devRef .tc r) :=
  after_of_writes_sub ops_part0_6 _ ops_part0_6_writes h
theorem val0_7_main_arg0 (V0 : Valuation τ sig (Elt F)) : val0_7 V0 (no_index (Proc.devRef .tc main_arg0)) = V0 (Proc.devRef .tc main_arg0) :=
  (val0_7_keep V0 main_arg0 (by decide)).trans (val0_6_main_arg0 V0)
theorem val0_7_main_arg1 (V0 : Valuation τ sig (Elt F)) : val0_7 V0 (no_index (Proc.devRef .tc main_arg1)) = V0 (Proc.devRef .tc main_arg1) :=
  (val0_7_keep V0 main_arg1 (by decide)).trans (val0_6_main_arg1 V0)
theorem val0_7_main_arg2 (V0 : Valuation τ sig (Elt F)) : val0_7 V0 (no_index (Proc.devRef .tc main_arg2)) = V0 (Proc.devRef .tc main_arg2) :=
  (val0_7_keep V0 main_arg2 (by decide)).trans (val0_6_main_arg2 V0)
theorem val0_7_main_arg3 (V0 : Valuation τ sig (Elt F)) : val0_7 V0 (no_index (Proc.devRef .tc main_arg3)) = V0 (Proc.devRef .tc main_arg3) :=
  (val0_7_keep V0 main_arg3 (by decide)).trans (val0_6_main_arg3 V0)
theorem val0_7_main_v0 (V0 : Valuation τ sig (Elt F)) : val0_7 V0 (no_index (Proc.devRef .tc main_v0)) = select (cmpf .oeq (res_main_call0_v4 V0) (broadcastInDim S64x32768 ![] bcast_S_S64x32768 (constant S_ .f32 0xFF800000#32))) (broadcastInDim S64x32768 ![] bcast_S_S64x32768 (constant S_ .f32 0xFF7FFFFF#32)) (res_main_call0_v4 V0) :=
  (val0_7_keep V0 main_v0 (by decide)).trans (val0_6_main_v0 V0)
theorem val0_7_main_call1_call0_v1 (V0 : Valuation τ sig (Elt F)) : val0_7 V0 (no_index (Proc.devRef .tc main_call1_call0_v1)) = res_main_call1_call0_v1 V0 :=
  (val0_7_keep V0 main_call1_call0_v1 (by decide)).trans (val0_6_main_call1_call0_v1 V0)
theorem val0_7_main_call1_call0_v2 (V0 : Valuation τ sig (Elt F)) : val0_7 V0 (no_index (Proc.devRef .tc main_call1_call0_v2)) = broadcastInDim S1x1 ![] bcast_S_S1x1 (id (constant S_ .f32 0x3F800000#32)) :=
  (val0_7_keep V0 main_call1_call0_v2 (by decide)).trans (val0_6_main_call1_call0_v2 V0)
theorem val0_7_main_call1_call0_v4 (V0 : Valuation τ sig (Elt F)) : val0_7 V0 (no_index (Proc.devRef .tc main_call1_call0_v4)) = res_main_call1_call0_v4 V0 :=
  (val0_7_keep V0 main_call1_call0_v4 (by decide)).trans (val0_6_main_call1_call0_v4 V0)
theorem val0_7_main_call1_call0_v6 (V0 : Valuation τ sig (Elt F)) : val0_7 V0 (no_index (Proc.devRef .tc main_call1_call0_v6)) = res_main_call1_call0_v6 V0 :=
  (val0_7_keep V0 main_call1_call0_v6 (by decide)).trans (val0_6_main_call1_call0_v6 V0)
theorem val0_7_main_call1_call0_call0_v1 (V0 : Valuation τ sig (Elt F)) : val0_7 V0 (no_index (Proc.devRef .tc main_call1_call0_call0_v1)) = res_main_call1_call0_call0_v1 V0 :=
  (val0_7_keep V0 main_call1_call0_call0_v1 (by decide)).trans (val0_6_main_call1_call0_call0_v1 V0)
set_option maxRecDepth 8192 in
set_option maxHeartbeats 2000000 in
theorem val0_7_main_call1_call0_call0_v122 (V0 : Valuation τ sig (Elt F)) : val0_7 V0 (no_index (Proc.devRef .tc main_call1_call0_call0_v122)) = res_main_call1_call0_call0_v122 V0 := by
  unfold val0_7
  simp only [ops_part0_6, TRef.binary, TRef.nullary, TRef.unary, TRef.toBuf, TRef.ofBuf, cast_eq]
  after_results_simp
  simp only [val0_6_main_call1_call0_v6, val0_6_main_call1_call0_call0_v101, val0_6_main_call1_call0_call0_v103] <;> rfl
set_option maxRecDepth 8192 in
set_option maxHeartbeats 2000000 in
theorem val0_7_main_call1_call0_call0_v124 (V0 : Valuation τ sig (Elt F)) : val0_7 V0 (no_index (Proc.devRef .tc main_call1_call0_call0_v124)) = Host.shli (res_main_call1_call0_call0_v121 V0) (broadcastInDim S64x32768 ![] bcast_S_S64x32768 (constantI S_ 32 16#32)) := by
  unfold val0_7
  simp only [ops_part0_6, TRef.binary, TRef.nullary, TRef.unary, TRef.toBuf, TRef.ofBuf, cast_eq]
  after_results_simp
  simp only [val0_6_main_call1_call0_v6, val0_6_main_call1_call0_call0_v101, val0_6_main_call1_call0_call0_v103] <;> rfl
set_option maxRecDepth 8192 in
set_option maxHeartbeats 2000000 in
theorem val0_7_main_call1_call0_call0_v126 (V0 : Valuation τ sig (Elt F)) : val0_7 V0 (no_index (Proc.devRef .tc main_call1_call0_call0_v126)) = Host.shrui (res_main_call1_call0_call0_v121 V0) (broadcastInDim S64x32768 ![] bcast_S_S64x32768 (constantI S_ 32 16#32)) := by
  unfold val0_7
  simp only [ops_part0_6, TRef.binary, TRef.nullary, TRef.unary, TRef.toBuf, TRef.ofBuf, cast_eq]
  after_results_simp
  simp only [val0_6_main_call1_call0_v6, val0_6_main_call1_call0_call0_v101, val0_6_main_call1_call0_call0_v103] <;> rfl

/-- The device's buffer contents after @main's first 240 operations. -/
def val0_8 (V0 : Valuation τ sig (Elt F)) : Valuation τ sig (Elt F) := after ops_part0_7 (val0_7 V0)
/-- The buffers that window `ops_part0_7`'s operations write. -/
abbrev ops_part0_7_W : List (Ref sig .tc) := [main_call1_call0_call0_v127, main_call1_call0_call0_v128, main_call1_call0_call0_v129, main_call1_call0_call0_c_33, main_call1_call0_call0_v130, main_call1_call0_call0_v131, main_call1_call0_call0_c_34, main_call1_call0_call0_v132, main_call1_call0_call0_v133, main_call1_call0_call0_v134, main_call1_call0_call0_v135, main_call1_call0_call0_v136, main_call1_call0_call0_v137, main_call1_call0_call0_v138, main_call1_call0_call0_v139, main_call1_call0_call0_c_35, main_call1_call0_call0_v140, main_call1_call0_call0_v141, main_call1_call0_call0_v142, main_call1_call0_call0_c_36, main_call1_call0_call0_v143, main_call1_call0_call0_v144, main_call1_call0_call0_c_37, main_call1_call0_call0_v145, main_call1_call0_call0_v146, main_call1_call0_call0_v147, main_call1_call0_call0_v148, main_call1_call0_call0_v149, main_call1_call0_call0_c_38, main_call1_call0_call0_v150]
set_option maxRecDepth 8192 in
theorem ops_part0_7_writes : (ops_part0_7 : List (HloOp τ sig (Elt F))).Forall fun op => op.writes ⊆ (ops_part0_7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_7` does not write keeps its contents through it. -/
theorem val0_8_keep (V0 : Valuation τ sig (Elt F)) (r : Ref sig .tc) (h : r ∉ ops_part0_7_W) :
    val0_8 V0 (Proc.devRef .tc r) = val0_7 V0 (Proc.devRef .tc r) :=
  after_of_writes_sub ops_part0_7 _ ops_part0_7_writes h
theorem val0_8_main_arg0 (V0 : Valuation τ sig (Elt F)) : val0_8 V0 (no_index (Proc.devRef .tc main_arg0)) = V0 (Proc.devRef .tc main_arg0) :=
  (val0_8_keep V0 main_arg0 (by decide)).trans (val0_7_main_arg0 V0)
theorem val0_8_main_arg1 (V0 : Valuation τ sig (Elt F)) : val0_8 V0 (no_index (Proc.devRef .tc main_arg1)) = V0 (Proc.devRef .tc main_arg1) :=
  (val0_8_keep V0 main_arg1 (by decide)).trans (val0_7_main_arg1 V0)
theorem val0_8_main_arg2 (V0 : Valuation τ sig (Elt F)) : val0_8 V0 (no_index (Proc.devRef .tc main_arg2)) = V0 (Proc.devRef .tc main_arg2) :=
  (val0_8_keep V0 main_arg2 (by decide)).trans (val0_7_main_arg2 V0)
theorem val0_8_main_arg3 (V0 : Valuation τ sig (Elt F)) : val0_8 V0 (no_index (Proc.devRef .tc main_arg3)) = V0 (Proc.devRef .tc main_arg3) :=
  (val0_8_keep V0 main_arg3 (by decide)).trans (val0_7_main_arg3 V0)
theorem val0_8_main_v0 (V0 : Valuation τ sig (Elt F)) : val0_8 V0 (no_index (Proc.devRef .tc main_v0)) = select (cmpf .oeq (res_main_call0_v4 V0) (broadcastInDim S64x32768 ![] bcast_S_S64x32768 (constant S_ .f32 0xFF800000#32))) (broadcastInDim S64x32768 ![] bcast_S_S64x32768 (constant S_ .f32 0xFF7FFFFF#32)) (res_main_call0_v4 V0) :=
  (val0_8_keep V0 main_v0 (by decide)).trans (val0_7_main_v0 V0)
theorem val0_8_main_call1_call0_v1 (V0 : Valuation τ sig (Elt F)) : val0_8 V0 (no_index (Proc.devRef .tc main_call1_call0_v1)) = res_main_call1_call0_v1 V0 :=
  (val0_8_keep V0 main_call1_call0_v1 (by decide)).trans (val0_7_main_call1_call0_v1 V0)
theorem val0_8_main_call1_call0_v2 (V0 : Valuation τ sig (Elt F)) : val0_8 V0 (no_index (Proc.devRef .tc main_call1_call0_v2)) = broadcastInDim S1x1 ![] bcast_S_S1x1 (id (constant S_ .f32 0x3F800000#32)) :=
  (val0_8_keep V0 main_call1_call0_v2 (by decide)).trans (val0_7_main_call1_call0_v2 V0)
theorem val0_8_main_call1_call0_v4 (V0 : Valuation τ sig (Elt F)) : val0_8 V0 (no_index (Proc.devRef .tc main_call1_call0_v4)) = res_main_call1_call0_v4 V0 :=
  (val0_8_keep V0 main_call1_call0_v4 (by decide)).trans (val0_7_main_call1_call0_v4 V0)
theorem val0_8_main_call1_call0_call0_v1 (V0 : Valuation τ sig (Elt F)) : val0_8 V0 (no_index (Proc.devRef .tc main_call1_call0_call0_v1)) = res_main_call1_call0_call0_v1 V0 :=
  (val0_8_keep V0 main_call1_call0_call0_v1 (by decide)).trans (val0_7_main_call1_call0_call0_v1 V0)
set_option maxRecDepth 8192 in
set_option maxHeartbeats 2000000 in
theorem val0_8_main_call1_call0_call0_v148 (V0 : Valuation τ sig (Elt F)) : val0_8 V0 (no_index (Proc.devRef .tc main_call1_call0_call0_v148)) = res_main_call1_call0_call0_v148 V0 := by
  unfold val0_8
  simp only [ops_part0_7, TRef.binary, TRef.nullary, TRef.unary, TRef.toBuf, TRef.ofBuf, cast_eq]
  after_results_simp
  simp only [val0_7_main_call1_call0_call0_v1, val0_7_main_call1_call0_call0_v126, val0_7_main_call1_call0_call0_v124, val0_7_main_call1_call0_call0_v122, val0_7_main_call1_call0_v6] <;> rfl
set_option maxRecDepth 8192 in
set_option maxHeartbeats 2000000 in
theorem val0_8_main_call1_call0_call0_v149 (V0 : Valuation τ sig (Elt F)) : val0_8 V0 (no_index (Proc.devRef .tc main_call1_call0_call0_v149)) = res_main_call1_call0_call0_v149 V0 := by
  unfold val0_8
  simp only [ops_part0_7, TRef.binary, TRef.nullary, TRef.unary, TRef.toBuf, TRef.ofBuf, cast_eq]
  after_results_simp
  simp only [val0_7_main_call1_call0_call0_v1, val0_7_main_call1_call0_call0_v126, val0_7_main_call1_call0_call0_v124, val0_7_main_call1_call0_call0_v122, val0_7_main_call1_call0_v6] <;> rfl
set_option maxRecDepth 8192 in
set_option maxHeartbeats 2000000 in
theorem val0_8_main_call1_call0_call0_v150 (V0 : Valuation τ sig (Elt F)) : val0_8 V0 (no_index (Proc.devRef .tc main_call1_call0_call0_v150)) = broadcastInDim S64x32768 ![] bcast_S_S64x32768 (constantI S_ 32 15#32) := by
  unfold val0_8
  simp only [ops_part0_7, TRef.binary, TRef.nullary, TRef.unary, TRef.toBuf, TRef.ofBuf, cast_eq]
  after_results_simp
  all_goals rfl

/-- The device's buffer contents after @main's first 270 operations. -/
def val0_9 (V0 : Valuation τ sig (Elt F)) : Valuation τ sig (Elt F) := after ops_part0_8 (val0_8 V0)
/-- The buffers that window `ops_part0_8`'s operations write. -/
abbrev ops_part0_8_W : List (Ref sig .tc) := [main_call1_call0_call0_v151, main_call1_call0_call0_c_39, main_call1_call0_call0_v152, main_call1_call0_call0_v153, main_call1_call0_call0_v154, main_call1_call0_call0_v155, main_call1_call0_call0_v156, main_call1_call0_call0_c_40, main_call1_call0_call0_v157, main_call1_call0_call0_v158, main_call1_call0_call0_c_41, main_call1_call0_call0_v159, main_call1_call0_call0_v160, main_call1_call0_call0_v161, main_call1_call0_call0_v162, main_call1_call0_call0_v163, main_call1_call0_call0_c_42, main_call1_call0_call0_v164, main_call1_call0_call0_v165, main_call1_call0_call0_c_43, main_call1_call0_call0_v166, main_call1_call0_call0_v167, main_call1_call0_call0_v168, main_call1_call0_call0_v169, main_call1_call0_call0_v170, main_call1_call0_v18_0, main_call1_call0_call0_v172, main_call1_call0_call0_v173, main_call1_call0_call0_c_44, main_call1_call0_call0_v174]
set_option maxRecDepth 8192 in
theorem ops_part0_8_writes : (ops_part0_8 : List (HloOp τ sig (Elt F))).Forall fun op => op.writes ⊆ (ops_part0_8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_8` does not write keeps its contents through it. -/
theorem val0_9_keep (V0 : Valuation τ sig (Elt F)) (r : Ref sig .tc) (h : r ∉ ops_part0_8_W) :
    val0_9 V0 (Proc.devRef .tc r) = val0_8 V0 (Proc.devRef .tc r) :=
  after_of_writes_sub ops_part0_8 _ ops_part0_8_writes h
theorem val0_9_main_arg0 (V0 : Valuation τ sig (Elt F)) : val0_9 V0 (no_index (Proc.devRef .tc main_arg0)) = V0 (Proc.devRef .tc main_arg0) :=
  (val0_9_keep V0 main_arg0 (by decide)).trans (val0_8_main_arg0 V0)
theorem val0_9_main_arg1 (V0 : Valuation τ sig (Elt F)) : val0_9 V0 (no_index (Proc.devRef .tc main_arg1)) = V0 (Proc.devRef .tc main_arg1) :=
  (val0_9_keep V0 main_arg1 (by decide)).trans (val0_8_main_arg1 V0)
theorem val0_9_main_arg2 (V0 : Valuation τ sig (Elt F)) : val0_9 V0 (no_index (Proc.devRef .tc main_arg2)) = V0 (Proc.devRef .tc main_arg2) :=
  (val0_9_keep V0 main_arg2 (by decide)).trans (val0_8_main_arg2 V0)
theorem val0_9_main_arg3 (V0 : Valuation τ sig (Elt F)) : val0_9 V0 (no_index (Proc.devRef .tc main_arg3)) = V0 (Proc.devRef .tc main_arg3) :=
  (val0_9_keep V0 main_arg3 (by decide)).trans (val0_8_main_arg3 V0)
theorem val0_9_main_v0 (V0 : Valuation τ sig (Elt F)) : val0_9 V0 (no_index (Proc.devRef .tc main_v0)) = select (cmpf .oeq (res_main_call0_v4 V0) (broadcastInDim S64x32768 ![] bcast_S_S64x32768 (constant S_ .f32 0xFF800000#32))) (broadcastInDim S64x32768 ![] bcast_S_S64x32768 (constant S_ .f32 0xFF7FFFFF#32)) (res_main_call0_v4 V0) :=
  (val0_9_keep V0 main_v0 (by decide)).trans (val0_8_main_v0 V0)
theorem val0_9_main_call1_call0_v1 (V0 : Valuation τ sig (Elt F)) : val0_9 V0 (no_index (Proc.devRef .tc main_call1_call0_v1)) = res_main_call1_call0_v1 V0 :=
  (val0_9_keep V0 main_call1_call0_v1 (by decide)).trans (val0_8_main_call1_call0_v1 V0)
theorem val0_9_main_call1_call0_v2 (V0 : Valuation τ sig (Elt F)) : val0_9 V0 (no_index (Proc.devRef .tc main_call1_call0_v2)) = broadcastInDim S1x1 ![] bcast_S_S1x1 (id (constant S_ .f32 0x3F800000#32)) :=
  (val0_9_keep V0 main_call1_call0_v2 (by decide)).trans (val0_8_main_call1_call0_v2 V0)
set_option maxRecDepth 8192 in
set_option maxHeartbeats 2000000 in
theorem val0_9_main_call1_call0_v18_0 (V0 : Valuation τ sig (Elt F)) : val0_9 V0 (no_index (Proc.devRef .tc main_call1_call0_v18_0)) = addi (res_main_call1_call0_call0_v163 V0) (broadcastInDim S64x32768 ![] bcast_S_S64x32768 (res_main_call1_call0_call0_v1 V0)) := by
  unfold val0_9
  simp only [ops_part0_8, TRef.binary, TRef.nullary, TRef.unary, TRef.toBuf, TRef.ofBuf, cast_eq]
  after_results_simp
  simp only [val0_8_main_call1_call0_call0_v1, val0_8_main_call1_call0_call0_v148, val0_8_main_call1_call0_call0_v150, val0_8_main_call1_call0_call0_v149] <;> rfl
set_option maxRecDepth 8192 in
set_option maxHeartbeats 2000000 in
theorem val0_9_main_call1_call0_call0_v173 (V0 : Valuation τ sig (Elt F)) : val0_9 V0 (no_index (Proc.devRef .tc main_call1_call0_call0_v173)) = addi (xori (res_main_call1_call0_call0_v163 V0) (ori (Host.shli (res_main_call1_call0_call0_v162 V0) (broadcastInDim S64x32768 ![] bcast_S_S64x32768 (constantI S_ 32 6#32))) (Host.shrui (res_main_call1_call0_call0_v162 V0) (broadcastInDim S64x32768 ![] bcast_S_S64x32768 (constantI S_ 32 26#32))))) (broadcastInDim S64x32768 ![] bcast_S_S64x32768 (res_main_call1_call0_v4 V0)) := by
  unfold val0_9
  simp only [ops_part0_8, TRef.binary, TRef.nullary, TRef.unary, TRef.toBuf, TRef.ofBuf, cast_eq]
  after_results_simp
  simp only [val0_8_main_call1_call0_v4, val0_8_main_call1_call0_call0_v148, val0_8_main_call1_call0_call0_v150, val0_8_main_call1_call0_call0_v149] <;> rfl
set_option maxRecDepth 8192 in
set_option maxHeartbeats 2000000 in
theorem val0_9_main_call1_call0_call0_v174 (V0 : Valuation τ sig (Elt F)) : val0_9 V0 (no_index (Proc.devRef .tc main_call1_call0_call0_v174)) = broadcastInDim S64x32768 ![] bcast_S_S64x32768 (constantI S_ 32 5#32) := by
  unfold val0_9
  simp only [ops_part0_8, TRef.binary, TRef.nullary, TRef.unary, TRef.toBuf, TRef.ofBuf, cast_eq]
  after_results_simp
  all_goals rfl

/-- The device's buffer contents after @main's first 300 operations. -/
def val0_10 (V0 : Valuation τ sig (Elt F)) : Valuation τ sig (Elt F) := after ops_part0_9 (val0_9 V0)
/-- The buffers that window `ops_part0_9`'s operations write. -/
abbrev ops_part0_9_W : List (Ref sig .tc) := [main_call1_call0_v18_1, main_call1_call0_v19, main_call1_call0_c_2, main_call1_call0_v20, main_call1_call0_v21, main_call1_call0_c_3, main_call1_call0_v22, main_call1_call0_v23, main_call1_call0_v24, main_call1_call0_cst, main_call1_call0_v25, main_call1_call0_v26, main_call1_call0_v27, main_call1_call0_v28, main_call1_call0_v29, main_call1_call0_v30, main_call1_call0_v31, main_call1_call0_v32, main_call1_v0, main_call1_v1, main_call1_v2, main_call1_v3, main_v8, main_v9, main_call2_v0, main_call2_cst, main_call2_c, main_call2_v1_0, main_v10, main_c_2]
set_option maxRecDepth 8192 in
theorem ops_part0_9_writes : (ops_part0_9 : List (HloOp τ sig (Elt F))).Forall fun op => op.writes ⊆ (ops_part0_9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_9` does not write keeps its contents through it. -/
theorem val0_10_keep (V0 : Valuation τ sig (Elt F)) (r : Ref sig .tc) (h : r ∉ ops_part0_9_W) :
    val0_10 V0 (Proc.devRef .tc r) = val0_9 V0 (Proc.devRef .tc r) :=
  after_of_writes_sub ops_part0_9 _ ops_part0_9_writes h
theorem val0_10_main_arg0 (V0 : Valuation τ sig (Elt F)) : val0_10 V0 (no_index (Proc.devRef .tc main_arg0)) = V0 (Proc.devRef .tc main_arg0) :=
  (val0_10_keep V0 main_arg0 (by decide)).trans (val0_9_main_arg0 V0)
theorem val0_10_main_arg1 (V0 : Valuation τ sig (Elt F)) : val0_10 V0 (no_index (Proc.devRef .tc main_arg1)) = V0 (Proc.devRef .tc main_arg1) :=
  (val0_10_keep V0 main_arg1 (by decide)).trans (val0_9_main_arg1 V0)
theorem val0_10_main_arg2 (V0 : Valuation τ sig (Elt F)) : val0_10 V0 (no_index (Proc.devRef .tc main_arg2)) = V0 (Proc.devRef .tc main_arg2) :=
  (val0_10_keep V0 main_arg2 (by decide)).trans (val0_9_main_arg2 V0)
theorem val0_10_main_arg3 (V0 : Valuation τ sig (Elt F)) : val0_10 V0 (no_index (Proc.devRef .tc main_arg3)) = V0 (Proc.devRef .tc main_arg3) :=
  (val0_10_keep V0 main_arg3 (by decide)).trans (val0_9_main_arg3 V0)
set_option maxRecDepth 8192 in
set_option maxHeartbeats 2000000 in
theorem val0_10_main_v10 (V0 : Valuation τ sig (Elt F)) : val0_10 V0 (no_index (Proc.devRef .tc main_v10)) = res_main_v10 V0 := by
  unfold val0_10
  simp only [ops_part0_9, TRef.binary, TRef.nullary, TRef.quaternary, TRef.unary, TRef.toBuf, TRef.ofBuf, cast_eq]
  after_results_simp
  simp only [val0_9_main_v0, val0_9_main_call1_call0_v1, val0_9_main_call1_call0_v2, val0_9_main_call1_call0_call0_v174, val0_9_main_call1_call0_call0_v173, val0_9_main_call1_call0_v18_0] <;> rfl
set_option maxRecDepth 8192 in
set_option maxHeartbeats 2000000 in
theorem val0_10_main_c_2 (V0 : Valuation τ sig (Elt F)) : val0_10 V0 (no_index (Proc.devRef .tc main_c_2)) = constantI S_ 32 16384#32 := by
  unfold val0_10
  simp only [ops_part0_9, TRef.binary, TRef.nullary, TRef.quaternary, TRef.unary, TRef.toBuf, TRef.ofBuf, cast_eq]
  after_results_simp
  all_goals rfl

/-- The device's buffer contents after @main's first 330 operations. -/
def val0_11 (V0 : Valuation τ sig (Elt F)) : Valuation τ sig (Elt F) := after ops_part0_10 (val0_10 V0)
/-- The buffers that window `ops_part0_10`'s operations write. -/
abbrev ops_part0_10_W : List (Ref sig .tc) := [main_v11, main_v12, main_v13, main_c_3, main_v14, main_v15, main_c_4, main_c_5, main_call3_v0, main_call3_v1, main_call3_v2, main_call3_v3, main_call3_v4, main_v16, main_v17, main_v18, main_c_6, main_v19, main_v20, main_c_7, main_v21, main_v22, main_c_8, main_c_9, main_call4_v0, main_call4_v1, main_call4_v2, main_call4_v3, main_call4_v4, main_v23]
set_option maxRecDepth 8192 in
theorem ops_part0_10_writes : (ops_part0_10 : List (HloOp τ sig (Elt F))).Forall fun op => op.writes ⊆ (ops_part0_10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_10` does not write keeps its contents through it. -/
theorem val0_11_keep (V0 : Valuation τ sig (Elt F)) (r : Ref sig .tc) (h : r ∉ ops_part0_10_W) :
    val0_11 V0 (Proc.devRef .tc r) = val0_10 V0 (Proc.devRef .tc r) :=
  after_of_writes_sub ops_part0_10 _ ops_part0_10_writes h
theorem val0_11_main_arg0 (V0 : Valuation τ sig (Elt F)) : val0_11 V0 (no_index (Proc.devRef .tc main_arg0)) = V0 (Proc.devRef .tc main_arg0) :=
  (val0_11_keep V0 main_arg0 (by decide)).trans (val0_10_main_arg0 V0)
theorem val0_11_main_arg1 (V0 : Valuation τ sig (Elt F)) : val0_11 V0 (no_index (Proc.devRef .tc main_arg1)) = V0 (Proc.devRef .tc main_arg1) :=
  (val0_11_keep V0 main_arg1 (by decide)).trans (val0_10_main_arg1 V0)
theorem val0_11_main_arg2 (V0 : Valuation τ sig (Elt F)) : val0_11 V0 (no_index (Proc.devRef .tc main_arg2)) = V0 (Proc.devRef .tc main_arg2) :=
  (val0_11_keep V0 main_arg2 (by decide)).trans (val0_10_main_arg2 V0)
theorem val0_11_main_arg3 (V0 : Valuation τ sig (Elt F)) : val0_11 V0 (no_index (Proc.devRef .tc main_arg3)) = V0 (Proc.devRef .tc main_arg3) :=
  (val0_11_keep V0 main_arg3 (by decide)).trans (val0_10_main_arg3 V0)
set_option maxRecDepth 8192 in
set_option maxHeartbeats 2000000 in
theorem val0_11_main_v12 (V0 : Valuation τ sig (Elt F)) : val0_11 V0 (no_index (Proc.devRef .tc main_v12)) = res_main_v12 V0 := by
  unfold val0_11
  simp only [ops_part0_10, TRef.binary, TRef.unary, TRef.toBuf, TRef.ofBuf, cast_eq]
  after_results_simp
  simp only [val0_10_main_c_2, val0_10_main_v10] <;> rfl
set_option maxRecDepth 8192 in
set_option maxHeartbeats 2000000 in
theorem val0_11_main_v17 (V0 : Valuation τ sig (Elt F)) : val0_11 V0 (no_index (Proc.devRef .tc main_v17)) = res_main_v17 V0 := by
  unfold val0_11
  simp only [ops_part0_10, TRef.binary, TRef.unary, TRef.toBuf, TRef.ofBuf, cast_eq]
  after_results_simp
  simp only [val0_10_main_v10] <;> rfl
set_option maxRecDepth 8192 in
set_option maxHeartbeats 2000000 in
theorem val0_11_main_v20 (V0 : Valuation τ sig (Elt F)) : val0_11 V0 (no_index (Proc.devRef .tc main_v20)) = muli (iotaInDim S64 32 0) (broadcastInDim S64 ![] bcast_S_S64 (constantI S_ 32 16384#32)) := by
  unfold val0_11
  simp only [ops_part0_10, TRef.binary, TRef.unary, TRef.toBuf, TRef.ofBuf, cast_eq]
  after_results_simp
  all_goals rfl
set_option maxRecDepth 8192 in
set_option maxHeartbeats 2000000 in
theorem val0_11_main_v23 (V0 : Valuation τ sig (Elt F)) : val0_11 V0 (no_index (Proc.devRef .tc main_v23)) = minsi (broadcastInDim S64 ![] bcast_S_S64 (id (constantI S_ 32 16383#32))) (maxsi (broadcastInDim S64 ![] bcast_S_S64 (id (constantI S_ 32 0#32))) (subi (res_main_v10 V0) (broadcastInDim S64 ![] bcast_S_S64 (constantI S_ 32 16384#32)))) := by
  unfold val0_11
  simp only [ops_part0_10, TRef.binary, TRef.unary, TRef.toBuf, TRef.ofBuf, cast_eq]
  after_results_simp
  simp only [val0_10_main_v10] <;> rfl

/-- The device's buffer contents after @main's first 1 window. -/
def val1 (V0 : Valuation τ sig (Elt F)) : Valuation τ sig (Elt F) := after ops_part0_11 (val0_11 V0)
/-- The buffers that window `ops_part0_11`'s operations write. -/
abbrev ops_part0_11_W : List (Ref sig .tc) := [main_v24, main_v25, main_c_10, main_v26, main_v27, main_c_11, main_v28, main_v29, main_v30, main_c_12, main_v31, main_c_13, main_v32, main_v33, main_v34, main_v35, main_v36, main_v37, main_v38, main_v39, main_v40, main_c_14, main_v41, main_v42, main_c_15]
set_option maxRecDepth 8192 in
theorem ops_part0_11_writes : (ops_part0_11 : List (HloOp τ sig (Elt F))).Forall fun op => op.writes ⊆ (ops_part0_11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_11` does not write keeps its contents through it. -/
theorem val1_keep (V0 : Valuation τ sig (Elt F)) (r : Ref sig .tc) (h : r ∉ ops_part0_11_W) :
    val1 V0 (Proc.devRef .tc r) = val0_11 V0 (Proc.devRef .tc r) :=
  after_of_writes_sub ops_part0_11 _ ops_part0_11_writes h
theorem val1_main_arg0 (V0 : Valuation τ sig (Elt F)) : val1 V0 (no_index (Proc.devRef .tc main_arg0)) = V0 (Proc.devRef .tc main_arg0) :=
  (val1_keep V0 main_arg0 (by decide)).trans (val0_11_main_arg0 V0)
theorem val1_main_arg1 (V0 : Valuation τ sig (Elt F)) : val1 V0 (no_index (Proc.devRef .tc main_arg1)) = V0 (Proc.devRef .tc main_arg1) :=
  (val1_keep V0 main_arg1 (by decide)).trans (val0_11_main_arg1 V0)
theorem val1_main_arg2 (V0 : Valuation τ sig (Elt F)) : val1 V0 (no_index (Proc.devRef .tc main_arg2)) = V0 (Proc.devRef .tc main_arg2) :=
  (val1_keep V0 main_arg2 (by decide)).trans (val0_11_main_arg2 V0)
theorem val1_main_arg3 (V0 : Valuation τ sig (Elt F)) : val1 V0 (no_index (Proc.devRef .tc main_arg3)) = V0 (Proc.devRef .tc main_arg3) :=
  (val1_keep V0 main_arg3 (by decide)).trans (val0_11_main_arg3 V0)
set_option maxRecDepth 8192 in
set_option maxHeartbeats 2000000 in
theorem val1_main_v24 (V0 : Valuation τ sig (Elt F)) : val1 V0 (no_index (Proc.devRef .tc main_v24)) = res_main_v24 V0 := by
  unfold val1
  simp only [ops_part0_11]
  after_results_simp
  simp only [val0_11_main_v23, val0_11_main_v20] <;> rfl
set_option maxRecDepth 8192 in
set_option maxHeartbeats 2000000 in
theorem val1_main_v38 (V0 : Valuation τ sig (Elt F)) : val1 V0 (no_index (Proc.devRef .tc main_v38)) = Host.scatterAdd scatter_S1048576x32_S64x2_S64_n_01_01_1 (V0 (Proc.devRef .tc main_arg1)) (concatenate S64x2 1 [⟨S64x1, (broadcastInDim S64x1 ![0] bcast_S64_S64x1_0 (select (cmpi .slt (res_main_v17 V0) (broadcastInDim S64 ![] bcast_S_S64 (constantI S_ 32 0#32))) (addi (res_main_v17 V0) (broadcastInDim S64 ![] bcast_S_S64 (constantI S_ 32 1048576#32))) (res_main_v17 V0)))⟩, ⟨S64x1, (broadcastInDim S64x1 ![0] bcast_S64_S64x1_0 (broadcastInDim S64 ![] bcast_S_S64 (select (cmpi .slt (V0 (Proc.devRef .tc main_arg3)) (constantI S_ 32 0#32)) (addi (V0 (Proc.devRef .tc main_arg3)) (constantI S_ 32 32#32)) (V0 (Proc.devRef .tc main_arg3)))))⟩] concatenates_S64x1_S64x1_S64x2_d1) (uitofp .f32 (res_main_v12 V0)) := by
  unfold val1
  simp only [ops_part0_11]
  after_results_simp
  simp only [val0_11_main_v12, val0_11_main_arg3, val0_11_main_v17, val0_11_main_arg1] <;> rfl
set_option maxRecDepth 8192 in
set_option maxHeartbeats 2000000 in
theorem val1_main_v40 (V0 : Valuation τ sig (Elt F)) : val1 V0 (no_index (Proc.devRef .tc main_v40)) = uitofp .f32 (noti (res_main_v12 V0)) := by
  unfold val1
  simp only [ops_part0_11]
  after_results_simp
  simp only [val0_11_main_v12] <;> rfl
set_option maxRecDepth 8192 in
set_option maxHeartbeats 2000000 in
theorem val1_main_v42 (V0 : Valuation τ sig (Elt F)) : val1 V0 (no_index (Proc.devRef .tc main_v42)) = cmpi .slt (res_main_v24 V0) (broadcastInDim S64 ![] bcast_S_S64 (constantI S_ 32 0#32)) := by
  unfold val1
  simp only [ops_part0_11]
  after_results_simp
  simp only [val0_11_main_v23, val0_11_main_v20] <;> rfl
set_option maxRecDepth 8192 in
set_option maxHeartbeats 2000000 in
theorem val1_main_c_15 (V0 : Valuation τ sig (Elt F)) : val1 V0 (no_index (Proc.devRef .tc main_c_15)) = constantI S_ 32 1048576#32 := by
  unfold val1
  simp only [ops_part0_11]
  after_results_simp
  all_goals rfl

end Cert.ReferenceIdeal.Value

end
-- ==== Proof.RefEnd.lean ====
/-
  The reference's run, part 3 of 3: the last stretch, the run itself, and that the reference's frame holds.
-/
module

public import proofs.«01_k».proof.Proof.RefVals
public import Idealize.ShloMosaic.Lib.Quiescent

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]
/-- The device's buffer contents after @main's first 2 windows. -/
def val2 (V0 : Valuation τ sig (Elt F)) : Valuation τ sig (Elt F) := after ops_part1 (val1 V0)
/-- The buffers that window `main_part1`'s operations write. -/
abbrev ops_part1_W : List (Ref sig .tc) := [main_v43, main_v44, main_v45, main_c_16, main_v46, main_c_17, main_v47, main_v48, main_v49, main_v50, main_v51, main_v52, main_v53, main_v54]
set_option maxRecDepth 8192 in
theorem ops_part1_writes : (ops_part1 : List (HloOp τ sig (Elt F))).Forall fun op => op.writes ⊆ (ops_part1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part1` does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
set_option maxRecDepth 8192 in
set_option maxHeartbeats 1400000 in
theorem val2_main_v54 (V0 : Valuation τ sig (Elt F)) : val2 V0 (no_index (Proc.devRef .tc main_v54)) = concatenate S2097152x32 0 [⟨S1048576x32, (Host.scatterAdd scatter_S1048576x32_S64x2_S64_n_01_01_1 (V0 (Proc.devRef .tc main_arg1)) (concatenate S64x2 1 [⟨S64x1, (broadcastInDim S64x1 ![0] bcast_S64_S64x1_0 (select (cmpi .slt (res_main_v17 V0) (broadcastInDim S64 ![] bcast_S_S64 (constantI S_ 32 0#32))) (addi (res_main_v17 V0) (broadcastInDim S64 ![] bcast_S_S64 (constantI S_ 32 1048576#32))) (res_main_v17 V0)))⟩, ⟨S64x1, (broadcastInDim S64x1 ![0] bcast_S64_S64x1_0 (broadcastInDim S64 ![] bcast_S_S64 (select (cmpi .slt (V0 (Proc.devRef .tc main_arg3)) (constantI S_ 32 0#32)) (addi (V0 (Proc.devRef .tc main_arg3)) (constantI S_ 32 32#32)) (V0 (Proc.devRef .tc main_arg3)))))⟩] concatenates_S64x1_S64x1_S64x2_d1) (uitofp .f32 (res_main_v12 V0)))⟩, ⟨S1048576x32, (Host.scatterAdd scatter_S1048576x32_S64x2_S64_n_01_01_1 (V0 (Proc.devRef .tc main_arg2)) (concatenate S64x2 1 [⟨S64x1, (broadcastInDim S64x1 ![0] bcast_S64_S64x1_0 (select (cmpi .slt (res_main_v24 V0) (broadcastInDim S64 ![] bcast_S_S64 (constantI S_ 32 0#32))) (addi (res_main_v24 V0) (broadcastInDim S64 ![] bcast_S_S64 (constantI S_ 32 1048576#32))) (res_main_v24 V0)))⟩, ⟨S64x1, (broadcastInDim S64x1 ![0] bcast_S64_S64x1_0 (broadcastInDim S64 ![] bcast_S_S64 (select (cmpi .slt (V0 (Proc.devRef .tc main_arg3)) (constantI S_ 32 0#32)) (addi (V0 (Proc.devRef .tc main_arg3)) (constantI S_ 32 32#32)) (V0 (Proc.devRef .tc main_arg3)))))⟩] concatenates_S64x1_S64x1_S64x2_d1) (uitofp .f32 (noti (res_main_v12 V0))))⟩] concatenates_S1048576x32_S1048576x32_S2097152x32_d0 := by
  unfold val2
  simp only [ops_part1]
  after_results_simp
  simp only [val1_main_v40, val1_main_arg3, val1_main_v24, val1_main_c_15, val1_main_v42, val1_main_arg2, val1_main_v38] <;> rfl

theorem after_ops (V0 : Valuation τ sig (Elt F)) : after ops V0 = val2 V0 := by
  simp only [ops, ops_part0, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v54) = concatenate S2097152x32 0 [⟨S1048576x32, (Host.scatterAdd scatter_S1048576x32_S64x2_S64_n_01_01_1 ((launchContents m c) (Proc.devRef .tc main_arg1)) (concatenate S64x2 1 [⟨S64x1, (broadcastInDim S64x1 ![0] bcast_S64_S64x1_0 (select (cmpi .slt (res_main_v17 (launchContents m c)) (broadcastInDim S64 ![] bcast_S_S64 (constantI S_ 32 0#32))) (addi (res_main_v17 (launchContents m c)) (broadcastInDim S64 ![] bcast_S_S64 (constantI S_ 32 1048576#32))) (res_main_v17 (launchContents m c))))⟩, ⟨S64x1, (broadcastInDim S64x1 ![0] bcast_S64_S64x1_0 (broadcastInDim S64 ![] bcast_S_S64 (select (cmpi .slt ((launchContents m c) (Proc.devRef .tc main_arg3)) (constantI S_ 32 0#32)) (addi ((launchContents m c) (Proc.devRef .tc main_arg3)) (constantI S_ 32 32#32)) ((launchContents m c) (Proc.devRef .tc main_arg3)))))⟩] concatenates_S64x1_S64x1_S64x2_d1) (uitofp .f32 (res_main_v12 (launchContents m c))))⟩, ⟨S1048576x32, (Host.scatterAdd scatter_S1048576x32_S64x2_S64_n_01_01_1 ((launchContents m c) (Proc.devRef .tc main_arg2)) (concatenate S64x2 1 [⟨S64x1, (broadcastInDim S64x1 ![0] bcast_S64_S64x1_0 (select (cmpi .slt (res_main_v24 (launchContents m c)) (broadcastInDim S64 ![] bcast_S_S64 (constantI S_ 32 0#32))) (addi (res_main_v24 (launchContents m c)) (broadcastInDim S64 ![] bcast_S_S64 (constantI S_ 32 1048576#32))) (res_main_v24 (launchContents m c))))⟩, ⟨S64x1, (broadcastInDim S64x1 ![0] bcast_S64_S64x1_0 (broadcastInDim S64 ![] bcast_S_S64 (select (cmpi .slt ((launchContents m c) (Proc.devRef .tc main_arg3)) (constantI S_ 32 0#32)) (addi ((launchContents m c) (Proc.devRef .tc main_arg3)) (constantI S_ 32 32#32)) ((launchContents m c) (Proc.devRef .tc main_arg3)))))⟩] concatenates_S64x1_S64x1_S64x2_d1) (uitofp .f32 (noti (res_main_v12 (launchContents m c)))))⟩] concatenates_S1048576x32_S1048576x32_S2097152x32_d0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v54).trans ((congrFun (after_ops (launchContents m c)) (Proc.devRef .tc main_v54)).trans (val2_main_v54 (launchContents m c))),
      (h c main_arg0).trans ((congrFun (after_ops (launchContents m c)) (Proc.devRef .tc main_arg0)).trans (val2_main_arg0 (launchContents m c))),
      (h c main_arg1).trans ((congrFun (after_ops (launchContents m c)) (Proc.devRef .tc main_arg1)).trans (val2_main_arg1 (launchContents m c))),
      (h c main_arg2).trans ((congrFun (after_ops (launchContents m c)) (Proc.devRef .tc main_arg2)).trans (val2_main_arg2 (launchContents m c))),
      (h c main_arg3).trans ((congrFun (after_ops (launchContents m c)) (Proc.devRef .tc main_arg3)).trans (val2_main_arg3 (launchContents m c)))⟩)
    (run_seq scopedRefs_eq scopedSems_eq defs main (fun _ => ops) main_eq (fun _ => ops_sub) m ρ fun _ => ops_fresh)

/-- The reference declares no semaphore: every counter reads zero. -/
theorem sem_zero (s : MemSt nD τ sig (Elt F)) : s.sem = fun _ => 0 := sem_eq_zero_of_no_sems rfl s

/-- The reference runs to its end, its arguments unchanged and every counter at zero. -/
theorem quiescent (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨fun c => (h c).2, sem_zero r.2⟩) (run m ρ)

end Cert.ReferenceIdeal.Value

end
-- ==== Proof.RefHot.lean ====
/-
  The reference's result, read at a row and a column: its two scatters into zeros, one of the rows picked in the left half
  and one of those picked in the right half, leave a one at each batch row's picked row in the named column.
-/
module

public import proofs.«01_k».proof.Proof.OneHot
public import proofs.«01_k».proof.Proof.RefEnd

@[expose] public section

noncomputable section

namespace Cert.ReferenceIdeal.Value

open Cert.ReferenceIdeal Cert.ReferenceIdeal.Gen
open Idealize.ShloMosaic Idealize.ShloMosaic.TcCoe
open Cert.KernelIdeal.Scatter (rowWord rowWord_toNat slt_half)

/-! ## Words -/

/-- Signed order of words with the sign bit clear is the order of their numbers. -/
theorem slt_nat (x y : BitVec 32) (hx : x.toNat < 2147483648) (hy : y.toNat < 2147483648) : x.slt y = decide (x.toNat < y.toNat) := by
  rw [BitVec.slt, BitVec.toInt_eq_toNat_of_lt (by omega), BitVec.toInt_eq_toNat_of_lt (by omega)]
  exact decide_eq_decide.mpr (by omega)

/-- A word with the sign bit set is below zero. -/
theorem slt_zero (x : BitVec 32) (hx : 2147483648 ≤ x.toNat) : x.slt 0#32 = true := by
  have e0 : (0#32 : BitVec 32).toInt = 0 := by decide
  have := x.isLt
  rw [BitVec.slt, e0, decide_eq_true_iff, BitVec.toInt_eq_toNat_cond, if_neg (by omega)]
  omega

/-- The row within a half: the batch row's block, at the column clamped into it. -/
theorem block_row (b : ℕ) (hb : b < 64) (z : BitVec 32) (n : ℕ) (hz : (IntOp.maxsi 0#32 z).toNat = n) (hn : n < 32768) :
    (IntOp.addi (IntOp.muli (BitVec.ofNat 32 b) 16384#32) (IntOp.minsi 16383#32 (IntOp.maxsi 0#32 z))).toNat = b * 16384 + min 16383 n := by
  have hm : (IntOp.minsi 16383#32 (IntOp.maxsi 0#32 z)).toNat = min 16383 n := by
    unfold IntOp.minsi
    rw [slt_nat _ _ (by decide) (by omega), hz]
    have e : (16383#32 : BitVec 32).toNat = 16383 := by decide
    rw [e]
    by_cases h : 16383 < n
    · rw [if_pos (by simpa using h), e]; omega
    · rw [if_neg (by simpa using h), hz]; omega
  show (BitVec.ofNat 32 b * 16384#32 + IntOp.minsi 16383#32 (IntOp.maxsi 0#32 z)).toNat = _
  rw [BitVec.toNat_add, hm, BitVec.toNat_mul, BitVec.toNat_ofNat]
  have e : (16384#32 : BitVec 32).toNat = 16384 := by decide
  rw [e]
  omega

theorem maxsi_nat (c : BitVec 32) (hc : c.toNat < 32768) : (IntOp.maxsi 0#32 c).toNat = c.toNat := by
  unfold IntOp.maxsi
  rw [slt_nat _ _ (by omega) (by decide)]
  rw [if_neg (by simp)]

theorem maxsi_sub (c : BitVec 32) (hc : c.toNat < 32768) : (IntOp.maxsi 0#32 (IntOp.subi c 16384#32)).toNat = c.toNat - 16384 := by
  have e : (IntOp.subi c 16384#32).toNat = (4294967296 - 16384 + c.toNat) % 4294967296 := by
    show (c - 16384#32).toNat = _
    rw [BitVec.toNat_sub]
    rfl
  unfold IntOp.maxsi
  by_cases h : c.toNat < 16384
  · rw [slt_zero _ (by omega), if_pos rfl]
    show 0 = _
    omega
  · rw [slt_nat _ _ (by omega) (by decide), if_neg (by simp), e]
    omega

/-- The negative-index rule leaves a word with the sign bit clear. -/
theorem wrap_self (x n : BitVec 32) (hx : x.toNat < 2147483648) : Scalar.select (IntOp.cmpi .slt x 0#32) (IntOp.addi x n) x = x := by
  have h : IntOp.cmpi .slt x 0#32 = 0#1 := by
    show BitVec.ofBool (BitVec.slt x 0#32) = _
    rw [slt_nat _ _ hx (by decide)]
    simp
  rw [h]; rfl

/-! ## One scatter -/

section Scatter

variable (idx : IVec S64x2 32)

theorem start_row (j : S64.Idx) : scatter_S1048576x32_S64x2_S64_n_01_01_1.start j idx 0 = (idx (ValueIdx.ix2 (j 0) 0)).toInt := by
  unfold ScatterDims.start
  rw [dif_pos (by decide)]
  refine congrArg (fun k => (idx k).toInt) (funext fun b => ?_)
  fin_cases b <;> rfl

theorem start_col (j : S64.Idx) : scatter_S1048576x32_S64x2_S64_n_01_01_1.start j idx 1 = (idx (ValueIdx.ix2 (j 0) 1)).toInt := by
  unfold ScatterDims.start
  rw [dif_pos (by decide)]
  refine congrArg (fun k => (idx k).toInt) (funext fun b => ?_)
  fin_cases b <;> rfl

theorem window_none (j : S64.Idx) (a : Fin 2) : scatter_S1048576x32_S64x2_S64_n_01_01_1.window j a = 0 := by
  unfold ScatterDims.window
  rw [dif_neg]
  revert a; decide

/-- Update `b` lands at its row in the named column. -/
theorem lands (row : Fin 64 → ℕ) (d : ℕ) (hr : ∀ b, (idx (ValueIdx.ix2 b 0)).toNat = row b) (hlt : ∀ b, row b < 1048576)
    (hc : ∀ b, (idx (ValueIdx.ix2 b 1)).toNat = d) (hd : d < 32) (j : S64.Idx) (y : S1048576x32.Idx) :
    scatter_S1048576x32_S64x2_S64_n_01_01_1.resultIdx? j idx = some y ↔ (y 0).val = row (j 0) ∧ (y 1).val = d := by
  have h0 : scatter_S1048576x32_S64x2_S64_n_01_01_1.start j idx 0 + (scatter_S1048576x32_S64x2_S64_n_01_01_1.window j 0 : ℕ) = (row (j 0) : Int) := by
    have := hlt (j 0)
    have e := hr (j 0)
    rw [start_row, window_none, BitVec.toInt_eq_toNat_of_lt (by rw [e]; omega), e]; rfl
  have h1 : scatter_S1048576x32_S64x2_S64_n_01_01_1.start j idx 1 + (scatter_S1048576x32_S64x2_S64_n_01_01_1.window j 1 : ℕ) = (d : Int) := by
    have e := hc (j 0)
    rw [start_col, window_none, BitVec.toInt_eq_toNat_of_lt (by rw [e]; omega), e]; rfl
  have hin : ∀ a, 0 ≤ scatter_S1048576x32_S64x2_S64_n_01_01_1.start j idx a + (scatter_S1048576x32_S64x2_S64_n_01_01_1.window j a : ℕ)
      ∧ scatter_S1048576x32_S64x2_S64_n_01_01_1.start j idx a + (scatter_S1048576x32_S64x2_S64_n_01_01_1.window j a : ℕ) < S1048576x32.size a := by
    intro a
    have := hlt (j 0)
    fin_cases a
    · refine ⟨h0.symm ▸ Int.natCast_nonneg _, ?_⟩
      show scatter_S1048576x32_S64x2_S64_n_01_01_1.start j idx 0 + (scatter_S1048576x32_S64x2_S64_n_01_01_1.window j 0 : ℕ) < ((1048576 : ℕ) : Int)
      rw [h0]; omega
    · refine ⟨h1.symm ▸ Int.natCast_nonneg _, ?_⟩
      show scatter_S1048576x32_S64x2_S64_n_01_01_1.start j idx 1 + (scatter_S1048576x32_S64x2_S64_n_01_01_1.window j 1 : ℕ) < ((32 : ℕ) : Int)
      rw [h1]; omega
  unfold ScatterDims.resultIdx?
  rw [dif_pos hin, Option.some_inj]
  constructor
  · rintro rfl
    refine ⟨?_, ?_⟩
    · show (scatter_S1048576x32_S64x2_S64_n_01_01_1.start j idx 0 + (scatter_S1048576x32_S64x2_S64_n_01_01_1.window j 0 : ℕ)).toNat = _
      rw [h0]; rfl
    · show (scatter_S1048576x32_S64x2_S64_n_01_01_1.start j idx 1 + (scatter_S1048576x32_S64x2_S64_n_01_01_1.window j 1 : ℕ)).toNat = _
      rw [h1]; rfl
  · rintro ⟨e0, e1⟩
    funext a
    refine Fin.ext ?_
    fin_cases a
    · show (scatter_S1048576x32_S64x2_S64_n_01_01_1.start j idx 0 + (scatter_S1048576x32_S64x2_S64_n_01_01_1.window j 0 : ℕ)).toNat = (y 0).val
      rw [h0, e0]; rfl
    · show (scatter_S1048576x32_S64x2_S64_n_01_01_1.start j idx 1 + (scatter_S1048576x32_S64x2_S64_n_01_01_1.window j 1 : ℕ)).toNat = (y 1).val
      rw [h1, e1]; rfl

/-- A scatter into zeros whose rows lie each in its own block of 16384: at a row and a column, the update of that row's
    block where both match, zero elsewhere. -/
theorem scatter_hot (x : FVec Ideal S1048576x32 .f32) (upd : FVec Ideal S64 .f32) (row : Fin 64 → ℕ) (d : ℕ)
    (hr : ∀ b, (idx (ValueIdx.ix2 b 0)).toNat = row b) (hblk : ∀ b, row b / 16384 = b.val)
    (hc : ∀ b, (idx (ValueIdx.ix2 b 1)).toNat = d) (hd : d < 32) (y : S1048576x32.Idx) (hx : x y = (0 : EReal)) (b : Fin 64) (hb : (y 0).val / 16384 = b.val) :
    (Host.scatterAdd scatter_S1048576x32_S64x2_S64_n_01_01_1 x idx upd y : EReal) = if (y 1).val = d ∧ (y 0).val = row b then upd (ValueIdx.ix1 b) else 0 := by
  have hlt : ∀ b, row b < 1048576 := fun b => by have := hblk b; have := b.isLt; omega
  show x y + ∑ j ∈ Finset.univ.filter (fun j => scatter_S1048576x32_S64x2_S64_n_01_01_1.resultIdx? j idx = some y), upd j = _
  rw [hx, zero_add]
  have hf : (Finset.univ.filter (fun j => scatter_S1048576x32_S64x2_S64_n_01_01_1.resultIdx? j idx = some y)) =
      if (y 1).val = d ∧ (y 0).val = row b then {ValueIdx.ix1 b} else (∅ : Finset S64.Idx) := by
    ext j
    rw [Finset.mem_filter, lands idx row d hr hlt hc hd]
    have key : (y 0).val = row (j 0) → j 0 = b := fun h => Fin.ext (by rw [← hb, h]; exact (hblk (j 0)).symm)
    split
    · rename_i h
      rw [Finset.mem_singleton]
      constructor
      · rintro ⟨-, e, -⟩
        exact (ValueIdx.eq_ix1 j).trans (congrArg ValueIdx.ix1 (key e))
      · rintro rfl
        exact ⟨Finset.mem_univ _, h.2, h.1⟩
    · rename_i h
      constructor
      · rintro ⟨-, e, e1⟩
        exact absurd ⟨e1, by rw [e, key e]⟩ h
      · intro hj; exact absurd hj (Finset.notMem_empty j)
  rw [hf]
  split
  · exact Finset.sum_singleton _ _
  · exact Finset.sum_empty

end Scatter

/-! ## The two halves joined -/

/-- The rows and the column as the scatter takes them. -/
def pairs (r : IVec S64 32) (k : IVec S_ 32) : IVec S64x2 32 :=
  concatenate S64x2 1 [⟨S64x1, (broadcastInDim S64x1 ![0] bcast_S64_S64x1_0 (select (cmpi .slt r (broadcastInDim S64 ![] bcast_S_S64 (constantI S_ 32 0#32))) (addi r (broadcastInDim S64 ![] bcast_S_S64 (constantI S_ 32 1048576#32))) r))⟩, ⟨S64x1, (broadcastInDim S64x1 ![0] bcast_S64_S64x1_0 (broadcastInDim S64 ![] bcast_S_S64 (select (cmpi .slt k (constantI S_ 32 0#32)) (addi k (constantI S_ 32 32#32)) k)))⟩] concatenates_S64x1_S64x1_S64x2_d1

theorem pairs_row (r : IVec S64 32) (k : IVec S_ 32) (b : Fin 64) (hb : (r (ValueIdx.ix1 b)).toNat < 2147483648) : pairs r k (ValueIdx.ix2 b 0) = r (ValueIdx.ix1 b) := by
  unfold pairs
  refine (concatenate_pair_apply_left (t := S64x2) (s₁ := S64x1) (s₂ := S64x1) 1 _ _ _ (ValueIdx.ix2 b 0) rfl (ValueIdx.ix2 b 0) (fun a => by fin_cases a <;> rfl)).trans ?_
  refine Eq.trans ?_ (wrap_self (r (ValueIdx.ix1 b)) 1048576#32 hb)
  have e : (fun a : Fin 1 => ValueIdx.ix1 b a) = (ValueIdx.ix1 b : S64.Idx) := rfl
  refine Eq.trans (congrArg (select (cmpi .slt r (broadcastInDim S64 ![] bcast_S_S64 (constantI S_ 32 0#32))) (addi r (broadcastInDim S64 ![] bcast_S_S64 (constantI S_ 32 1048576#32))) r) (?_ : _ = (ValueIdx.ix1 b : S64.Idx))) rfl
  funext a
  obtain rfl : a = 0 := Subsingleton.elim (α := Fin 1) _ _
  rfl

theorem pairs_col (r : IVec S64 32) (k : IVec S_ 32) (b : Fin 64) (hk : (k ValueIdx.ix0).toNat < 2147483648) : pairs r k (ValueIdx.ix2 b 1) = k ValueIdx.ix0 := by
  unfold pairs
  refine (concatenate_pair_apply_right (t := S64x2) (s₁ := S64x1) (s₂ := S64x1) 1 _ _ _ (ValueIdx.ix2 b 1) rfl rfl (ValueIdx.ix2 b 0) (fun a ha => ?_) rfl).trans ?_
  · fin_cases a
    · rfl
    · exact absurd rfl ha
  refine Eq.trans ?_ (wrap_self (k ValueIdx.ix0) 32#32 hk)
  exact congrArg (select (cmpi .slt k (constantI S_ 32 0#32)) (addi k (constantI S_ 32 32#32)) k) (funext fun a => a.elim0)

/-- What the reference computes from the columns it picked. -/
def joined (l r : FVec Ideal S1048576x32 .f32) (rl rr : IVec S64 32) (k : IVec S_ 32) (p : IVec S64 1) : FVec Ideal S2097152x32 .f32 :=
  concatenate S2097152x32 0 [⟨S1048576x32, Host.scatterAdd scatter_S1048576x32_S64x2_S64_n_01_01_1 l (pairs rl k) (uitofp .f32 p)⟩,
    ⟨S1048576x32, Host.scatterAdd scatter_S1048576x32_S64x2_S64_n_01_01_1 r (pairs rr k) (uitofp .f32 (noti p))⟩] concatenates_S1048576x32_S1048576x32_S2097152x32_d0

/-- One at each batch row's row for its column, in the named column; zero elsewhere. -/
def hot (d : BitVec 32) (cs : Fin 64 → BitVec 32) (y : S2097152x32.Idx) : EReal :=
  if (y 1).val = d.toNat ∧ (y 0).val = (rowWord ((y 0).val / 16384 % 64) (cs ⟨(y 0).val / 16384 % 64, Nat.mod_lt _ (by decide)⟩)).toNat then 1 else 0

theorem joined_eq (l r : FVec Ideal S1048576x32 .f32) (rl rr : IVec S64 32) (k : IVec S_ 32) (p : IVec S64 1) (cs : Fin 64 → BitVec 32)
    (hl : ∀ y, l y = (0 : EReal)) (hr : ∀ y, r y = (0 : EReal)) (hk : (k ValueIdx.ix0).toNat < 32) (hc : ∀ b, (cs b).toNat < 32768)
    (hrl : ∀ b : Fin 64, (rl (ValueIdx.ix1 b)).toNat = b.val * 16384 + min 16383 (cs b).toNat)
    (hrr : ∀ b : Fin 64, (rr (ValueIdx.ix1 b)).toNat = b.val * 16384 + min 16383 ((cs b).toNat - 16384))
    (hp : ∀ b : Fin 64, p (ValueIdx.ix1 b) = if (cs b).toNat < 16384 then 1#1 else 0#1) :
    joined l r rl rr k p = hot (k ValueIdx.ix0) cs := by
  funext y
  have hy : (y 0).val < 2097152 := (y 0).isLt
  unfold joined hot
  have hcol : ∀ (w : IVec S64 32) (b : Fin 64), (pairs w k (ValueIdx.ix2 b 1)).toNat = (k ValueIdx.ix0).toNat := fun w b => by rw [pairs_col _ _ _ (by omega)]
  by_cases h : (y 0).val < 1048576
  · have hb : (y 0).val / 16384 < 64 := by omega
    refine (concatenate_pair_apply_left (t := S2097152x32) (s₁ := S1048576x32) (s₂ := S1048576x32) 0 _ _ _ y rfl (ValueIdx.ix2 ⟨(y 0).val, h⟩ (y 1)) (fun a => by fin_cases a <;> rfl)).trans ?_
    refine (scatter_hot (pairs rl k) l (uitofp .f32 p) (fun b => b.val * 16384 + min 16383 (cs b).toNat) (k ValueIdx.ix0).toNat
      (fun b => by rw [pairs_row _ _ _ (by rw [hrl]; have := b.isLt; omega), hrl]) (fun b => by show (b.val * 16384 + min 16383 (cs b).toNat) / 16384 = b.val; omega) (hcol rl) hk _ (hl _) ⟨(y 0).val / 16384, hb⟩ rfl).trans ?_
    have eb : (⟨(y 0).val / 16384 % 64, Nat.mod_lt _ (by decide)⟩ : Fin 64) = ⟨(y 0).val / 16384, hb⟩ := Fin.ext (Nat.mod_eq_of_lt hb)
    rw [eb, rowWord_toNat _ (Nat.mod_lt _ (by decide)) _ (hc _), Nat.mod_eq_of_lt hb]
    show (if (y 1).val = _ ∧ (y 0).val = (y 0).val / 16384 * 16384 + min 16383 (cs ⟨(y 0).val / 16384, hb⟩).toNat then ((((p (ValueIdx.ix1 ⟨(y 0).val / 16384, hb⟩)).toNat : ℝ)) : EReal) else 0) = _
    rw [hp]
    generalize (cs ⟨(y 0).val / 16384, hb⟩).toNat = n
    by_cases hn : n < 16384
    · rw [if_pos hn, if_pos hn]
      have : min 16383 n = n := by omega
      rw [this]
      refine if_congr Iff.rfl ?_ rfl
      simp
    · rw [if_neg hn, if_neg hn, if_neg (by omega : ¬ ((y 1).val = (k ValueIdx.ix0).toNat ∧ (y 0).val = (64 + (y 0).val / 16384) * 16384 + (n - 16384)))]
      simp
  · obtain ⟨q, hq⟩ : ∃ q : Fin 1048576, (y 0).val = q.val + 1048576 := ⟨⟨(y 0).val - 1048576, by omega⟩, by show (y 0).val = (y 0).val - 1048576 + 1048576; omega⟩
    have hqlt := q.isLt
    have hb : q.val / 16384 < 64 := by omega
    refine (concatenate_pair_apply_right (t := S2097152x32) (s₁ := S1048576x32) (s₂ := S1048576x32) 0 _ _ _ y rfl rfl (ValueIdx.ix2 q (y 1)) (fun a ha => ?_) ?_).trans ?_
    · fin_cases a
      · exact absurd rfl ha
      · rfl
    · exact hq.symm
    refine (scatter_hot (pairs rr k) r (uitofp .f32 (noti p)) (fun b => b.val * 16384 + min 16383 ((cs b).toNat - 16384)) (k ValueIdx.ix0).toNat
      (fun b => by rw [pairs_row _ _ _ (by rw [hrr]; have := b.isLt; omega), hrr]) (fun b => by show (b.val * 16384 + min 16383 ((cs b).toNat - 16384)) / 16384 = b.val; omega) (hcol rr) hk _ (hr _) ⟨q.val / 16384, hb⟩ rfl).trans ?_
    have ev : (y 0).val / 16384 % 64 = q.val / 16384 := by omega
    have eb : (⟨(y 0).val / 16384 % 64, Nat.mod_lt _ (by decide)⟩ : Fin 64) = ⟨q.val / 16384, hb⟩ := Fin.ext ev
    rw [eb, rowWord_toNat _ (Nat.mod_lt _ (by decide)) _ (hc _), ev, hq]
    have hcb := hc ⟨q.val / 16384, hb⟩
    show (if (y 1).val = _ ∧ q.val = q.val / 16384 * 16384 + min 16383 ((cs ⟨q.val / 16384, hb⟩).toNat - 16384) then ((((~~~(p (ValueIdx.ix1 ⟨q.val / 16384, hb⟩))).toNat : ℝ)) : EReal) else 0) = _
    rw [hp]
    revert hcb
    generalize (cs ⟨q.val / 16384, hb⟩).toNat = n
    intro hcb
    by_cases hn : n < 16384
    · rw [if_pos hn, if_pos hn, if_neg (by omega : ¬ ((y 1).val = (k ValueIdx.ix0).toNat ∧ q.val + 1048576 = q.val / 16384 * 16384 + n))]
      simp
    · rw [if_neg hn, if_neg hn]
      refine if_congr ?_ ?_ rfl
      · omega
      · simp

end Cert.ReferenceIdeal.Value
-- ==== Proof.Equal.lean ====
/-
  The two programs give the same result: the reference picks, in each batch row, the column the kernel picks, and both
  leave a one at that column's row in the named column and zero elsewhere.
-/
module

public import proofs.«01_k».proof.Proof.Frames
public import proofs.«01_k».proof.Proof.RefHot

@[expose] public section

noncomputable section

namespace Cert.Equal

open Idealize.ShloMosaic Idealize.ShloMosaic.TcCoe Idealize.SL.Sem
open Cert.Words Cert.Pick Cert.Values
open Cert.KernelIdeal.Scatter (named colOf colOf_spec rowVals oneHot)

section Reference

open Cert.ReferenceIdeal Cert.ReferenceIdeal.Gen Cert.ReferenceIdeal.Value

variable (V : Valuation τ sig (Elt Ideal))

/-- The column the reference picks in batch row `b`. -/
def refCol (b : Fin 64) : BitVec 32 := (res_main_v10 V : IVec S64 32) (ValueIdx.ix1 b)

/-- It is the first of the greatest of that batch row's values. -/
theorem refCol_spec (hV : ∀ y, Held ((V (Proc.devRef .tc main_arg0) : FVec Ideal S64x32768 .f32) y)) (b : Fin 64) :
    IsPick (fun n => clip ((V (Proc.devRef .tc main_arg0) : FVec Ideal S64x32768 .f32) (ValueIdx.ix2 b n)) + noise (bits (BitVec.ofNat 32 (b.val * 32768 + n.val)))) (refCol V b) := by
  have h := argmax_spec (res_main_v9 V : FVec Ideal S64x32768 .f32) b h_S_
  have e : (fun n => (res_main_v9 V : FVec Ideal S64x32768 .f32) (at64 b n)) =
      fun n => clip ((V (Proc.devRef .tc main_arg0) : FVec Ideal S64x32768 .f32) (ValueIdx.ix2 b n)) + noise (bits (BitVec.ofNat 32 (b.val * 32768 + n.val))) :=
    funext fun n => vals_eq V (at64 b n) (hV _)
  rw [e] at h
  exact h

/-- The rows the left half's scatter takes. -/
theorem left_rows (hc : ∀ b, (refCol V b).toNat < 32768) (b : Fin 64) :
    ((res_main_v17 V : IVec S64 32) (ValueIdx.ix1 b)).toNat = b.val * 16384 + min 16383 (refCol V b).toNat :=
  block_row b.val b.isLt (refCol V b) _ (maxsi_nat _ (hc b)) (hc b)

/-- The rows the right half's scatter takes. -/
theorem right_rows (hc : ∀ b, (refCol V b).toNat < 32768) (b : Fin 64) :
    ((res_main_v24 V : IVec S64 32) (ValueIdx.ix1 b)).toNat = b.val * 16384 + min 16383 ((refCol V b).toNat - 16384) :=
  block_row b.val b.isLt (IntOp.subi (refCol V b) 16384#32) _ (maxsi_sub _ (hc b)) (by have := hc b; omega)

/-- Which half each row's column lies in. -/
theorem halves (hc : ∀ b, (refCol V b).toNat < 32768) (b : Fin 64) :
    (res_main_v12 V : IVec S64 1) (ValueIdx.ix1 b) = if (refCol V b).toNat < 16384 then 1#1 else 0#1 :=
  Cert.KernelIdeal.Scatter.slt_half (refCol V b) (hc b)

end Reference

/-- Equal logits give equal columns, and so equal results. -/
theorem algebraic : Cert.algebraic_KernelIdeal_ReferenceIdeal_pre_zero_latents := by
  intro m g m' g' hpre hargs
  refine ⟨fun c => oneHot m c, ?_, ?_⟩
  · exact (θ_run _ _ _).mono (fun r h c => ⟨((h.1 c).2.2.2.2).trans (Cert.KernelIdeal.Scatter.result_eq m c), (h.1 c).1, (h.1 c).2.1, (h.1 c).2.2.1, (h.1 c).2.2.2.1⟩)
      (Cert.KernelIdeal.Scatter.run_named m g (Cert.KernelIdeal.Scatter.named_lt m hpre))
  · refine (θ_run _ _ _).mono (fun r h c => ⟨(h c).1.trans ?_, (h c).2⟩) (Cert.ReferenceIdeal.Value.run m' g')
    obtain ⟨a0, a1, a2, a3⟩ := hargs c
    let V := StableHlo.launchContents m' c
    have hV : ∀ y, Held ((V (Proc.devRef .tc Cert.ReferenceIdeal.main_arg0) : FVec Ideal Cert.ReferenceIdeal.S64x32768 .f32) y) := fun y => by
      show Held ((m' ((c : Thread Cert.ReferenceIdeal.nD Cert.ReferenceIdeal.τ).loc Cert.ReferenceIdeal.main_arg0) : FVec Ideal Cert.ReferenceIdeal.S64x32768 .f32) y)
      rw [a0]; exact Cert.KernelIdeal.Scatter.logits_held m hpre c y
    have hspec := refCol_spec V hV
    have hcol : ∀ b : Fin 64, refCol V b = colOf m c b.val b.isLt := fun b => by
      refine (hspec b).unique ?_
      have e : rowVals m c b.val b.isLt = fun n => clip ((V (Proc.devRef .tc Cert.ReferenceIdeal.main_arg0) : FVec Ideal Cert.ReferenceIdeal.S64x32768 .f32) (ValueIdx.ix2 b n)) + noise (bits (BitVec.ofNat 32 (b.val * 32768 + n.val))) := by
        funext n
        unfold rowVals
        show _ = clip ((m' ((c : Thread Cert.ReferenceIdeal.nD Cert.ReferenceIdeal.τ).loc Cert.ReferenceIdeal.main_arg0) : FVec Ideal Cert.ReferenceIdeal.S64x32768 .f32) (ValueIdx.ix2 b n)) + _
        rw [a0]
      rw [← e]
      exact colOf_spec m c b.val b.isLt
    have hc : ∀ b, (refCol V b).toNat < 32768 := fun b => (hspec b).lt
    have hk : (V (Proc.devRef .tc Cert.ReferenceIdeal.main_arg3) : IVec Cert.ReferenceIdeal.S_ 32) ValueIdx.ix0 = named m c := congrFun a3 ValueIdx.ix0
    refine (Cert.ReferenceIdeal.Value.joined_eq (V (Proc.devRef .tc Cert.ReferenceIdeal.main_arg1)) (V (Proc.devRef .tc Cert.ReferenceIdeal.main_arg2)) (Cert.ReferenceIdeal.Value.res_main_v17 V) (Cert.ReferenceIdeal.Value.res_main_v24 V)
      (V (Proc.devRef .tc Cert.ReferenceIdeal.main_arg3)) (Cert.ReferenceIdeal.Value.res_main_v12 V) (refCol V)
      (fun y => (congrFun a1 y).trans (Cert.KernelIdeal.Scatter.left_zero m hpre c y)) (fun y => (congrFun a2 y).trans (Cert.KernelIdeal.Scatter.right_zero m hpre c y))
      (by rw [hk]; exact Cert.KernelIdeal.Scatter.named_lt m hpre c) hc (left_rows V hc) (right_rows V hc) (halves V hc)).trans ?_
    funext y
    unfold Cert.ReferenceIdeal.Value.hot oneHot
    rw [hk, hcol]

end Cert.Equal
-- ==== Proof.lean ====
/-
  The certificate's claim: the kernel and the reference each run to their end with their arguments unchanged and every
  counter at zero, over the extended reals, the first region alone does so over the machine's floats too, and the two
  programs' results are equal over the extended reals.
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Sample
public import proofs.«01_k».proof.Proof.Gen.Sample.Skeleton
public import proofs.«01_k».proof.Proof.Gen.Sample.Launch
public import proofs.«01_k».proof.Proof.Gen.Sample.Points
public import proofs.«01_k».proof.Proof.Gen.Sample.Frame
public import proofs.«01_k».proof.Proof.Gen.SampleIdeal
public import proofs.«01_k».proof.Proof.Gen.SampleIdeal.Skeleton
public import proofs.«01_k».proof.Proof.Gen.SampleIdeal.Launch
public import proofs.«01_k».proof.Proof.Gen.SampleIdeal.Points
public import proofs.«01_k».proof.Proof.Gen.SampleIdeal.Frame
public import proofs.«01_k».proof.Proof.Gen.Pre_names_column
public import proofs.«01_k».proof.Proof.Gen.Pre_zero_latents
public import proofs.«01_k».proof.Proof.Equal

@[expose] public section

noncomputable section

namespace Cert.Proof

open Idealize.ShloMosaic

/-- Every claim of the certificate. -/
theorem claim : Cert.Claim := ⟨Cert.KernelIdeal.Gen.facts, Cert.ReferenceIdeal.Gen.facts, Cert.Sample.Gen.facts, Cert.SampleIdeal.Gen.facts, Cert.Pre_names_column.Gen.facts, Cert.Pre_zero_latents.Gen.facts,
  Cert.KernelIdeal.Scatter.frame_column, Cert.KernelIdeal.Scatter.frame_latents, fun m ρ _ => Cert.ReferenceIdeal.Value.quiescent m ρ,
  fun m ρ _ => Cert.ReferenceIdeal.Value.quiescent m ρ, fun m ρ _ => Cert.Sample.Gen.frame m ρ,
  fun m ρ _ => Cert.SampleIdeal.Gen.frame m ρ, Cert.Equal.algebraic, trivial⟩

end Cert.Proof

end
